-- ==== Defs.lean ====
def Pre_Kernel [hPre_valid : Cert.Pre_valid.Facts] (m : (ℓ : Loc Cert.Kernel.nD Cert.Kernel.τ Cert.Kernel.sig) → Buf (Elt Bits) ℓ) : Prop :=
  ∀ c : Dev Cert.Kernel.nD,
    (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_valid : Cert.Pre_valid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel) (hPre_valid := hPre_valid)
    ∧ quiescent_KernelIdeal (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal (hKernelIdeal := hKernelIdeal) (hReferenceIdeal := hReferenceIdeal) (hPre_valid := hPre_valid)
-- ==== Pre_valid.lean ====
abbrev S32768x1408 : Shape := ⟨2, ![32768, 1408]⟩
abbrev S64 : Shape := ⟨1, ![64]⟩
abbrev S64x2816x1408 : Shape := ⟨3, ![64, 2816, 1408]⟩
abbrev S64x2816x44 : Shape := ⟨3, ![64, 2816, 44]⟩
abbrev S_ : Shape := ⟨0, ![]⟩

class Facts : Prop where
  bitsLt_bf16_f32 : FTy.bits .bf16 < FTy.bits .f32
  bcast_S_S32768x1408 : S_.BroadcastsInDim S32768x1408 (![] : Fin 0 → Fin S32768x1408.rank)
  reducesTo_S32768x1408_S_d0_1 : S32768x1408.ReducesTo [0, 1] S_
  h_S_ : 0 < S_.numel
  bcast_S_S64 : S_.BroadcastsInDim S64 (![] : Fin 0 → Fin S64.rank)
  reducesTo_S64_S_d0 : S64.ReducesTo [0] S_
  bcast_S_S64x2816x44 : S_.BroadcastsInDim S64x2816x44 (![] : Fin 0 → Fin S64x2816x44.rank)
  reducesTo_S64x2816x44_S_d0_1_2 : S64x2816x44.ReducesTo [0, 1, 2] S_

variable [Facts]

def fn_part1 {F : FTy → Type} [FloatOps F] (main_arg3 : IVec S64x2816x44 8) (main_v15 : IVec S_ 1) : IVec S_ 1 :=
  let main_c_6 : IVec S_ 8 := constantI S_ 8 1#8
  let main_v16 : IVec S64x2816x44 8 := broadcastInDim S64x2816x44 ![] bcast_S_S64x2816x44 main_c_6
  let main_v17 : IVec S64x2816x44 1 := cmpi .uge main_arg3 main_v16
  let main_c_7 : IVec S_ 1 := constantI S_ 1 1#1
  let main_v18 : IVec S_ 1 := (fun x v => Host.reduce IntOp.andi x v reducesTo_S64x2816x44_S_d0_1_2 h_S_) main_v17 main_c_7
  let main_v19 : IVec S_ 1 := andi main_v15 main_v18
  let main_c_8 : IVec S_ 8 := constantI S_ 8 254#8
  let main_v20 : IVec S64x2816x44 8 := broadcastInDim S64x2816x44 ![] bcast_S_S64x2816x44 main_c_8
  let main_v21 : IVec S64x2816x44 1 := cmpi .ule main_arg3 main_v20
  let main_c_9 : IVec S_ 1 := constantI S_ 1 1#1
  let main_v22 : IVec S_ 1 := (fun x v => Host.reduce IntOp.andi x v reducesTo_S64x2816x44_S_d0_1_2 h_S_) main_v21 main_c_9
  let main_v23 : IVec S_ 1 := andi main_v19 main_v22
  main_v23

def fn {F : FTy → Type} [FloatOps F] (main_arg0 : FVec F S32768x1408 .bf16) (main_arg1 : IVec S64 32) (main_arg2 : FVec F S64x2816x1408 .fp8e4m3) (main_arg3 : IVec S64x2816x44 8) : IVec S_ 1 :=
  let main_v0 : FVec F S32768x1408 .f32 := (extf .f32 · bitsLt_bf16_f32) main_arg0
  let main_v1 : FVec F S32768x1408 .f32 := Host.absf main_v0
  let main_cst : FVec F S_ .f32 := constant S_ .f32 0x7F7F0000#32
  let main_v2 : FVec F S32768x1408 .f32 := broadcastInDim S32768x1408 ![] bcast_S_S32768x1408 main_cst
  let main_v3 : IVec S32768x1408 1 := cmpf .ole main_v1 main_v2
  let main_c : IVec S_ 1 := constantI S_ 1 1#1
  let main_v4 : IVec S_ 1 := (fun x v => Host.reduce IntOp.andi x v reducesTo_S32768x1408_S_d0_1 h_S_) main_v3 main_c
  let main_c_0 : IVec S_ 32 := constantI S_ 32 0#32
  let main_v5 : IVec S64 32 := broadcastInDim S64 ![] bcast_S_S64 main_c_0
  let main_v6 : IVec S64 1 := cmpi .sge main_arg1 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v4 main_v7
  let main_c_2 : IVec S_ 32 := constantI S_ 32 32768#32
  let main_v9 : IVec S64 32 := broadcastInDim S64 ![] bcast_S_S64 main_c_2
  let main_v10 : IVec S64 1 := cmpi .sle main_arg1 main_v9
  let main_c_3 : IVec S_ 1 := constantI S_ 1 1#1
  let main_v11 : IVec S_ 1 := (fun x v => Host.reduce IntOp.andi x v reducesTo_S64_S_d0 h_S_) main_v10 main_c_3
  let main_v12 : IVec S_ 1 := andi main_v8 main_v11
  let main_c_4 : IVec S_ 32 := constantI S_ 32 0#32
  let main_v13 : IVec S_ 32 := (fun x v => Host.reduce IntOp.addi x v reducesTo_S64_S_d0 h_S_) main_arg1 main_c_4
  let main_c_5 : IVec S_ 32 := constantI S_ 32 32768#32
  let main_v14 : IVec S_ 1 := cmpi .eq main_v13 main_c_5
  let main_v15 : IVec S_ 1 := andi main_v12 main_v14
  fn_part1 (F := F) main_arg3 main_v15
-- ==== Kernel.lean ====
abbrev S32768x1408 : Shape := ⟨2, ![32768, 1408]⟩
abbrev S64 : Shape := ⟨1, ![64]⟩
abbrev S64x2816x1408 : Shape := ⟨3, ![64, 2816, 1408]⟩
abbrev S64x2816x44 : Shape := ⟨3, ![64, 2816, 44]⟩
abbrev S_ : Shape := ⟨0, ![]⟩
abbrev S191 : Shape := ⟨1, ![191]⟩
abbrev S1 : Shape := ⟨1, ![1]⟩
abbrev S1x191 : Shape := ⟨2, ![1, 191]⟩
abbrev S64x1 : Shape := ⟨2, ![64, 1]⟩
abbrev S64x191 : Shape := ⟨2, ![64, 191]⟩
abbrev S191x1 : Shape := ⟨2, ![191, 1]⟩
abbrev S32768x2816 : Shape := ⟨2, ![32768, 2816]⟩
abbrev S256x1408 : Shape := ⟨2, ![256, 1408]⟩
abbrev S1x2816x1408 : Shape := ⟨3, ![1, 2816, 1408]⟩
abbrev S1x2816x44 : Shape := ⟨3, ![1, 2816, 44]⟩
abbrev S256x2816 : Shape := ⟨2, ![256, 2816]⟩
abbrev S1408x2816 : Shape := ⟨2, ![1408, 2816]⟩
abbrev S44x256 : Shape := ⟨2, ![44, 256]⟩
abbrev S16x128 : Shape := ⟨2, ![16, 128]⟩
abbrev S8x128 : Shape := ⟨2, ![8, 128]⟩
abbrev S16x128x1 : Shape := ⟨3, ![16, 128, 1]⟩
abbrev S8x128x1 : Shape := ⟨3, ![8, 128, 1]⟩
abbrev S1x256x44 : Shape := ⟨3, ![1, 256, 44]⟩
abbrev S256x44 : Shape := ⟨2, ![256, 44]⟩
abbrev S1x256x128 : Shape := ⟨3, ![1, 256, 128]⟩
abbrev S256x128 : Shape := ⟨2, ![256, 128]⟩
abbrev S128x256 : Shape := ⟨2, ![128, 256]⟩
abbrev S1x256 : Shape := ⟨2, ![1, 256]⟩
abbrev S16x256 : Shape := ⟨2, ![16, 256]⟩
abbrev S32x256 : Shape := ⟨2, ![32, 256]⟩
abbrev S256x1 : Shape := ⟨2, ![256, 1]⟩
abbrev S1408x256 : Shape := ⟨2, ![1408, 256]⟩
abbrev S256x256 : Shape := ⟨2, ![256, 256]⟩

abbrev nBuf : Space → Nat
  | .hbm => 125
  | .vmem => 11
  | .smem => 5
  | _ => 0

abbrev bufTy : (tb : Table) → Fin (tcTables nBuf tb) → BufTy
  | .hbm, ⟨0, _⟩ => ⟨S32768x1408, .bf16⟩
  | .hbm, ⟨1, _⟩ => ⟨S64, .i32⟩
  | .hbm, ⟨2, _⟩ => ⟨S64x2816x1408, .fp8e4m3⟩
  | .hbm, ⟨3, _⟩ => ⟨S64x2816x44, .i8⟩
  | .hbm, ⟨4, _⟩ => ⟨S_, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S64, .i1⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S_, .i32⟩
  | .hbm, ⟨51, _⟩ => ⟨S64, .i32⟩
  | .hbm, ⟨52, _⟩ => ⟨S64, .i32⟩
  | .hbm, ⟨53, _⟩ => ⟨S64, .i32⟩
  | .hbm, ⟨54, _⟩ => ⟨S64, .i32⟩
  | .hbm, ⟨55, _⟩ => ⟨S_, .i32⟩
  | .hbm, ⟨56, _⟩ => ⟨S64, .i32⟩
  | .hbm, ⟨57, _⟩ => ⟨S64, .i32⟩
  | .hbm, ⟨58, _⟩ => ⟨S_, .i32⟩
  | .hbm, ⟨59, _⟩ => ⟨S_, .i32⟩
  | .hbm, ⟨60, _⟩ => ⟨S64, .i32⟩
  | .hbm, ⟨61, _⟩ => ⟨S191, .i32⟩
  | .hbm, ⟨62, _⟩ => ⟨S1, .i32⟩
  | .hbm, ⟨63, _⟩ => ⟨S_, .i32⟩
  | .hbm, ⟨64, _⟩ => ⟨S191, .i32⟩
  | .hbm, ⟨65, _⟩ => ⟨S191, .i1⟩
  | .hbm, ⟨66, _⟩ => ⟨S1, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S191, .i32⟩
  | .hbm, ⟨71, _⟩ => ⟨S191, .i32⟩
  | .hbm, ⟨72, _⟩ => ⟨S1x191, .i32⟩
  | .hbm, ⟨73, _⟩ => ⟨S64x1, .i32⟩
  | .hbm, ⟨74, _⟩ => ⟨S64x191, .i32⟩
  | .hbm, ⟨75, _⟩ => ⟨S64x191, .i32⟩
  | .hbm, ⟨76, _⟩ => ⟨S64x191, .i1⟩
  | .hbm, ⟨77, _⟩ => ⟨S64x191, .i32⟩
  | .hbm, ⟨78, _⟩ => ⟨S_, .i32⟩
  | .hbm, ⟨79, _⟩ => ⟨S_, .i32⟩
  | .hbm, ⟨80, _⟩ => ⟨S191, .i32⟩
  | .hbm, ⟨81, _⟩ => ⟨S191, .i1⟩
  | .hbm, ⟨82, _⟩ => ⟨S_, .i32⟩
  | .hbm, ⟨83, _⟩ => ⟨S191, .i32⟩
  | .hbm, ⟨84, _⟩ => ⟨S191, .i32⟩
  | .hbm, ⟨85, _⟩ => ⟨S191, .i32⟩
  | .hbm, ⟨86, _⟩ => ⟨S191x1, .i32⟩
  | .hbm, ⟨87, _⟩ => ⟨S191, .i32⟩
  | .hbm, ⟨88, _⟩ => ⟨S191, .i32⟩
  | .hbm, ⟨89, _⟩ => ⟨S_, .i32⟩
  | .hbm, ⟨90, _⟩ => ⟨S191, .i32⟩
  | .hbm, ⟨91, _⟩ => ⟨S191, .i1⟩
  | .hbm, ⟨92, _⟩ => ⟨S_, .i32⟩
  | .hbm, ⟨93, _⟩ => ⟨S191, .i32⟩
  | .hbm, ⟨94, _⟩ => ⟨S191, .i32⟩
  | .hbm, ⟨95, _⟩ => ⟨S191, .i32⟩
  | .hbm, ⟨96, _⟩ => ⟨S191x1, .i32⟩
  | .hbm, ⟨97, _⟩ => ⟨S191, .i32⟩
  | .hbm, ⟨98, _⟩ => ⟨S_, .i32⟩
  | .hbm, ⟨99, _⟩ => ⟨S191, .i32⟩
  | .hbm, ⟨100, _⟩ => ⟨S191, .i1⟩
  | .hbm, ⟨101, _⟩ => ⟨S_, .i32⟩
  | .hbm, ⟨102, _⟩ => ⟨S191, .i32⟩
  | .hbm, ⟨103, _⟩ => ⟨S191, .i32⟩
  | .hbm, ⟨104, _⟩ => ⟨S191, .i32⟩
  | .hbm, ⟨105, _⟩ => ⟨S191x1, .i32⟩
  | .hbm, ⟨106, _⟩ => ⟨S191, .i32⟩
  | .hbm, ⟨107, _⟩ => ⟨S191, .i32⟩
  | .hbm, ⟨108, _⟩ => ⟨S_, .i32⟩
  | .hbm, ⟨109, _⟩ => ⟨S191, .i32⟩
  | .hbm, ⟨110, _⟩ => ⟨S191, .i1⟩
  | .hbm, ⟨111, _⟩ => ⟨S_, .i32⟩
  | .hbm, ⟨112, _⟩ => ⟨S191, .i32⟩
  | .hbm, ⟨113, _⟩ => ⟨S191, .i32⟩
  | .hbm, ⟨114, _⟩ => ⟨S191, .i32⟩
  | .hbm, ⟨115, _⟩ => ⟨S191x1, .i32⟩
  | .hbm, ⟨116, _⟩ => ⟨S_, .i32⟩
  | .hbm, ⟨117, _⟩ => ⟨S191, .i32⟩
  | .hbm, ⟨118, _⟩ => ⟨S191, .i1⟩
  | .hbm, ⟨119, _⟩ => ⟨S_, .i32⟩
  | .hbm, ⟨120, _⟩ => ⟨S191, .i32⟩
  | .hbm, ⟨121, _⟩ => ⟨S191, .i32⟩
  | .hbm, ⟨122, _⟩ => ⟨S191, .i32⟩
  | .hbm, ⟨123, _⟩ => ⟨S191x1, .i32⟩
  | .hbm, ⟨124, _⟩ => ⟨S32768x2816, .bf16⟩
  | .local _ .vmem, ⟨0, _⟩ => ⟨S256x1408, .bf16⟩
  | .local _ .vmem, ⟨1, _⟩ => ⟨S256x1408, .bf16⟩
  | .local _ .vmem, ⟨2, _⟩ => ⟨S1x2816x1408, .fp8e4m3⟩
  | .local _ .vmem, ⟨3, _⟩ => ⟨S1x2816x1408, .fp8e4m3⟩
  | .local _ .vmem, ⟨4, _⟩ => ⟨S1x2816x44, .i8⟩
  | .local _ .vmem, ⟨5, _⟩ => ⟨S1x2816x44, .i8⟩
  | .local _ .vmem, ⟨6, _⟩ => ⟨S256x2816, .bf16⟩
  | .local _ .vmem, ⟨7, _⟩ => ⟨S256x2816, .bf16⟩
  | .local _ .vmem, ⟨8, _⟩ => ⟨S256x1408, .bf16⟩
  | .local _ .vmem, ⟨9, _⟩ => ⟨S1408x2816, .bf16⟩
  | .local _ .vmem, ⟨10, _⟩ => ⟨S44x256, .i32⟩
  | .local _ .smem, ⟨0, _⟩ => ⟨S191, .i32⟩
  | .local _ .smem, ⟨1, _⟩ => ⟨S191, .i32⟩
  | .local _ .smem, ⟨2, _⟩ => ⟨S191, .i32⟩
  | .local _ .smem, ⟨3, _⟩ => ⟨S191, .i32⟩
  | .local _ .smem, ⟨4, _⟩ => ⟨S191, .i32⟩
  | _, _ => ⟨S32768x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_c_3 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_c_4 : Ref sig .tc := ⟨.hbm, 55, rfl⟩
abbrev main_v12 : Ref sig .tc := ⟨.hbm, 56, rfl⟩
abbrev main_v13 : Ref sig .tc := ⟨.hbm, 57, rfl⟩
abbrev main_call4_call0_c : Ref sig .tc := ⟨.hbm, 58, rfl⟩
abbrev main_call4_call0_v0 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_c_5 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_call5_call0_v0 : Ref sig .tc := ⟨.hbm, 72, rfl⟩
abbrev main_call5_call0_v1 : Ref sig .tc := ⟨.hbm, 73, rfl⟩
abbrev main_call5_call0_v2 : Ref sig .tc := ⟨.hbm, 74, rfl⟩
abbrev main_call5_call0_v3 : Ref sig .tc := ⟨.hbm, 75, rfl⟩
abbrev main_call5_call0_v4 : Ref sig .tc := ⟨.hbm, 76, rfl⟩
abbrev main_call5_call0_v5 : Ref sig .tc := ⟨.hbm, 77, rfl⟩
abbrev main_call5_call0_c : Ref sig .tc := ⟨.hbm, 78, rfl⟩
abbrev main_c_6 : Ref sig .tc := ⟨.hbm, 79, rfl⟩
abbrev main_v26 : Ref sig .tc := ⟨.hbm, 80, rfl⟩
abbrev main_v27 : Ref sig .tc := ⟨.hbm, 81, rfl⟩
abbrev main_c_7 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_c_8 : Ref sig .tc := ⟨.hbm, 89, rfl⟩
abbrev main_v34 : Ref sig .tc := ⟨.hbm, 90, rfl⟩
abbrev main_v35 : Ref sig .tc := ⟨.hbm, 91, rfl⟩
abbrev main_c_9 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_c_10 : Ref sig .tc := ⟨.hbm, 98, rfl⟩
abbrev main_v41 : Ref sig .tc := ⟨.hbm, 99, rfl⟩
abbrev main_v42 : Ref sig .tc := ⟨.hbm, 100, rfl⟩
abbrev main_c_11 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_c_12 : Ref sig .tc := ⟨.hbm, 108, rfl⟩
abbrev main_v50 : Ref sig .tc := ⟨.hbm, 109, rfl⟩
abbrev main_v51 : Ref sig .tc := ⟨.hbm, 110, rfl⟩
abbrev main_c_13 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_c_14 : Ref sig .tc := ⟨.hbm, 116, rfl⟩
abbrev main_v57 : Ref sig .tc := ⟨.hbm, 117, rfl⟩
abbrev main_v58 : Ref sig .tc := ⟨.hbm, 118, rfl⟩
abbrev main_c_15 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v65 : Ref sig .tc := ⟨.hbm, 124, rfl⟩
abbrev main_v25 : Ref sig .tc := ⟨.smem, 0, rfl⟩
abbrev main_v49 : Ref sig .tc := ⟨.smem, 1, rfl⟩
abbrev main_v56 : Ref sig .tc := ⟨.smem, 2, rfl⟩
abbrev main_v63 : Ref sig .tc := ⟨.smem, 3, rfl⟩
abbrev main_v64 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![191], ![false]⟩

abbrev pre0 : Pipeline.Prefetch sig := ⟨5, ![main_v25.idx, main_v49.idx, main_v56.idx, main_v63.idx, main_v64.idx], fun | 0 => main_v25.names | 1 => main_v49.names | 2 => main_v56.names | 3 => main_v63.names | 4 => main_v64.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v5 : Index := Scalar.indexCast v3
  ![v5.toNat]
@[reducible] def k0_t1_loop : Scf.Loop 32 :=
  let c0_i32_6 : BitVec 32 := 0#32
  let c16_i32 : BitVec 32 := 16#32
  let v25 : BitVec 32 := Scalar.addi c0_i32_6 c16_i32
  let c1_i32_7 : BitVec 32 := 1#32
  ⟨c0_i32_6, v25, c1_i32_7⟩
def k0_mult1 (k0_t1 : Fin k0_t1_loop.trips) : BitVec 32 :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  v26
def k0_off3 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  let v27 : BitVec 32 := v26
  let v28 : Index := Scalar.indexCast v27
  let c0 : Index := 0#32
  ![v28.toNat, 0]
def k0_off4 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  let v27 : BitVec 32 := v26
  let v30 : Index := Scalar.indexCast v27
  let c128 : Index := 128#32
  ![v30.toNat, 128]
def k0_off5 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  let v27 : BitVec 32 := v26
  let v32 : Index := Scalar.indexCast v27
  let c256 : Index := 256#32
  ![v32.toNat, 256]
def k0_off6 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  let v27 : BitVec 32 := v26
  let v34 : Index := Scalar.indexCast v27
  let c384 : Index := 384#32
  ![v34.toNat, 384]
def k0_off7 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  let v27 : BitVec 32 := v26
  let v36 : Index := Scalar.indexCast v27
  let c512 : Index := 512#32
  ![v36.toNat, 512]
def k0_off8 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  let v27 : BitVec 32 := v26
  let v38 : Index := Scalar.indexCast v27
  let c640 : Index := 640#32
  ![v38.toNat, 640]
def k0_off9 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  let v27 : BitVec 32 := v26
  let v40 : Index := Scalar.indexCast v27
  let c768 : Index := 768#32
  ![v40.toNat, 768]
def k0_off10 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  let v27 : BitVec 32 := v26
  let v42 : Index := Scalar.indexCast v27
  let c896 : Index := 896#32
  ![v42.toNat, 896]
def k0_off11 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  let v27 : BitVec 32 := v26
  let v44 : Index := Scalar.indexCast v27
  let c1024 : Index := 1024#32
  ![v44.toNat, 1024]
def k0_off12 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  let v27 : BitVec 32 := v26
  let v46 : Index := Scalar.indexCast v27
  let c1152 : Index := 1152#32
  ![v46.toNat, 1152]
def k0_off13 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c16_i32_9 : BitVec 32 := 16#32
  let v26 : BitVec 32 := Scalar.muli arg13 c16_i32_9
  let v27 : BitVec 32 := v26
  let v48 : Index := Scalar.indexCast v27
  let c1280 : Index := 1280#32
  ![v48.toNat, 1280]
@[reducible] def k0_t2_loop : Scf.Loop 32 :=
  let c0_i32_6 : BitVec 32 := 0#32
  let c11_i32 : BitVec 32 := 11#32
  let v25 : BitVec 32 := Scalar.addi c0_i32_6 c11_i32
  let c1_i32_7 : BitVec 32 := 1#32
  ⟨c0_i32_6, v25, c1_i32_7⟩
def k0_mult2 (k0_t2 : Fin k0_t2_loop.trips) : BitVec 32 :=
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  v26
def k0_off14 (k0_t2 : Fin k0_t2_loop.trips) : Fin 3 → Nat :=
  let c0 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v28 : Index := Scalar.indexCast v27
  let c0_9 : Index := 0#32
  ![0, v28.toNat, 0]
def k0_off15 (k0_t2 : Fin k0_t2_loop.trips) : Fin 3 → Nat :=
  let c0_12 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v41 : Index := Scalar.indexCast v27
  let c0_13 : Index := 0#32
  ![0, v41.toNat, 0]
def k0_off16 (k0_t2 : Fin k0_t2_loop.trips) : Fin 2 → Nat :=
  let c0_16 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v52 : Index := Scalar.indexCast v27
  ![0, v52.toNat]
def k0_off17 (k0_t2 : Fin k0_t2_loop.trips) : Fin 2 → Nat :=
  let c32 : Index := 32#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v62 : Index := Scalar.indexCast v27
  ![32, v62.toNat]
def k0_off18 (k0_t2 : Fin k0_t2_loop.trips) : Fin 2 → Nat :=
  let c64 : Index := 64#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v72 : Index := Scalar.indexCast v27
  ![64, v72.toNat]
def k0_off19 (k0_t2 : Fin k0_t2_loop.trips) : Fin 2 → Nat :=
  let c96 : Index := 96#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v82 : Index := Scalar.indexCast v27
  ![96, v82.toNat]
def k0_off20 (k0_t2 : Fin k0_t2_loop.trips) : Fin 3 → Nat :=
  let c0_20 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v86 : Index := Scalar.indexCast v27
  let c128 : Index := 128#32
  ![0, v86.toNat, 128]
def k0_off21 (k0_t2 : Fin k0_t2_loop.trips) : Fin 2 → Nat :=
  let c128_22 : Index := 128#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v97 : Index := Scalar.indexCast v27
  ![128, v97.toNat]
def k0_off22 (k0_t2 : Fin k0_t2_loop.trips) : Fin 2 → Nat :=
  let c160 : Index := 160#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v107 : Index := Scalar.indexCast v27
  ![160, v107.toNat]
def k0_off23 (k0_t2 : Fin k0_t2_loop.trips) : Fin 2 → Nat :=
  let c192 : Index := 192#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v117 : Index := Scalar.indexCast v27
  ![192, v117.toNat]
def k0_off24 (k0_t2 : Fin k0_t2_loop.trips) : Fin 2 → Nat :=
  let c224 : Index := 224#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v127 : Index := Scalar.indexCast v27
  ![224, v127.toNat]
def k0_off25 (k0_t2 : Fin k0_t2_loop.trips) : Fin 3 → Nat :=
  let c0_26 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v131 : Index := Scalar.indexCast v27
  let c256 : Index := 256#32
  ![0, v131.toNat, 256]
def k0_off26 (k0_t2 : Fin k0_t2_loop.trips) : Fin 2 → Nat :=
  let c256_28 : Index := 256#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v142 : Index := Scalar.indexCast v27
  ![256, v142.toNat]
def k0_off27 (k0_t2 : Fin k0_t2_loop.trips) : Fin 2 → Nat :=
  let c288 : Index := 288#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v152 : Index := Scalar.indexCast v27
  ![288, v152.toNat]
def k0_off28 (k0_t2 : Fin k0_t2_loop.trips) : Fin 2 → Nat :=
  let c320 : Index := 320#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v162 : Index := Scalar.indexCast v27
  ![320, v162.toNat]
def k0_off29 (k0_t2 : Fin k0_t2_loop.trips) : Fin 2 → Nat :=
  let c352 : Index := 352#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v172 : Index := Scalar.indexCast v27
  ![352, v172.toNat]
def k0_off30 (k0_t2 : Fin k0_t2_loop.trips) : Fin 3 → Nat :=
  let c0_32 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v176 : Index := Scalar.indexCast v27
  let c384 : Index := 384#32
  ![0, v176.toNat, 384]
def k0_off31 (k0_t2 : Fin k0_t2_loop.trips) : Fin 2 → Nat :=
  let c384_34 : Index := 384#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v187 : Index := Scalar.indexCast v27
  ![384, v187.toNat]
def k0_off32 (k0_t2 : Fin k0_t2_loop.trips) : Fin 2 → Nat :=
  let c416 : Index := 416#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v197 : Index := Scalar.indexCast v27
  ![416, v197.toNat]
def k0_off33 (k0_t2 : Fin k0_t2_loop.trips) : Fin 2 → Nat :=
  let c448 : Index := 448#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v207 : Index := Scalar.indexCast v27
  ![448, v207.toNat]
def k0_off34 (k0_t2 : Fin k0_t2_loop.trips) : Fin 2 → Nat :=
  let c480 : Index := 480#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v217 : Index := Scalar.indexCast v27
  ![480, v217.toNat]
def k0_off35 (k0_t2 : Fin k0_t2_loop.trips) : Fin 3 → Nat :=
  let c0_38 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v221 : Index := Scalar.indexCast v27
  let c512 : Index := 512#32
  ![0, v221.toNat, 512]
def k0_off36 (k0_t2 : Fin k0_t2_loop.trips) : Fin 2 → Nat :=
  let c512_40 : Index := 512#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v232 : Index := Scalar.indexCast v27
  ![512, v232.toNat]
def k0_off37 (k0_t2 : Fin k0_t2_loop.trips) : Fin 2 → Nat :=
  let c544 : Index := 544#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v242 : Index := Scalar.indexCast v27
  ![544, v242.toNat]
def k0_off38 (k0_t2 : Fin k0_t2_loop.trips) : Fin 2 → Nat :=
  let c576 : Index := 576#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v252 : Index := Scalar.indexCast v27
  ![576, v252.toNat]
def k0_off39 (k0_t2 : Fin k0_t2_loop.trips) : Fin 2 → Nat :=
  let c608 : Index := 608#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v262 : Index := Scalar.indexCast v27
  ![608, v262.toNat]
def k0_off40 (k0_t2 : Fin k0_t2_loop.trips) : Fin 3 → Nat :=
  let c0_44 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v266 : Index := Scalar.indexCast v27
  let c640 : Index := 640#32
  ![0, v266.toNat, 640]
def k0_off41 (k0_t2 : Fin k0_t2_loop.trips) : Fin 2 → Nat :=
  let c640_46 : Index := 640#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v277 : Index := Scalar.indexCast v27
  ![640, v277.toNat]
def k0_off42 (k0_t2 : Fin k0_t2_loop.trips) : Fin 2 → Nat :=
  let c672 : Index := 672#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v287 : Index := Scalar.indexCast v27
  ![672, v287.toNat]
def k0_off43 (k0_t2 : Fin k0_t2_loop.trips) : Fin 2 → Nat :=
  let c704 : Index := 704#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v297 : Index := Scalar.indexCast v27
  ![704, v297.toNat]
def k0_off44 (k0_t2 : Fin k0_t2_loop.trips) : Fin 2 → Nat :=
  let c736 : Index := 736#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v307 : Index := Scalar.indexCast v27
  ![736, v307.toNat]
def k0_off45 (k0_t2 : Fin k0_t2_loop.trips) : Fin 3 → Nat :=
  let c0_50 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v311 : Index := Scalar.indexCast v27
  let c768 : Index := 768#32
  ![0, v311.toNat, 768]
def k0_off46 (k0_t2 : Fin k0_t2_loop.trips) : Fin 2 → Nat :=
  let c768_52 : Index := 768#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v322 : Index := Scalar.indexCast v27
  ![768, v322.toNat]
def k0_off47 (k0_t2 : Fin k0_t2_loop.trips) : Fin 2 → Nat :=
  let c800 : Index := 800#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v332 : Index := Scalar.indexCast v27
  ![800, v332.toNat]
def k0_off48 (k0_t2 : Fin k0_t2_loop.trips) : Fin 2 → Nat :=
  let c832 : Index := 832#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v342 : Index := Scalar.indexCast v27
  ![832, v342.toNat]
def k0_off49 (k0_t2 : Fin k0_t2_loop.trips) : Fin 2 → Nat :=
  let c864 : Index := 864#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v352 : Index := Scalar.indexCast v27
  ![864, v352.toNat]
def k0_off50 (k0_t2 : Fin k0_t2_loop.trips) : Fin 3 → Nat :=
  let c0_56 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v356 : Index := Scalar.indexCast v27
  let c896 : Index := 896#32
  ![0, v356.toNat, 896]
def k0_off51 (k0_t2 : Fin k0_t2_loop.trips) : Fin 2 → Nat :=
  let c896_58 : Index := 896#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v367 : Index := Scalar.indexCast v27
  ![896, v367.toNat]
def k0_off52 (k0_t2 : Fin k0_t2_loop.trips) : Fin 2 → Nat :=
  let c928 : Index := 928#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v377 : Index := Scalar.indexCast v27
  ![928, v377.toNat]
def k0_off53 (k0_t2 : Fin k0_t2_loop.trips) : Fin 2 → Nat :=
  let c960 : Index := 960#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v387 : Index := Scalar.indexCast v27
  ![960, v387.toNat]
def k0_off54 (k0_t2 : Fin k0_t2_loop.trips) : Fin 2 → Nat :=
  let c992 : Index := 992#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v397 : Index := Scalar.indexCast v27
  ![992, v397.toNat]
def k0_off55 (k0_t2 : Fin k0_t2_loop.trips) : Fin 3 → Nat :=
  let c0_62 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v401 : Index := Scalar.indexCast v27
  let c1024 : Index := 1024#32
  ![0, v401.toNat, 1024]
def k0_off56 (k0_t2 : Fin k0_t2_loop.trips) : Fin 2 → Nat :=
  let c1024_65 : Index := 1024#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v412 : Index := Scalar.indexCast v27
  ![1024, v412.toNat]
def k0_off57 (k0_t2 : Fin k0_t2_loop.trips) : Fin 2 → Nat :=
  let c1056 : Index := 1056#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v422 : Index := Scalar.indexCast v27
  ![1056, v422.toNat]
def k0_off58 (k0_t2 : Fin k0_t2_loop.trips) : Fin 2 → Nat :=
  let c1088 : Index := 1088#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v432 : Index := Scalar.indexCast v27
  ![1088, v432.toNat]
def k0_off59 (k0_t2 : Fin k0_t2_loop.trips) : Fin 2 → Nat :=
  let c1120 : Index := 1120#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v442 : Index := Scalar.indexCast v27
  ![1120, v442.toNat]
def k0_off60 (k0_t2 : Fin k0_t2_loop.trips) : Fin 3 → Nat :=
  let c0_69 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v446 : Index := Scalar.indexCast v27
  let c1152 : Index := 1152#32
  ![0, v446.toNat, 1152]
def k0_off61 (k0_t2 : Fin k0_t2_loop.trips) : Fin 2 → Nat :=
  let c1152_71 : Index := 1152#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v457 : Index := Scalar.indexCast v27
  ![1152, v457.toNat]
def k0_off62 (k0_t2 : Fin k0_t2_loop.trips) : Fin 2 → Nat :=
  let c1184 : Index := 1184#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v467 : Index := Scalar.indexCast v27
  ![1184, v467.toNat]
def k0_off63 (k0_t2 : Fin k0_t2_loop.trips) : Fin 2 → Nat :=
  let c1216 : Index := 1216#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v477 : Index := Scalar.indexCast v27
  ![1216, v477.toNat]
def k0_off64 (k0_t2 : Fin k0_t2_loop.trips) : Fin 2 → Nat :=
  let c1248 : Index := 1248#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v487 : Index := Scalar.indexCast v27
  ![1248, v487.toNat]
def k0_off65 (k0_t2 : Fin k0_t2_loop.trips) : Fin 3 → Nat :=
  let c0_75 : Index := 0#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v491 : Index := Scalar.indexCast v27
  let c1280 : Index := 1280#32
  ![0, v491.toNat, 1280]
def k0_off66 (k0_t2 : Fin k0_t2_loop.trips) : Fin 2 → Nat :=
  let c1280_77 : Index := 1280#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v502 : Index := Scalar.indexCast v27
  ![1280, v502.toNat]
def k0_off67 (k0_t2 : Fin k0_t2_loop.trips) : Fin 2 → Nat :=
  let c1312 : Index := 1312#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v512 : Index := Scalar.indexCast v27
  ![1312, v512.toNat]
def k0_off68 (k0_t2 : Fin k0_t2_loop.trips) : Fin 2 → Nat :=
  let c1344 : Index := 1344#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v522 : Index := Scalar.indexCast v27
  ![1344, v522.toNat]
def k0_off69 (k0_t2 : Fin k0_t2_loop.trips) : Fin 2 → Nat :=
  let c1376 : Index := 1376#32
  let c0_i32_6 : BitVec 32 := 0#32
  let c1_i32_7 : BitVec 32 := 1#32
  let arg13 : BitVec 32 := Scf.iv c0_i32_6 c1_i32_7 k0_t2
  let c256_i32 : BitVec 32 := 256#32
  let v26 : BitVec 32 := Scalar.muli arg13 c256_i32
  let v27 : BitVec 32 := v26
  let v532 : Index := Scalar.indexCast v27
  ![1376, v532.toNat]
def k0_off70 (i : grid0.Coords) : Fin 1 → Nat :=
  let arg0 : BitVec 32 := BitVec.ofNat 32 (i 0).val
  let v20 : Index := Scalar.indexCast arg0
  ![v20.toNat]
def k0_off71 (i : grid0.Coords) : Fin 1 → Nat :=
  let arg0 : BitVec 32 := BitVec.ofNat 32 (i 0).val
  let v29 : Index := Scalar.indexCast arg0
  ![v29.toNat]
def k0_cond3 (v21 : BitVec 32) : BitVec 1 :=
  let c1_i32_4 : BitVec 32 := 1#32
  let v22 : BitVec 1 := Scalar.cmpi .eq v21 c1_i32_4
  let v23 : BitVec 32 := Scalar.extui v22
  let c0_i32_5 : BitVec 32 := 0#32
  let v24 : BitVec 1 := Scalar.cmpi .ne v23 c0_i32_5
  v24

def cc0_transform_0 (k0_off1_inb : ∀ i : grid0.Coords, ∀ a, (k0_off1 i) a + S1.size a ≤ S191.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S191) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S191.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S191) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S191.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S191) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S191.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S191) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2816x1408 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x44 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x1408 : Shape := ⟨2, ![32768, 1408]⟩
abbrev S64 : Shape := ⟨1, ![64]⟩
abbrev S64x2816x1408 : Shape := ⟨3, ![64, 2816, 1408]⟩
abbrev S64x2816x44 : Shape := ⟨3, ![64, 2816, 44]⟩
abbrev S_ : Shape := ⟨0, ![]⟩
abbrev S1x64 : Shape := ⟨2, ![1, 64]⟩
abbrev S32768x2816 : Shape := ⟨2, ![32768, 2816]⟩
abbrev S32768x44x32 : Shape := ⟨3, ![32768, 44, 32]⟩
abbrev S32768x44 : Shape := ⟨2, ![32768, 44]⟩
abbrev S32768x44x254 : Shape := ⟨3, ![32768, 44, 254]⟩
abbrev S32768x44x1 : Shape := ⟨3, ![32768, 44, 1]⟩
abbrev S64x2816x44x32 : Shape := ⟨4, ![64, 2816, 44, 32]⟩
abbrev S64x2816x44x1 : Shape := ⟨4, ![64, 2816, 44, 1]⟩
abbrev S32768x64 : Shape := ⟨2, ![32768, 64]⟩
abbrev S180224x1408 : Shape := ⟨2, ![180224, 1408]⟩
abbrev S32768x180224 : Shape := ⟨2, ![32768, 180224]⟩
abbrev S32768x64x1 : Shape := ⟨3, ![32768, 64, 1]⟩
abbrev S32768x64x2816 : Shape := ⟨3, ![32768, 64, 2816]⟩

abbrev nBuf : Space → Nat
  | .hbm => 10
  | .vmem => 6
  | .smem => 0
  | _ => 0

abbrev bufTy : (tb : Table) → Fin (tcTables nBuf tb) → BufTy
  | .hbm, ⟨0, _⟩ => ⟨S32768x1408, .bf16⟩
  | .hbm, ⟨1, _⟩ => ⟨S64, .i32⟩
  | .hbm, ⟨2, _⟩ => ⟨S64x2816x1408, .fp8e4m3⟩
  | .hbm, ⟨3, _⟩ => ⟨S64x2816x44, .i8⟩
  | .hbm, ⟨4, _⟩ => ⟨S_, .i32⟩
  | .hbm, ⟨5, _⟩ => ⟨S_, .i32⟩
  | .hbm, ⟨6, _⟩ => ⟨S64, .i32⟩
  | .hbm, ⟨7, _⟩ => ⟨S1x64, .i32⟩
  | .hbm, ⟨8, _⟩ => ⟨S1x64, .i32⟩
  | .hbm, ⟨9, _⟩ => ⟨S32768x2816, .bf16⟩
  | .local _ .vmem, ⟨0, _⟩ => ⟨S1x64, .i32⟩
  | .local _ .vmem, ⟨1, _⟩ => ⟨S1x64, .i32⟩
  | .local _ .vmem, ⟨2, _⟩ => ⟨S32768x1408, .bf16⟩
  | .local _ .vmem, ⟨3, _⟩ => ⟨S64x2816x1408, .fp8e4m3⟩
  | .local _ .vmem, ⟨4, _⟩ => ⟨S64x2816x44, .i8⟩
  | .local _ .vmem, ⟨5, _⟩ => ⟨S32768x2816, .bf16⟩
  | _, _ => ⟨S32768x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2816x1408 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2816x44 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelProducts.lean ====
module

public import proofs.«01_k».proof.Proof.Gen.Kernel.Launch
public import proofs.«01_k».proof.Proof.Gen.Kernel.Loops
public import Idealize.ShloMosaic.Lib.Pipeline.FrameBody
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a step leaves -/

/-- A scalar table's contents on core `c`. -/
abbrev TbBuf (c : Dev nD) {S : Shape} {e : EltTy} (M : Memref sig .tc .smem S e) : Type := Buf (Elt F) (M.view.loc (c : Thread nD τ))
/-- A scalar table held at half the full share. -/
abbrev tbPt (c : Dev nD) {S : Shape} {e : EltTy} (M : Memref sig .tc .smem S e) (f : TbBuf (F := F) c M) : sProp 𝕄 :=
  M.view.loc (c : Thread nD τ) ↦{fullShare.right} f

/-- The word a table holds at the grid point. -/
def wordAt (c : Dev nD) (i : grid0.Coords) (M : Memref sig .tc .smem S191 .i32) (f : TbBuf (F := F) c M) : BitVec 32 :=
  M.view.readAt (Elt F) (Rect.unit (s := S191) (k0_off1 i) S1.size (k0_off1_inb i)).toLoadRect f (Shape.Idx.first (numel1_S1.symm ▸ Nat.one_pos))
/-- The word a table holds at the grid point before. -/
def wordPrev (c : Dev nD) (i : grid0.Coords) (M : Memref sig .tc .smem S191 .i32) (f : TbBuf (F := F) c M) : BitVec 32 :=
  M.view.readAt (Elt F) (Rect.unit (s := S191) (k0_off2 i) S1.size (k0_off2_inb i)).toLoadRect f (Shape.Idx.first (numel1_S1.symm ▸ Nat.one_pos))

/-- The word by which the body decides that the point's block is a new one. -/
def newWord (i : grid0.Coords) (w w' : BitVec 32) : BitVec 1 :=
  Scalar.cmpi .ne (Scalar.extui (Scalar.ori (Scalar.cmpi .eq (BitVec.ofNat 32 (i 0).val) 0#32) (Scalar.cmpi .ne w w')) : BitVec 32) 0#32

/-- A matrix index from its two coordinates. -/
def mk2 {a b : ℕ} (r : Fin a) (q : Fin b) : (⟨2, ![a, b]⟩ : Shape).Idx := fun | 0 => r | 1 => q

/-- Columns `256 n` to `256 n + 255` of a matrix. -/
def colsOf {R : Type} {a : ℕ} (f : (⟨2, ![a, 2816]⟩ : Shape).Idx → R) (n : Fin 11) : (⟨2, ![a, 256]⟩ : Shape).Idx → R :=
  fun q => f (mk2 (q 0) ⟨256 * n.val + (q 1).val, by have h1 : (q 1).val < 256 := (q 1).isLt; omega⟩)

/-- The block of 256 columns a column of the result lies in. -/
def nOf (p : S256x2816.Idx) : Fin 11 := ⟨(p 1).val / 256, by have h1 : (p 1).val < 2816 := (p 1).isLt; omega⟩
/-- Its place in that block. -/
def xOf (p : S256x2816.Idx) : S256x256.Idx := mk2 (p 0) ⟨(p 1).val % 256, Nat.mod_lt _ (by decide)⟩

/-- What a step stores into its result block: block of columns by block of columns, the product where the step owns
    the row, what was there elsewhere. -/
def outTile (own : IVec S256x1 1) (xq : Vec F S256x1408 .bf16) (wt : Vec F S1408x2816 .bf16) (y : Vec F S256x2816 .bf16) : Vec F S256x2816 .bf16 :=
  fun p => k0_pay158 own xq (colsOf wt (nOf p)) (colsOf y (nOf p)) (xOf p)

/-- One stored block agrees with `outTile`. -/
theorem dot_piece (own : IVec S256x1 1) (xq : Vec F S256x1408 .bf16) (wt : Vec F S1408x2816 .bf16) (y : Vec F S256x2816 .bf16)
    (n : Fin 11) (o : ℕ) (ho : o = 256 * n.val) (h0 : ∀ a, (![0, 0] : Fin 2 → ℕ) a + S256x1408.size a ≤ S256x1408.size a)
    (h1 : ∀ a, (![0, o] : Fin 2 → ℕ) a + S1408x256.size a ≤ S1408x2816.size a) (h2 : ∀ a, (![0, o] : Fin 2 → ℕ) a + S256x256.size a ≤ S256x2816.size a)
    (x : S256x256.Idx) :
    k0_pay158 own (fun q => xq ((Rect.unit (s := S256x1408) ![0, 0] S256x1408.size h0).toLoadRect.idx q))
        (fun q => wt ((Rect.unit (s := S1408x2816) ![0, o] S1408x256.size h1).toLoadRect.idx q))
        (fun q => y ((Rect.unit (s := S256x2816) ![0, o] S256x256.size h2).toLoadRect.idx q)) x
      = outTile own xq wt y ((Rect.unit (s := S256x2816) ![0, o] S256x256.size h2).emb x) := by
  subst ho
  have hx1 : (x 1).val < 256 := (x 1).isLt
  have en : nOf ((Rect.unit (s := S256x2816) ![0, 256 * n.val] S256x256.size h2).emb x) = n := by
    apply Fin.ext; show (256 * n.val + 1 * (x 1).val) / 256 = n.val; omega
  have ex : xOf ((Rect.unit (s := S256x2816) ![0, 256 * n.val] S256x256.size h2).emb x) = x := by
    funext a; apply Fin.ext
    match a with
    | 0 => show 0 + 1 * (x 0).val = _; omega
    | 1 => show (256 * n.val + 1 * (x 1).val) % 256 = (x 1).val; omega
  unfold outTile
  rw [en, ex]
  congr 1
  · funext q; congr 1; funext a; apply Fin.ext
    match a with
    | 0 => show 0 + 1 * (q 0).val = _; omega
    | 1 => show 0 + 1 * (q 1).val = _; omega
  · funext q; unfold colsOf; congr 1; funext a; apply Fin.ext
    match a with
    | 0 => show 0 + 1 * (q 0).val = (q 0).val; omega
    | 1 => show 256 * n.val + 1 * (q 1).val = 256 * n.val + (q 1).val; omega
  · funext q; unfold colsOf; congr 1; funext a; apply Fin.ext
    match a with
    | 0 => show 0 + 1 * (q 0).val = (q 0).val; omega
    | 1 => show 256 * n.val + 1 * (q 1).val = 256 * n.val + (q 1).val; omega

/-- The eleven blocks cover the result block. -/
theorem dot_cover (L : List (View.Piece (Elt F) S256x2816 .bf16))
    (h : ∀ n : Fin 11, ∃ p ∈ L, ∃ o h2, o = 256 * n.val ∧ p.1 = Rect.unit (s := S256x2816) ![0, o] S256x256.size h2) (y : S256x2816.Idx) :
    ∃ p ∈ L, y ∈ p.1.set := by
  obtain ⟨p, hp, o, h2, ho, hr⟩ := h (nOf y)
  refine ⟨p, hp, ?_⟩
  rw [hr]
  subst ho
  rw [← Rect.map_emb_univ, Finset.mem_map]
  refine ⟨xOf y, Finset.mem_univ _, ?_⟩
  have hy1 : (y 1).val < 2816 := (y 1).isLt
  funext a; apply Fin.ext
  match a with
  | 0 => show 0 + 1 * (y 0).val = _; omega
  | 1 => show 256 * ((y 1).val / 256) + 1 * ((y 1).val % 256) = (y 1).val; omega

/-- What a step leaves in its result block: `outTile` when it is live, the block as it was when it is not. -/
def stepOut (live v1 lo hi : BitVec 32) (xq : Vec F S256x1408 .bf16) (wt : Vec F S1408x2816 .bf16) (y : Vec F S256x2816 .bf16) : Vec F S256x2816 .bf16 :=
  if k0_cond3 live = 1#1 then outTile (k0_pay151 (F := F) v1 lo hi) xq wt y else y

/-! ## The last third of the body: the products -/

/-- The body from its reading of the live flag on. -/
def tailProg (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (v1 : Elt F .i32) : Prog (TpuEff nD τ sig (Elt F) Λ₀ .tc) PUnit := do
  let arg0 : BitVec 32 := BitVec.ofNat 32 (i 0).val
  let v21 : Elt F .i32 ← smemLoad arg5 (Rect.unit (s := S191) (k0_off70 i) S1.size (k0_off70_inb i)) numel1_S1 rfl

  if k0_h3 : k0_cond3 v21 = 1#1 then do
    let ⟨v37, v60⟩ : Σ' (v37 : IVec S256x1 1), Vec F S256x1408 .bf16 ← k0_part27 i arg1 harg1 arg2 harg2 arg3 harg3 arg4 harg4 arg5 harg5 arg6 harg6 arg7 harg7 arg8 harg8 arg9 harg9 arg10 harg10 arg11 harg11 arg12 harg12 arg0 v1
    k0_part28 i arg1 harg1 arg2 harg2 arg3 harg3 arg4 harg4 arg5 harg5 arg6 harg6 arg7 harg7 arg8 harg8 arg9 harg9 arg10 harg10 arg11 harg11 arg12 harg12 v37 v60
    let v124 : FVec F S256x256 .bf16 ← k0_part29 i arg1 harg1 arg2 harg2 arg3 harg3 arg4 harg4 arg5 harg5 arg6 harg6 arg7 harg7 arg8 harg8 arg9 harg9 arg10 harg10 arg11 harg11 arg12 harg12 v37
    let v156 : FVec F S256x256 .f32 ← k0_part30 i arg1 harg1 arg2 harg2 arg3 harg3 arg4 harg4 arg5 harg5 arg6 harg6 arg7 harg7 arg8 harg8 arg9 harg9 arg10 harg10 arg11 harg11 arg12 harg12 v37 v124
    let v158 : Vec F S256x256 .bf16 ← Prog.lift (.load arg9 (Rect.unit (s := S256x2816) ![0, 2560] S256x256.size inb_S256x2816_S256x256_0_2560).toLoadRect (View.loadsAt_vmem h_S256x256))
    Prog.lift (.store arg9 (Rect.unit (s := S256x2816) ![0, 2560] S256x256.size inb_S256x2816_S256x256_0_2560) (k0_pay3 v156) Finset.univ (View.stores_vmem h_S256x256 (harg9.storeExact_slice rfl _ packedbf16_S256x2816_S256x256_0_2560) (fun _ => rfl)) (.inl rfl))
    pure ⟨⟩
  else do
    pure ⟨⟩
  pure ⟨⟩

set_option maxHeartbeats 4000000 in
/-- It leaves `outTile` in the result block when the step is live, and the block alone when it is not. -/
theorem tailRun (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (v1 : Elt F .i32)
    (y9 : Vec F S256x2816 .bf16)
    (g10 : Vec F S256x1408 .bf16) (g11 : Vec F S1408x2816 .bf16)
    (t3 : TbBuf (F := F) c arg3) (t4 : TbBuf (F := F) c arg4) (t5 : TbBuf (F := F) c arg5) :
      ∀ (K : PUnit → sProp 𝕄),
        iprop(tbPt c arg3 t3 ∗ tbPt c arg4 t4 ∗ tbPt c arg5 t5
            ∗ owns (c : Thread nD τ) arg9 fullShare y9
            ∗ owns (c : Thread nD τ) arg10 fullShare g10 ∗ owns (c : Thread nD τ) arg11 fullShare g11
            ∗ (iprop(tbPt c arg3 t3 ∗ tbPt c arg4 t4 ∗ tbPt c arg5 t5
            ∗ owns (c : Thread nD τ) arg9 fullShare (stepOut (wordAt c i arg5 t5) v1 (wordAt c i arg3 t3) (wordAt c i arg4 t4) g10 g11 y9)
            ∗ owns (c : Thread nD τ) arg10 fullShare g10 ∗ owns (c : Thread nD τ) arg11 fullShare g11) -∗ K ⟨⟩))
          ⊢ wp frame (wpE (defs₀ (F := F)) Variants.none c none) Set.univ (tailProg i arg1 harg1 arg2 harg2 arg3 harg3 arg4 harg4 arg5 harg5 arg6 harg6 arg7 harg7 arg8 harg8 arg9 harg9 arg10 harg10 arg11 harg11 arg12 harg12 v1) K := by
    intro K
    unfold tailProg
    unfold owns
    iintro ⟨HT3, HT4, HT5, ⟨%f9, %hf9, H9⟩, ⟨%f10, %hf10, H10⟩, ⟨%f11, %hf11, H11⟩, Hk⟩
    subst hf9 hf10 hf11
    sl_exec
    sl_step
    iapply Hk
    isplitl [HT3]; · iexact HT3
    isplitl [HT4]; · iexact HT4
    isplitl [HT5]; · iexact HT5
    isplitl [H9]
    · iexists _; isplitr; swap; · iexact H9
      ipureintro
      unfold stepOut
      by_cases hlive : k0_cond3 (wordAt c i arg5 t5) = 1#1
      · rw [if_pos hlive, dif_pos (show k0_cond3 (tailRun.sl.r c i arg5 t5) = 1#1 from hlive)]
        funext y
        refine View.read_writes_apply_of_pieces _ _ (outTile (k0_pay151 v1 (wordAt c i arg3 t3) (wordAt c i arg4 t4)) (View.read (Elt F) arg10.view f10) (View.read (Elt F) arg11.view f11) (View.read (Elt F) arg9.view f9)) _ ?_ y (dot_cover _ ?_ y)
        · have dp := dot_piece (k0_pay151 v1 (wordAt c i arg3 t3) (wordAt c i arg4 t4)) (View.read (Elt F) arg10.view f10) (View.read (Elt F) arg11.view f11) (View.read (Elt F) arg9.view f9)
          simp only [List.forall_mem_cons, List.not_mem_nil, false_imp_iff, implies_true, and_true]
          refine ⟨?_, ?_, ?_, ?_, ?_, ?_, ?_, ?_, ?_, ?_, ?_⟩
          · intro x; have := dp 10 2560 rfl (by decide) (by decide) (by decide) x; exact this
          · intro x; have := dp 9 2304 rfl (by decide) (by decide) (by decide) x; exact this
          · intro x; have := dp 8 2048 rfl (by decide) (by decide) (by decide) x; exact this
          · intro x; have := dp 7 1792 rfl (by decide) (by decide) (by decide) x; exact this
          · intro x; have := dp 6 1536 rfl (by decide) (by decide) (by decide) x; exact this
          · intro x; have := dp 5 1280 rfl (by decide) (by decide) (by decide) x; exact this
          · intro x; have := dp 4 1024 rfl (by decide) (by decide) (by decide) x; exact this
          · intro x; have := dp 3 768 rfl (by decide) (by decide) (by decide) x; exact this
          · intro x; have := dp 2 512 rfl (by decide) (by decide) (by decide) x; exact this
          · intro x; have := dp 1 256 rfl (by decide) (by decide) (by decide) x; exact this
          · intro x; have := dp 0 0 rfl (by decide) (by decide) (by decide) x; exact this
        · intro n
          fin_cases n
          · exact ⟨_, .tail _ (.tail _ (.tail _ (.tail _ (.tail _ (.tail _ (.tail _ (.tail _ (.tail _ (.tail _ (.head _)))))))))), 0, by decide, rfl, rfl⟩
          · exact ⟨_, .tail _ (.tail _ (.tail _ (.tail _ (.tail _ (.tail _ (.tail _ (.tail _ (.tail _ (.head _))))))))), 256, by decide, rfl, rfl⟩
          · exact ⟨_, .tail _ (.tail _ (.tail _ (.tail _ (.tail _ (.tail _ (.tail _ (.tail _ (.head _)))))))), 512, by decide, rfl, rfl⟩
          · exact ⟨_, .tail _ (.tail _ (.tail _ (.tail _ (.tail _ (.tail _ (.tail _ (.head _))))))), 768, by decide, rfl, rfl⟩
          · exact ⟨_, .tail _ (.tail _ (.tail _ (.tail _ (.tail _ (.tail _ (.head _)))))), 1024, by decide, rfl, rfl⟩
          · exact ⟨_, .tail _ (.tail _ (.tail _ (.tail _ (.tail _ (.head _))))), 1280, by decide, rfl, rfl⟩
          · exact ⟨_, .tail _ (.tail _ (.tail _ (.tail _ (.head _)))), 1536, by decide, rfl, rfl⟩
          · exact ⟨_, .tail _ (.tail _ (.tail _ (.head _))), 1792, by decide, rfl, rfl⟩
          · exact ⟨_, .tail _ (.tail _ (.head _)), 2048, by decide, rfl, rfl⟩
          · exact ⟨_, .tail _ (.head _), 2304, by decide, rfl, rfl⟩
          · exact ⟨_, .head _, 2560, by decide, rfl, rfl⟩
      · rw [if_neg hlive, dif_neg (show ¬ k0_cond3 (tailRun.sl.r c i arg5 t5) = 1#1 from hlive)]
    isplitl [H10]
    · iexists _; isplitr; · ipureintro; rfl
      iexact H10
    iexists _; isplitr; · ipureintro; rfl
    iexact H11

end Cert.Kernel.Gen

end
-- ==== Proof.KernelBody.lean ====
module

public import proofs.«01_k».proof.Proof.Gen.Kernel.Launch
public import proofs.«01_k».proof.Proof.Gen.Kernel.Loops
public import Idealize.ShloMosaic.Lib.Pipeline.FrameBody
public import Idealize.ShloMosaic.Lib.Claim
public import proofs.«01_k».proof.Proof.KernelProducts

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole body -/

/-- `QX` holds of what the first loop leaves in the quantised block, whatever block it reads. -/
def XOk (QX : Vec F S256x1408 .bf16 → Vec F S256x1408 .bf16 → Prop) : Prop :=
  ∀ (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f6 : BufTy.Contents (Elt F) arg6.view.ty) (f10 : BufTy.Contents (Elt F) arg10.view.ty),
    QX (arg6.view.read (Elt F) f6) (arg10.view.read (Elt F) (arg10.view.writes (Elt F) f10
      (pb_k0_t1 Variants.none c none i arg1 harg1 arg2 harg2 arg3 harg3 arg4 harg4 arg5 harg5 arg6 harg6 arg7 harg7 arg8 harg8 arg9 harg9 arg10 harg10 arg11 harg11 arg12 harg12 f6 (Scf.trips k0_t1_loop.lb k0_t1_loop.ub k0_t1_loop.st))))

/-- `QW` holds of what the second loop leaves in the widened weights, whatever codes and scales it reads. -/
def WOk (QW : Vec F S1x2816x1408 .fp8e4m3 → Vec F S1x2816x44 .i8 → Vec F S1408x2816 .bf16 → Prop) : Prop :=
  ∀ (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f7 : BufTy.Contents (Elt F) arg7.view.ty) (f8 : BufTy.Contents (Elt F) arg8.view.ty)
    (f11 : BufTy.Contents (Elt F) arg11.view.ty) (f12 : BufTy.Contents (Elt F) arg12.view.ty),
    QW (arg7.view.read (Elt F) f7) (arg8.view.read (Elt F) f8) (arg11.view.read (Elt F) (arg11.view.writes (Elt F) f11
      (pb_k0_t2 Variants.none c none i arg1 harg1 arg2 harg2 arg3 harg3 arg4 harg4 arg5 harg5 arg6 harg6 arg7 harg7 arg8 harg8 arg9 harg9 arg10 harg10 arg11 harg11 arg12 harg12 f7 f8 f11 f12 (Scf.trips k0_t2_loop.lb k0_t2_loop.ub k0_t2_loop.st)).1))

set_option maxHeartbeats 4000000 in
/-- The first loop's triple. -/
theorem loopRun1 (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f6 : BufTy.Contents (Elt F) arg6.view.ty) (f10 : BufTy.Contents (Elt F) arg10.view.ty) :
      ∀ (k : PUnit → Prog (TpuEff nD τ sig (Elt F) Λ₀ .tc) PUnit) (K : PUnit → sProp 𝕄),
        iprop((arg6.view.loc (c : Thread nD τ) ↦[arg6.view.set]{fullShare} f6) ∗ (arg10.view.loc (c : Thread nD τ) ↦[arg10.view.set]{fullShare} f10)
          ∗ (iprop((arg6.view.loc (c : Thread nD τ) ↦[arg6.view.set]{fullShare} f6) ∗ (arg10.view.loc (c : Thread nD τ) ↦[arg10.view.set]{fullShare} arg10.view.writes (Elt F) f10
      (pb_k0_t1 Variants.none c none i arg1 harg1 arg2 harg2 arg3 harg3 arg4 harg4 arg5 harg5 arg6 harg6 arg7 harg7 arg8 harg8 arg9 harg9 arg10 harg10 arg11 harg11 arg12 harg12 f6 (Scf.trips k0_t1_loop.lb k0_t1_loop.ub k0_t1_loop.st)))) -∗ wp frame (wpE (defs₀ (F := F)) Variants.none c none) Set.univ (k ⟨⟩) K))
        ⊢ wp frame (wpE (defs₀ (F := F)) Variants.none c none) Set.univ (Scf.Loop.for k0_t1_loop k0_t1_ok PUnit.unit (k0_t1_body i arg1 harg1 arg2 harg2 arg3 harg3 arg4 harg4 arg5 harg5 arg6 harg6 arg7 harg7 arg8 harg8 arg9 harg9 arg10 harg10 arg11 harg11 arg12 harg12) >>= k) K := by
    intro k K
    iintro ⟨H6, H10, Hk⟩
    sl_exec
    iapply Hk
    isplitl [H6]; · iexact H6
    iexact H10

set_option maxHeartbeats 4000000 in
/-- The second loop's triple. -/
theorem loopRun2 (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f7 : BufTy.Contents (Elt F) arg7.view.ty) (f8 : BufTy.Contents (Elt F) arg8.view.ty)
    (f11 : BufTy.Contents (Elt F) arg11.view.ty) (f12 : BufTy.Contents (Elt F) arg12.view.ty) :
      ∀ (k : PUnit → Prog (TpuEff nD τ sig (Elt F) Λ₀ .tc) PUnit) (K : PUnit → sProp 𝕄),
        iprop((arg7.view.loc (c : Thread nD τ) ↦[arg7.view.set]{fullShare} f7) ∗ (arg8.view.loc (c : Thread nD τ) ↦[arg8.view.set]{fullShare} f8)
          ∗ (arg11.view.loc (c : Thread nD τ) ↦[arg11.view.set]{fullShare} f11) ∗ (arg12.view.loc (c : Thread nD τ) ↦[arg12.view.set]{fullShare} f12)
          ∗ (iprop((arg7.view.loc (c : Thread nD τ) ↦[arg7.view.set]{fullShare} f7) ∗ (arg8.view.loc (c : Thread nD τ) ↦[arg8.view.set]{fullShare} f8)
            ∗ (arg11.view.loc (c : Thread nD τ) ↦[arg11.view.set]{fullShare} arg11.view.writes (Elt F) f11
      (pb_k0_t2 Variants.none c none i arg1 harg1 arg2 harg2 arg3 harg3 arg4 harg4 arg5 harg5 arg6 harg6 arg7 harg7 arg8 harg8 arg9 harg9 arg10 harg10 arg11 harg11 arg12 harg12 f7 f8 f11 f12 (Scf.trips k0_t2_loop.lb k0_t2_loop.ub k0_t2_loop.st)).1)
            ∗ (∃ f, arg12.view.loc (c : Thread nD τ) ↦[arg12.view.set]{fullShare} f)) -∗ wp frame (wpE (defs₀ (F := F)) Variants.none c none) Set.univ (k ⟨⟩) K))
        ⊢ wp frame (wpE (defs₀ (F := F)) Variants.none c none) Set.univ (Scf.Loop.for k0_t2_loop k0_t2_ok PUnit.unit (k0_t2_body i arg1 harg1 arg2 harg2 arg3 harg3 arg4 harg4 arg5 harg5 arg6 harg6 arg7 harg7 arg8 harg8 arg9 harg9 arg10 harg10 arg11 harg11 arg12 harg12) >>= k) K := by
    intro k K
    iintro ⟨H7, H8, H11, H12, Hk⟩
    sl_exec
    iapply Hk
    isplitl [H7]; · iexact H7
    isplitl [H8]; · iexact H8
    isplitl [H11]; · iexact H11
    iexists _; iexact H12

set_option maxHeartbeats 4000000 in
/-- The body's triple: the quantised block and the widened weights are made anew at a new tile and a new expert and
    kept otherwise, and the result block is `outTile` of them at a live step. -/
theorem bodyRun {QX : Vec F S256x1408 .bf16 → Vec F S256x1408 .bf16 → Prop} {QW : Vec F S1x2816x1408 .fp8e4m3 → Vec F S1x2816x44 .i8 → Vec F S1408x2816 .bf16 → Prop}
    (hX : XOk QX) (hW : WOk QW) (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole)
    (x6 : Vec F S256x1408 .bf16) (x7 : Vec F S1x2816x1408 .fp8e4m3) (x8 : Vec F S1x2816x44 .i8) (y9 : Vec F S256x2816 .bf16)
    (g10 : Vec F S256x1408 .bf16) (g11 : Vec F S1408x2816 .bf16)
    (t1 : TbBuf (F := F) c arg1) (t2 : TbBuf (F := F) c arg2) (t3 : TbBuf (F := F) c arg3) (t4 : TbBuf (F := F) c arg4) (t5 : TbBuf (F := F) c arg5) :
      ∀ (K : PUnit → sProp 𝕄),
        iprop(tbPt c arg1 t1 ∗ tbPt c arg2 t2 ∗ tbPt c arg3 t3 ∗ tbPt c arg4 t4 ∗ tbPt c arg5 t5
            ∗ owns (c : Thread nD τ) arg6 fullShare x6 ∗ owns (c : Thread nD τ) arg7 fullShare x7 ∗ owns (c : Thread nD τ) arg8 fullShare x8 ∗ owns (c : Thread nD τ) arg9 fullShare y9
            ∗ owns (c : Thread nD τ) arg10 fullShare g10 ∗ owns (c : Thread nD τ) arg11 fullShare g11 ∗ (∃ g, owns (c : Thread nD τ) arg12 fullShare g)
            ∗ (iprop(∃ g10' g11' y, ⌜(newWord i (wordAt c i arg2 t2) (wordPrev c i arg2 t2) = 1#1 → QX x6 g10') ∧ (newWord i (wordAt c i arg2 t2) (wordPrev c i arg2 t2) ≠ 1#1 → g10' = g10)
                ∧ (newWord i (wordAt c i arg1 t1) (wordPrev c i arg1 t1) = 1#1 → QW x7 x8 g11') ∧ (newWord i (wordAt c i arg1 t1) (wordPrev c i arg1 t1) ≠ 1#1 → g11' = g11)
                ∧ y = stepOut (wordAt c i arg5 t5) (wordAt c i arg2 t2) (wordAt c i arg3 t3) (wordAt c i arg4 t4) g10' g11' y9⌝
            ∗ tbPt c arg1 t1 ∗ tbPt c arg2 t2 ∗ tbPt c arg3 t3 ∗ tbPt c arg4 t4 ∗ tbPt c arg5 t5
            ∗ owns (c : Thread nD τ) arg6 fullShare x6 ∗ owns (c : Thread nD τ) arg7 fullShare x7 ∗ owns (c : Thread nD τ) arg8 fullShare x8 ∗ owns (c : Thread nD τ) arg9 fullShare y
            ∗ owns (c : Thread nD τ) arg10 fullShare g10' ∗ owns (c : Thread nD τ) arg11 fullShare g11' ∗ (∃ g, owns (c : Thread nD τ) arg12 fullShare g)) -∗ K ⟨⟩))
          ⊢ wp frame (wpE (defs₀ (F := F)) Variants.none c none) Set.univ (cc0_grouped_mm i arg1 harg1 arg2 harg2 arg3 harg3 arg4 harg4 arg5 harg5 arg6 harg6 arg7 harg7 arg8 harg8 arg9 harg9 arg10 harg10 arg11 harg11 arg12 harg12) K := by
    intro K
    simp only [cc0_grouped_mm_eq_skeleton]; unfold cc0_grouped_mm_skel
    unfold owns
    iintro ⟨HT1, HT2, HT3, HT4, HT5, ⟨%f6, %hf6, H6⟩, ⟨%f7, %hf7, H7⟩, ⟨%f8, %hf8, H8⟩, ⟨%f9, %hf9, H9⟩, ⟨%f10, %hf10, H10⟩, ⟨%f11, %hf11, H11⟩, ⟨%g12, %f12, %hf12, H12⟩, Hk⟩
    subst hf6 hf7 hf8 hf9 hf10 hf11
    sl_exec
    split
    · rename_i hc1
      iapply (loopRun1 c i arg1 harg1 arg2 harg2 arg3 harg3 arg4 harg4 arg5 harg5 arg6 harg6 arg7 harg7 arg8 harg8 arg9 harg9 arg10 harg10 arg11 harg11 arg12 harg12 f6 f10)
      isplitl [H6]; · iexact H6
      isplitl [H10]; · iexact H10
      iintro ⟨H6, H10⟩
      dsimp only
      split
      · rename_i hc2
        iapply (loopRun2 c i arg1 harg1 arg2 harg2 arg3 harg3 arg4 harg4 arg5 harg5 arg6 harg6 arg7 harg7 arg8 harg8 arg9 harg9 arg10 harg10 arg11 harg11 arg12 harg12 f7 f8 f11 f12)
        isplitl [H7]; · iexact H7
        isplitl [H8]; · iexact H8
        isplitl [H11]; · iexact H11
        isplitl [H12]; · iexact H12
        iintro ⟨H7, H8, H11, %f12', H12⟩
        iapply (tailRun c i arg1 harg1 arg2 harg2 arg3 harg3 arg4 harg4 arg5 harg5 arg6 harg6 arg7 harg7 arg8 harg8 arg9 harg9 arg10 harg10 arg11 harg11 arg12 harg12 (wordAt c i arg2 t2) (View.read (Elt F) arg9.view f9) (View.read (Elt F) arg10.view _) (View.read (Elt F) arg11.view _) t3 t4 t5 K)
        isplitl [HT3]; · iexact HT3
        isplitl [HT4]; · iexact HT4
        isplitl [HT5]; · iexact HT5
        isplitl [H9]
        · unfold owns; iexists _; isplitr; swap; · iexact H9
          ipureintro; rfl
        isplitl [H10]
        · unfold owns; iexists _; isplitr; swap; · iexact H10
          ipureintro; rfl
        isplitl [H11]
        · unfold owns; iexists _; isplitr; swap; · iexact H11
          ipureintro; rfl
        iintro ⟨HT3, HT4, HT5, H9, H10, H11⟩
        iapply Hk
        iexists _, _, _
        isplitr
        · ipureintro
          refine ⟨fun h => hX c i arg1 harg1 arg2 harg2 arg3 harg3 arg4 harg4 arg5 harg5 arg6 harg6 arg7 harg7 arg8 harg8 arg9 harg9 arg10 harg10 arg11 harg11 arg12 harg12 f6 f10, fun h => absurd hc1 h, fun h => hW c i arg1 harg1 arg2 harg2 arg3 harg3 arg4 harg4 arg5 harg5 arg6 harg6 arg7 harg7 arg8 harg8 arg9 harg9 arg10 harg10 arg11 harg11 arg12 harg12 f7 f8 f11 f12, fun h => absurd hc2 h, rfl⟩
        isplitl [HT1]; · iexact HT1
        isplitl [HT2]; · iexact HT2
        isplitl [HT3]; · iexact HT3
        isplitl [HT4]; · iexact HT4
        isplitl [HT5]; · iexact HT5
        isplitl [H6]
        · iexists _; isplitr; swap; · iexact H6
          ipureintro; rfl
        isplitl [H7]
        · iexists _; isplitr; swap; · iexact H7
          ipureintro; rfl
        isplitl [H8]
        · iexists _; isplitr; swap; · iexact H8
          ipureintro; rfl
        isplitl [H9]; · unfold owns; iexact H9
        isplitl [H10]; · unfold owns; iexact H10
        isplitl [H11]; · unfold owns; iexact H11
        iexists _, _; isplitr; swap; · iexact H12
        ipureintro; rfl
      · rename_i hc2
        iapply (tailRun c i arg1 harg1 arg2 harg2 arg3 harg3 arg4 harg4 arg5 harg5 arg6 harg6 arg7 harg7 arg8 harg8 arg9 harg9 arg10 harg10 arg11 harg11 arg12 harg12 (wordAt c i arg2 t2) (View.read (Elt F) arg9.view f9) (View.read (Elt F) arg10.view _) (View.read (Elt F) arg11.view _) t3 t4 t5 K)
        isplitl [HT3]; · iexact HT3
        isplitl [HT4]; · iexact HT4
        isplitl [HT5]; · iexact HT5
        isplitl [H9]
        · unfold owns; iexists _; isplitr; swap; · iexact H9
          ipureintro; rfl
        isplitl [H10]
        · unfold owns; iexists _; isplitr; swap; · iexact H10
          ipureintro; rfl
        isplitl [H11]
        · unfold owns; iexists _; isplitr; swap; · iexact H11
          ipureintro; rfl
        iintro ⟨HT3, HT4, HT5, H9, H10, H11⟩
        iapply Hk
        iexists _, _, _
        isplitr
        · ipureintro
          refine ⟨fun h => hX c i arg1 harg1 arg2 harg2 arg3 harg3 arg4 harg4 arg5 harg5 arg6 harg6 arg7 harg7 arg8 harg8 arg9 harg9 arg10 harg10 arg11 harg11 arg12 harg12 f6 f10, fun h => absurd hc1 h, fun h => absurd h hc2, fun h => rfl, rfl⟩
        isplitl [HT1]; · iexact HT1
        isplitl [HT2]; · iexact HT2
        isplitl [HT3]; · iexact HT3
        isplitl [HT4]; · iexact HT4
        isplitl [HT5]; · iexact HT5
        isplitl [H6]
        · iexists _; isplitr; swap; · iexact H6
          ipureintro; rfl
        isplitl [H7]
        · iexists _; isplitr; swap; · iexact H7
          ipureintro; rfl
        isplitl [H8]
        · iexists _; isplitr; swap; · iexact H8
          ipureintro; rfl
        isplitl [H9]; · unfold owns; iexact H9
        isplitl [H10]; · unfold owns; iexact H10
        isplitl [H11]; · unfold owns; iexact H11
        iexists _, _; isplitr; swap; · iexact H12
        ipureintro; rfl
    · rename_i hc1
      dsimp only
      split
      · rename_i hc2
        iapply (loopRun2 c i arg1 harg1 arg2 harg2 arg3 harg3 arg4 harg4 arg5 harg5 arg6 harg6 arg7 harg7 arg8 harg8 arg9 harg9 arg10 harg10 arg11 harg11 arg12 harg12 f7 f8 f11 f12)
        isplitl [H7]; · iexact H7
        isplitl [H8]; · iexact H8
        isplitl [H11]; · iexact H11
        isplitl [H12]; · iexact H12
        iintro ⟨H7, H8, H11, %f12', H12⟩
        iapply (tailRun c i arg1 harg1 arg2 harg2 arg3 harg3 arg4 harg4 arg5 harg5 arg6 harg6 arg7 harg7 arg8 harg8 arg9 harg9 arg10 harg10 arg11 harg11 arg12 harg12 (wordAt c i arg2 t2) (View.read (Elt F) arg9.view f9) (View.read (Elt F) arg10.view _) (View.read (Elt F) arg11.view _) t3 t4 t5 K)
        isplitl [HT3]; · iexact HT3
        isplitl [HT4]; · iexact HT4
        isplitl [HT5]; · iexact HT5
        isplitl [H9]
        · unfold owns; iexists _; isplitr; swap; · iexact H9
          ipureintro; rfl
        isplitl [H10]
        · unfold owns; iexists _; isplitr; swap; · iexact H10
          ipureintro; rfl
        isplitl [H11]
        · unfold owns; iexists _; isplitr; swap; · iexact H11
          ipureintro; rfl
        iintro ⟨HT3, HT4, HT5, H9, H10, H11⟩
        iapply Hk
        iexists _, _, _
        isplitr
        · ipureintro
          refine ⟨fun h => absurd h hc1, fun h => rfl, fun h => hW c i arg1 harg1 arg2 harg2 arg3 harg3 arg4 harg4 arg5 harg5 arg6 harg6 arg7 harg7 arg8 harg8 arg9 harg9 arg10 harg10 arg11 harg11 arg12 harg12 f7 f8 f11 f12, fun h => absurd hc2 h, rfl⟩
        isplitl [HT1]; · iexact HT1
        isplitl [HT2]; · iexact HT2
        isplitl [HT3]; · iexact HT3
        isplitl [HT4]; · iexact HT4
        isplitl [HT5]; · iexact HT5
        isplitl [H6]
        · iexists _; isplitr; swap; · iexact H6
          ipureintro; rfl
        isplitl [H7]
        · iexists _; isplitr; swap; · iexact H7
          ipureintro; rfl
        isplitl [H8]
        · iexists _; isplitr; swap; · iexact H8
          ipureintro; rfl
        isplitl [H9]; · unfold owns; iexact H9
        isplitl [H10]; · unfold owns; iexact H10
        isplitl [H11]; · unfold owns; iexact H11
        iexists _, _; isplitr; swap; · iexact H12
        ipureintro; rfl
      · rename_i hc2
        iapply (tailRun c i arg1 harg1 arg2 harg2 arg3 harg3 arg4 harg4 arg5 harg5 arg6 harg6 arg7 harg7 arg8 harg8 arg9 harg9 arg10 harg10 arg11 harg11 arg12 harg12 (wordAt c i arg2 t2) (View.read (Elt F) arg9.view f9) (View.read (Elt F) arg10.view _) (View.read (Elt F) arg11.view _) t3 t4 t5 K)
        isplitl [HT3]; · iexact HT3
        isplitl [HT4]; · iexact HT4
        isplitl [HT5]; · iexact HT5
        isplitl [H9]
        · unfold owns; iexists _; isplitr; swap; · iexact H9
          ipureintro; rfl
        isplitl [H10]
        · unfold owns; iexists _; isplitr; swap; · iexact H10
          ipureintro; rfl
        isplitl [H11]
        · unfold owns; iexists _; isplitr; swap; · iexact H11
          ipureintro; rfl
        iintro ⟨HT3, HT4, HT5, H9, H10, H11⟩
        iapply Hk
        iexists _, _, _
        isplitr
        · ipureintro
          refine ⟨fun h => absurd h hc1, fun h => rfl, fun h => absurd h hc2, fun h => rfl, rfl⟩
        isplitl [HT1]; · iexact HT1
        isplitl [HT2]; · iexact HT2
        isplitl [HT3]; · iexact HT3
        isplitl [HT4]; · iexact HT4
        isplitl [HT5]; · iexact HT5
        isplitl [H6]
        · iexists _; isplitr; swap; · iexact H6
          ipureintro; rfl
        isplitl [H7]
        · iexists _; isplitr; swap; · iexact H7
          ipureintro; rfl
        isplitl [H8]
        · iexists _; isplitr; swap; · iexact H8
          ipureintro; rfl
        isplitl [H9]; · unfold owns; iexact H9
        isplitl [H10]; · unfold owns; iexact H10
        isplitl [H11]; · unfold owns; iexact H11
        iexists _, _; isplitr; swap; · iexact H12
        ipureintro; rfl

end Cert.Kernel.Gen

end
-- ==== Proof.KernelRun.lean ====
module

public import proofs.«01_k».proof.Proof.KernelBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- The host operations before the launch, stretch by stretch. -/
abbrev hostAll : List (List (HloOp τ sig (Elt F))) :=
  [hostOps0, hostOps0_1, hostOps0_2, hostOps0_3, hostOps0_4, hostOps0_5, hostOps0_6, hostOps0_7, hostOps0_8, hostOps0_9, hostOps0_10, hostOps0_11]

/-- A core's buffers when the launch begins. -/
def V (c : Dev nD) (b : Ref sig .tc) : Buf (Elt F) ((c : Thread nD τ).loc b) :=
  StableHlo.after (hostAll (F := F)).flatten (fun b => m (c, b)) b

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostAll
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩
    (by
      refine ⟨?_, ?_, ?_, ?_, ?_, ?_, ?_, ?_, ?_, ?_, ?_, ?_⟩ <;> repeat' (first | refine ⟨rfl, ?_⟩ | rfl))
    main_chain

/-! ## The tables -/

/-- The tables' contents when the launch begins. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
attribute [irreducible] V tbl

/-- Every window's block lies in its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves, one by one. -/
theorem PhiT0_eq (c : Dev nD) : (Pipeline.ΦT pre0 (tbl m) c : sProp 𝕄)
    = iprop(tbPt c (Memref.whole main_v25) (tbl m 0) ∗ tbPt c (Memref.whole main_v49) (tbl m 1) ∗ tbPt c (Memref.whole main_v56) (tbl m 2)
        ∗ tbPt c (Memref.whole main_v63) (tbl m 3) ∗ tbPt c (Memref.whole main_v64) (tbl m 4)) := by
  unfold Pipeline.ΦT Pipeline.prefHeld
  rw [BI.bigSep_eq_bigSepL_of_eq [(0 : Fin 5), 1, 2, 3, 4] (by decide) (by decide)]
  rfl

/-- The words of the five tables at a point. -/
def wE (c : Dev nD) (t : Fin grid0.N) : BitVec 32 := wordAt c (grid0.coords t) (Memref.whole main_v25) (tbl m 0)
def wT (c : Dev nD) (t : Fin grid0.N) : BitVec 32 := wordAt c (grid0.coords t) (Memref.whole main_v49) (tbl m 1)
def wLo (c : Dev nD) (t : Fin grid0.N) : BitVec 32 := wordAt c (grid0.coords t) (Memref.whole main_v56) (tbl m 2)
def wHi (c : Dev nD) (t : Fin grid0.N) : BitVec 32 := wordAt c (grid0.coords t) (Memref.whole main_v63) (tbl m 3)
def wLive (c : Dev nD) (t : Fin grid0.N) : BitVec 32 := wordAt c (grid0.coords t) (Memref.whole main_v64) (tbl m 4)

/-! ## The blocks -/

/-- Window `w`'s block at point `t`, read off its array as the launch finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The three input blocks at a point, at their literal shapes. -/
def xBlk (hO : Ok m) (c : Dev nD) (t : Fin (cfgM m hO).N) : Vec F S256x1408 .bf16 := iblk m hO c 0 t
def wBlk (hO : Ok m) (c : Dev nD) (t : Fin (cfgM m hO).N) : Vec F S1x2816x1408 .fp8e4m3 := iblk m hO c 1 t
def sBlk (hO : Ok m) (c : Dev nD) (t : Fin (cfgM m hO).N) : Vec F S1x2816x44 .i8 := iblk m hO c 2 t

variable (QX : Vec F S256x1408 .bf16 → Vec F S256x1408 .bf16 → Prop)
  (QW : Vec F S1x2816x1408 .fp8e4m3 → Vec F S1x2816x44 .i8 → Vec F S1408x2816 .bf16 → Prop)

/-- What the scratch holds after point `t`: the requantised tokens and the dequantised weights of that point's blocks. -/
def Held (hO : Ok m) (c : Dev nD) (t : Fin (cfgM m hO).N) (g10 : Vec F S256x1408 .bf16) (g11 : Vec F S1408x2816 .bf16) : Prop :=
  QX (xBlk m hO c t) g10 ∧ QW (wBlk m hO c t) (sBlk m hO c t) g11

/-- What the scratch holds before point `t`. -/
def HeldBefore (hO : Ok m) (c : Dev nD) (t : Fin ((cfgM m hO).N + 1)) (g10 : Vec F S256x1408 .bf16) (g11 : Vec F S1408x2816 .bf16) : Prop :=
  ∀ h : 0 < t.val, Held m QX QW hO c ⟨t.val - 1, by have := t.isLt; omega⟩ g10 g11

/-- A step's result block: from the scratch of that step. -/
def Left (hO : Ok m) (c : Dev nD) (t : Fin (cfgM m hO).N) (Y X : Vec F S256x2816 .bf16) : Prop :=
  ∃ g10 g11, Held m QX QW hO c t g10 g11 ∧ X = stepOut (wLive m c t) (wT m c t) (wLo m c t) (wHi m c t) g10 g11 Y

/-- The launch's proof data: each input block stays, the result block is as `Left` says; the scratch as `HeldBefore` says. -/
def rdat (hO : Ok m) (c : Dev nD) : RDat τ (Elt F) Unit ℕ (UR sig nD τ) ℕ (cfgM m hO) c where
  A w := V m c (Pipeline.arrRef spec0 w)
  after w t Y X := match w, Y, X with
    | ⟨0, _⟩, Y, X => X = Y
    | ⟨1, _⟩, Y, X => X = Y
    | ⟨2, _⟩, Y, X => X = Y
    | ⟨3, _⟩, Y, X => Left m QX QW hO c t Y X
  Φ t := iprop(Pipeline.ΦT pre0 (tbl m) c ∗ (∃ r, prngReg c r)
    ∗ ∃ g10 g11, ⌜HeldBefore m QX QW hO c t g10 g11⌝ ∗ owns (c : Thread nD τ) (Memref.whole cc0_scratch0) fullShare g10
      ∗ owns (c : Thread nD τ) (Memref.whole cc0_scratch1) fullShare g11 ∗ ∃ g12, owns (c : Thread nD τ) (Memref.whole cc0_scratch2) fullShare g12)
  q _ := fullShare
  owed _ := 0

/-- An input window's buffer holds the block of its point. -/
theorem finds_in {cfg : Cfg sig Λ₀} {c : Dev nD} (rd : RDat τ (Elt F) Unit ℕ (UR sig nD τ) ℕ cfg c) (w : Fin cfg.W) (hin : (cfg.win w).isOut = false)
    (hc : ∀ t t', (cfg.win w).clip (cfg.grid.coords t) = (cfg.win w).clip (cfg.grid.coords t'))
    (ha : ∀ t Y X, rd.after w t Y X → X = Y) : ∀ (n : ℕ) (t : Fin cfg.N), t.val = n → ∀ Y, rd.Finds w t Y → ∃ d, Y = rd.fetched w t d := by
  intro n
  induction n with
  | zero =>
    intro t ht Y h
    refine (rd.finds_of_fetch ?_ Y).mp h
    unfold Window.fetch; simp [hin, ht]
  | succ n ih =>
    intro t ht Y h
    by_cases hf : (cfg.win w).fetch t = true
    · exact (rd.finds_of_fetch hf Y).mp h
    · have hf' : (cfg.win w).fetch t = false := eq_false_of_ne_true hf
      have hidx : (cfg.win w).index t = (cfg.win w).index ⟨t.val - 1, Nat.lt_of_le_of_lt (Nat.sub_le _ _) t.isLt⟩ := by
        by_contra hne
        apply hf
        unfold Window.fetch
        rw [hin]
        simp only [Bool.not_false, Bool.true_and, Bool.or_eq_true, decide_eq_true_eq]
        exact .inr ⟨by omega, hne⟩
      rcases (rd.finds_of_pos hf' (by omega) Y).mp h with hfl | ⟨Y', hY', hL⟩
      · exfalso; unfold Window.flush at hfl; rw [hin] at hfl; simp at hfl
      · obtain rfl := ha _ _ _ hL
        obtain ⟨d, hd⟩ := ih ⟨t.val - 1, Nat.lt_of_le_of_lt (Nat.sub_le _ _) t.isLt⟩ (by show t.val - 1 = n; omega) _ hY'
        exact ⟨d, hd.trans (rd.fetched_congr w hidx (hc _ _) d).symm⟩

theorem finds0 (hO : Ok m) (c : Dev nD) (t : Fin (cfgM m hO).N) (Y) (h : (rdat m QX QW hO c).Finds 0 t Y) : Y = xBlk m hO c t := by
  obtain ⟨d, rfl⟩ := finds_in (rdat m QX QW hO c) 0 rfl (fun _ _ => rfl) (fun _ _ _ h => h) t.val t rfl Y h
  rfl
theorem finds1 (hO : Ok m) (c : Dev nD) (t : Fin (cfgM m hO).N) (Y) (h : (rdat m QX QW hO c).Finds 1 t Y) : Y = wBlk m hO c t := by
  obtain ⟨d, rfl⟩ := finds_in (rdat m QX QW hO c) 1 rfl (fun _ _ => rfl) (fun _ _ _ h => h) t.val t rfl Y h
  rfl
theorem finds2 (hO : Ok m) (c : Dev nD) (t : Fin (cfgM m hO).N) (Y) (h : (rdat m QX QW hO c).Finds 2 t Y) : Y = sBlk m hO c t := by
  obtain ⟨d, rfl⟩ := finds_in (rdat m QX QW hO c) 2 rfl (fun _ _ => rfl) (fun _ _ _ h => h) t.val t rfl Y h
  rfl

/-! ## When the blocks do not move -/

theorem newWord_ne (i : grid0.Coords) (w w' : BitVec 32) (h : newWord i w w' ≠ 1#1) : (i 0).val ≠ 0 ∧ w = w' := by
  have key : ∀ a b : Bool, Scalar.cmpi .ne (Scalar.extui (Scalar.ori (BitVec.ofBool a) (BitVec.ofBool b)) : BitVec 32) 0#32 ≠ 1#1 → a = false ∧ b = false := by decide
  have := key _ _ h
  constructor
  · intro h0; rw [h0] at this; exact absurd this.1 (by decide)
  · have h2 := this.2
    simpa using h2

theorem off_prev : ∀ t : Fin grid0.N, t.val ≠ 0 → k0_off2 (grid0.coords t) = k0_off1 (grid0.coords ⟨t.val - 1, Nat.lt_of_le_of_lt (Nat.sub_le _ _) t.isLt⟩) := by
  decide +kernel

theorem coords_val : ∀ t : Fin grid0.N, ((grid0.coords t) 0).val = t.val := by decide +kernel

theorem wordPrev_eq (c : Dev nD) (t : Fin grid0.N) (ht : t.val ≠ 0) (M : Memref sig .tc .smem S191 .i32) (f : TbBuf (F := F) c M) :
    wordPrev c (grid0.coords t) M f = wordAt c (grid0.coords ⟨t.val - 1, Nat.lt_of_le_of_lt (Nat.sub_le _ _) t.isLt⟩) M f := by
  have gen : ∀ (o o' : Fin 1 → ℕ) (h h'), o = o' →
      M.view.readAt (Elt F) (Rect.unit (s := S191) o S1.size h).toLoadRect f (Shape.Idx.first (numel1_S1.symm ▸ Nat.one_pos))
        = M.view.readAt (Elt F) (Rect.unit (s := S191) o' S1.size h').toLoadRect f (Shape.Idx.first (numel1_S1.symm ▸ Nat.one_pos)) := by
    intro o o' h h' e; subst e; rfl
  exact gen _ _ _ _ (off_prev t ht)

/-- The index maps are the tables' words. -/
theorem ix_tile (pf : pre0.Contents (Elt F)) (i : grid0.Coords) (w : Fin 4) (hw : w = 0 ∨ w = 3) (a) :
    ix0 pf w i a = if a.val = 0 then (wordAt 0 i (Memref.whole main_v49) (pf 1)).toNat else 0 := by
  rcases hw with rfl | rfl <;> (revert a; intro (a : Fin 2); fin_cases a <;> rfl)
theorem ix_expert (pf : pre0.Contents (Elt F)) (i : grid0.Coords) (w : Fin 4) (hw : w = 1 ∨ w = 2) (a) :
    ix0 pf w i a = if a.val = 0 then (wordAt 0 i (Memref.whole main_v25) (pf 0)).toNat else 0 := by
  rcases hw with rfl | rfl <;> (revert a; intro (a : Fin 3); fin_cases a <;> rfl)

theorem idxT (hO : Ok m) (w : Fin 4) (hw : w = 0 ∨ w = 3) (t t' : Fin (cfgM m hO).N) (h : wT m 0 t = wT m 0 t') : ((cfgM m hO).win w).index t = ((cfgM m hO).win w).index t' := by
  funext a
  refine (ix_tile (tbl m) (grid0.coords t) w hw a).trans (Eq.trans ?_ (ix_tile (tbl m) (grid0.coords t') w hw a).symm)
  exact congrArg (fun x : BitVec 32 => if a.val = 0 then x.toNat else 0) h
theorem idxE (hO : Ok m) (w : Fin 4) (hw : w = 1 ∨ w = 2) (t t' : Fin (cfgM m hO).N) (h : wE m 0 t = wE m 0 t') : ((cfgM m hO).win w).index t = ((cfgM m hO).win w).index t' := by
  funext a
  refine (ix_expert (tbl m) (grid0.coords t) w hw a).trans (Eq.trans ?_ (ix_expert (tbl m) (grid0.coords t') w hw a).symm)
  exact congrArg (fun x : BitVec 32 => if a.val = 0 then x.toNat else 0) h

theorem xBlk_congr (hO : Ok m) (c : Dev nD) (t t' : Fin (cfgM m hO).N) (h : wT m 0 t = wT m 0 t') : xBlk m hO c t = xBlk m hO c t' :=
  (rdat m (fun _ _ => True) (fun _ _ _ => True) hO c).fetched_congr 0 (idxT m hO 0 (.inl rfl) t t' h) rfl (fun _ => Classical.arbitrary _)
theorem wBlk_congr (hO : Ok m) (c : Dev nD) (t t' : Fin (cfgM m hO).N) (h : wE m 0 t = wE m 0 t') : wBlk m hO c t = wBlk m hO c t' :=
  (rdat m (fun _ _ => True) (fun _ _ _ => True) hO c).fetched_congr 1 (idxE m hO 1 (.inl rfl) t t' h) rfl (fun _ => Classical.arbitrary _)
theorem sBlk_congr (hO : Ok m) (c : Dev nD) (t t' : Fin (cfgM m hO).N) (h : wE m 0 t = wE m 0 t') : sBlk m hO c t = sBlk m hO c t' :=
  (rdat m (fun _ _ => True) (fun _ _ _ => True) hO c).fetched_congr 2 (idxE m hO 2 (.inr rfl) t t' h) rfl (fun _ => Classical.arbitrary _)

/-! ## The body obligation -/

variable {QX QW}

/-- The body at a point, over any staging buffers: what it leaves in the scratch is right for the point's blocks. -/
theorem held_step (hO : Ok m) (c : Dev nD) (t : Fin (cfgM m hO).N) {g10 g10' : Vec F S256x1408 .bf16} {g11 g11' : Vec F S1408x2816 .bf16}
    (hB : HeldBefore m QX QW hO c t.castSucc g10 g11)
    (h1 : newWord (grid0.coords t) (wT m c t) (wordPrev c (grid0.coords t) (Memref.whole main_v49) (tbl m 1)) = 1#1 → QX (xBlk m hO c t) g10')
    (h2 : newWord (grid0.coords t) (wT m c t) (wordPrev c (grid0.coords t) (Memref.whole main_v49) (tbl m 1)) ≠ 1#1 → g10' = g10)
    (h3 : newWord (grid0.coords t) (wE m c t) (wordPrev c (grid0.coords t) (Memref.whole main_v25) (tbl m 0)) = 1#1 → QW (wBlk m hO c t) (sBlk m hO c t) g11')
    (h4 : newWord (grid0.coords t) (wE m c t) (wordPrev c (grid0.coords t) (Memref.whole main_v25) (tbl m 0)) ≠ 1#1 → g11' = g11) :
    Held m QX QW hO c t g10' g11' := by
  obtain rfl : c = 0 := Subsingleton.elim _ _
  constructor
  · by_cases h : newWord (grid0.coords t) (wT m 0 t) (wordPrev 0 (grid0.coords t) (Memref.whole main_v49) (tbl m 1)) = 1#1
    · exact h1 h
    · rw [h2 h]
      obtain ⟨h0, he⟩ := newWord_ne _ _ _ h
      rw [coords_val t] at h0
      have he := he.trans (wordPrev_eq 0 t h0 _ _)
      rw [xBlk_congr m hO 0 t _ he]
      exact (hB (Nat.pos_of_ne_zero h0)).1
  · by_cases h : newWord (grid0.coords t) (wE m 0 t) (wordPrev 0 (grid0.coords t) (Memref.whole main_v25) (tbl m 0)) = 1#1
    · exact h3 h
    · rw [h4 h]
      obtain ⟨h0, he⟩ := newWord_ne _ _ _ h
      rw [coords_val t] at h0
      have he := he.trans (wordPrev_eq 0 t h0 _ _)
      rw [wBlk_congr m hO 0 t _ he, sBlk_congr m hO 0 t _ he]
      exact (hB (Nat.pos_of_ne_zero h0)).2

end Cert.Kernel.Gen

end
-- ==== Proof.KernelLaunch.lean ====
module

public import proofs.«01_k».proof.Proof.KernelRun

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {QX : Vec F S256x1408 .bf16 → Vec F S256x1408 .bf16 → Prop}
  {QW : Vec F S1x2816x1408 .fp8e4m3 → Vec F S1x2816x44 .i8 → Vec F S1408x2816 .bf16 → Prop}

/-! ## The body obligation -/

/-- The body at a point, as the launch calls it. -/
abbrev bodyAt (hO : Ok m) (t : Fin (cfgM m hO).N) : Prog (TpuEff nD τ sig (Elt F) Λ₀ .tc) PUnit :=
  cc0_grouped_mm (grid0.coords t) (Memref.whole main_v25) (Memref.isWhole_whole _) (Memref.whole main_v49) (Memref.isWhole_whole _) (Memref.whole main_v56) (Memref.isWhole_whole _) (Memref.whole main_v63) (Memref.isWhole_whole _) (Memref.whole main_v64) (Memref.isWhole_whole _)
    (spec0_0.stage ((cfgM m hO).slots t 0)) (hstage0_0 (((cfgM m hO).slots t 0).cast nbuf0_0)) (spec0_1.stage ((cfgM m hO).slots t 1)) (hstage0_1 (((cfgM m hO).slots t 1).cast nbuf0_1))
    (spec0_2.stage ((cfgM m hO).slots t 2)) (hstage0_2 (((cfgM m hO).slots t 2).cast nbuf0_2)) (spec0_3.stage ((cfgM m hO).slots t 3)) (hstage0_3 (((cfgM m hO).slots t 3).cast nbuf0_3))
    (Memref.whole cc0_scratch0) (Memref.isWhole_whole _) (Memref.whole cc0_scratch1) (Memref.isWhole_whole _) (Memref.whole cc0_scratch2) (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 1000000 in
theorem body_obligation (hX : XOk QX) (hW : WOk QW) (hO : Ok m) (c : Dev nD) :
    (rdat m QX QW hO c).BodyObligation (defs₀ (F := F)) Variants.none () Set.univ := by
  intro t Y hY
  have h0 := finds0 m QX QW hO c t _ (hY 0)
  have h1 := finds1 m QX QW hO c t _ (hY 1)
  have h2 := finds2 m QX QW hO c t _ (hY 2)
  rw [bigSep_W0, bigSep_W0, defs₀_row m hO]
  rw [h0, h1, h2]
  rw [show (rdat m QX QW hO c).Φ t.castSucc = iprop(Pipeline.ΦT pre0 (tbl m) c ∗ (∃ r, prngReg c r)
    ∗ ∃ g10 g11, ⌜HeldBefore m QX QW hO c t.castSucc g10 g11⌝ ∗ owns (c : Thread nD τ) (Memref.whole cc0_scratch0) fullShare g10
      ∗ owns (c : Thread nD τ) (Memref.whole cc0_scratch1) fullShare g11 ∗ ∃ g12, owns (c : Thread nD τ) (Memref.whole cc0_scratch2) fullShare g12) from rfl]
  rw [show (rdat m QX QW hO c).Φ t.succ = iprop(Pipeline.ΦT pre0 (tbl m) c ∗ (∃ r, prngReg c r)
    ∗ ∃ g10 g11, ⌜HeldBefore m QX QW hO c t.succ g10 g11⌝ ∗ owns (c : Thread nD τ) (Memref.whole cc0_scratch0) fullShare g10
      ∗ owns (c : Thread nD τ) (Memref.whole cc0_scratch1) fullShare g11 ∗ ∃ g12, owns (c : Thread nD τ) (Memref.whole cc0_scratch2) fullShare g12) from rfl]
  rw [PhiT0_eq]
  rw [show (rdat m QX QW hO c).owesAt () t.castSucc = (rdat m QX QW hO c).owesAt () t.succ from rfl]
  iintro ⟨⟨⟨HT1, HT2, HT3, HT4, HT5⟩, Hg, ⟨%g10, %g11, %hB, H10, H11, ⟨%g12, H12⟩⟩⟩, HW, H6, H7, H8, H9⟩
  iapply (bodyRun hX hW c (grid0.coords t) (Memref.whole main_v25) (Memref.isWhole_whole _) (Memref.whole main_v49) (Memref.isWhole_whole _) (Memref.whole main_v56) (Memref.isWhole_whole _) (Memref.whole main_v63) (Memref.isWhole_whole _) (Memref.whole main_v64) (Memref.isWhole_whole _)
    (spec0_0.stage ((cfgM m hO).slots t 0)) (hstage0_0 (((cfgM m hO).slots t 0).cast nbuf0_0)) (spec0_1.stage ((cfgM m hO).slots t 1)) (hstage0_1 (((cfgM m hO).slots t 1).cast nbuf0_1))
    (spec0_2.stage ((cfgM m hO).slots t 2)) (hstage0_2 (((cfgM m hO).slots t 2).cast nbuf0_2)) (spec0_3.stage ((cfgM m hO).slots t 3)) (hstage0_3 (((cfgM m hO).slots t 3).cast nbuf0_3))
    (Memref.whole cc0_scratch0) (Memref.isWhole_whole _) (Memref.whole cc0_scratch1) (Memref.isWhole_whole _) (Memref.whole cc0_scratch2) (Memref.isWhole_whole _)
    (xBlk m hO c t) (wBlk m hO c t) (sBlk m hO c t) (Y 3) g10 g11 (tbl m 0) (tbl m 1) (tbl m 2) (tbl m 3) (tbl m 4))
  isplitl [HT1]; · iexact HT1
  isplitl [HT2]; · iexact HT2
  isplitl [HT3]; · iexact HT3
  isplitl [HT4]; · iexact HT4
  isplitl [HT5]; · iexact HT5
  isplitl [H6]; · iexact H6
  isplitl [H7]; · iexact H7
  isplitl [H8]; · iexact H8
  isplitl [H9]; · iexact H9
  isplitl [H10]; · iexact H10
  isplitl [H11]; · iexact H11
  isplitl [H12]; · iexists g12; iexact H12
  iintro ⟨%g10', %g11', %y, %hp, HT1, HT2, HT3, HT4, HT5, H6, H7, H8, H9, H10, H11, ⟨%g12', H12⟩⟩
  have hH : Held m QX QW hO c t g10' g11' := held_step m hO c t hB hp.1 hp.2.1 hp.2.2.1 hp.2.2.2.1
  isplitl [HT1 HT2 HT3 HT4 HT5 Hg H10 H11 H12]
  · isplitl [HT1 HT2 HT3 HT4 HT5]
    · isplitl [HT1]; · iexact HT1
      isplitl [HT2]; · iexact HT2
      isplitl [HT3]; · iexact HT3
      isplitl [HT4]; · iexact HT4
      iexact HT5
    isplitl [Hg]; · iexact Hg
    iexists g10', g11'
    isplitr; · ipureintro; exact fun _ => hH
    isplitl [H10]; · iexact H10
    isplitl [H11]; · iexact H11
    iexists g12'; iexact H12
  isplitl [HW]; · iexact HW
  isplitl [H6]; · iexists _; isplitr; swap; · iexact H6
                  ipureintro; exact rfl
  isplitl [H7]; · iexists _; isplitr; swap; · iexact H7
                  ipureintro; exact rfl
  isplitl [H8]; · iexists _; isplitr; swap; · iexact H8
                  ipureintro; exact rfl
  iexists y; isplitr; swap; · iexact H9
  ipureintro; exact ⟨g10', g11', hH, hp.2.2.2.2⟩

/-! ## The run -/

set_option backward.isDefEq.respectTransparency.types false in
/-- Every execution ends: the arrays of the windows as the write-backs of blocks in the relation `Left` make them, every other buffer unchanged, the semaphores at zero. -/
theorem run (hX : XOk QX) (hW : WOk QW) (hO : Ok m) :
    θ_run defs (onTc (τ := τ) (main (F := F))) (s₀ m ρ) (fun r => Pipeline.RDat.FramePost ((Pipeline.pin pcfgs fun _ => adm m hO) 0) (rdat m QX QW hO) (V m) r ∧ r.2.sem = fun _ => 0) :=
  Pipeline.RDat.θ_run_frameP_track (Q' := _) pcfgs (fun _ => adm m hO) (0 : Fin 1) launch0 defs₀ Variants.none (rdat m QX QW hO) m ρ main
    (hbody := fun c => body_obligation m hX hW hO c) (hshare := fun c w => by unfold RDat.share; split <;> rfl)
    (howed := fun _ _ => rfl) (V := V m) (hmain := hmain m Variants.none) (hA := fun _ _ => rfl) (hpf := V_pre m)
    (hin := fun c => by
      show iprop(Pipeline.ΦA spec0 c ∗ Pipeline.ΦT pre0 (tbl m) c) ⊢ iprop(Pipeline.ΦT pre0 (tbl m) c ∗ (∃ r, prngReg c r)
        ∗ ∃ g10 g11, ⌜HeldBefore m QX QW hO c 0 g10 g11⌝ ∗ owns (c : Thread nD τ) (Memref.whole cc0_scratch0) fullShare g10
          ∗ owns (c : Thread nD τ) (Memref.whole cc0_scratch1) fullShare g11 ∗ ∃ g12, owns (c : Thread nD τ) (Memref.whole cc0_scratch2) fullShare g12)
      unfold Pipeline.ΦA
      rw [scopedRest0_eq]
      iintro ⟨⟨⟨⟨%f0, H0⟩, ⟨%f1, H1⟩, ⟨%f2, H2⟩⟩, Hg⟩, HT⟩
      isplitl [HT]; · iexact HT
      isplitl [Hg]; · iexact Hg
      iexists f0, f1
      isplitr; · ipureintro; exact fun h => absurd h (Nat.lt_irrefl 0)
      isplitl [H0]; · rw [owns_whole]; iexact H0
      isplitl [H1]; · rw [owns_whole]; iexact H1
      iexists f2; rw [owns_whole]; iexact H2)
    (hout := fun c => by
      show iprop(Pipeline.ΦT pre0 (tbl m) c ∗ (∃ r, prngReg c r)
        ∗ ∃ g10 g11, ⌜HeldBefore m QX QW hO c (Fin.last _) g10 g11⌝ ∗ owns (c : Thread nD τ) (Memref.whole cc0_scratch0) fullShare g10
          ∗ owns (c : Thread nD τ) (Memref.whole cc0_scratch1) fullShare g11 ∗ ∃ g12, owns (c : Thread nD τ) (Memref.whole cc0_scratch2) fullShare g12)
        ⊢ Pipeline.ΦA spec0 c
      unfold Pipeline.ΦA
      rw [scopedRest0_eq]
      iintro ⟨-, Hg, ⟨%g10, %g11, -, H0, H1, ⟨%g12, H2⟩⟩⟩
      isplitr [Hg]; swap; · iexact Hg
      isplitl [H0]; · iexists g10; rw [owns_whole]; exact .rfl
      isplitl [H1]; · iexists g11; rw [owns_whole]; exact .rfl
      iexists g12; rw [owns_whole]; exact .rfl)

end Cert.Kernel.Gen

end
-- ==== Proof.KernelTables.lean ====
module

public import proofs.«01_k».proof.Proof.KernelRun
public import Idealize.ShloMosaic.Lib.StableHlo.ReadAt
public import Idealize.ShloMosaic.Lib.StableHlo.RunRead
public import Idealize.ShloMosaic.Lib.Routing.OpsSet
public import Idealize.ShloMosaic.Lib.Routing.OpsSearch

@[expose] public section

set_option maxRecDepth 16384

noncomputable section

namespace Cert.Kernel.Gen

open Idealize.ShloMosaic Idealize.ShloMosaic.TcCoe Idealize.ShloMosaic.Tactic

/-! The work list as functions of the group sizes, as the host program writes it. -/

/-- Where each expert's rows end. -/
def tEnds (g : IVec S64 32) : IVec S64 32 :=
  Host.reduceWindow IntOp.addi ![64] ![1] ![63] ![0] g (broadcastInDim S_ ![] bcast_S_S_ (constantI S_ 32 0#32))
    reduceWindows_S64_S64_w64s1p63_0 h_S_
/-- Where each expert's rows start. -/
def tStarts (g : IVec S64 32) : IVec S64 32 := subi (tEnds g) g
/-- The rounded-down quotient by a scalar. -/
def tDiv (x : IVec S64 32) (d : IVec S_ 32) : IVec S64 32 :=
  select (andi (cmpi .ne (signi x) (broadcastInDim S64 ![] bcast_S_S64 (signi d)))
      (cmpi .ne (Host.remsi x (broadcastInDim S64 ![] bcast_S_S64 d)) (broadcastInDim S64 ![] bcast_S_S64 (constantI S_ 32 0#32))))
    (subi (Host.divsi x (broadcastInDim S64 ![] bcast_S_S64 d)) (broadcastInDim S64 ![] bcast_S_S64 (constantI S_ 32 1#32)))
    (Host.divsi x (broadcastInDim S64 ![] bcast_S_S64 d))
/-- Each expert's first row block. -/
def tFirst (g : IVec S64 32) : IVec S64 32 := tDiv (tStarts g) (constantI S_ 32 256#32)
/-- Each expert's last row block, the one before its first where it has no rows. -/
def tLast (g : IVec S64 32) : IVec S64 32 :=
  select (cmpi .sgt g (broadcastInDim S64 ![] bcast_S_S64 (constantI S_ 32 0#32)))
    (tDiv (subi (tEnds g) (broadcastInDim S64 ![] bcast_S_S64 (constantI S_ 32 1#32))) (constantI S_ 32 256#32))
    (subi (tFirst g) (broadcastInDim S64 ![] bcast_S_S64 (constantI S_ 32 1#32)))
/-- How many row blocks each expert visits. -/
def tCount (g : IVec S64 32) : IVec S64 32 :=
  addi (subi (tLast g) (tFirst g)) (broadcastInDim S64 ![] bcast_S_S64 (constantI S_ 32 1#32))
/-- The running count of visits. -/
def tCend (g : IVec S64 32) : IVec S64 32 :=
  Host.reduceWindow IntOp.addi ![64] ![1] ![63] ![0] (tCount g) (broadcastInDim S_ ![] bcast_S_S_ (constantI S_ 32 0#32))
    reduceWindows_S64_S64_w64s1p63_0 h_S_
/-- The number of visits, as a scalar. -/
def tTot (g : IVec S64 32) : IVec S_ 32 :=
  shapeCast S_ (extractStridedSlice S1 ![63] (tCend g) slices_S64_S1_63) shapeCasts_S1_S_
/-- Each entry's visit, the last one repeated. -/
def tVisit (g : IVec S64 32) : IVec S191 32 :=
  minsi (iotaInDim S191 32 0) (broadcastInDim S191 ![] bcast_S_S191 (subi (tTot g) (constantI S_ 32 1#32)))
/-- Each entry's expert. -/
def tExpert (g : IVec S64 32) : IVec S191 32 :=
  Host.reduce IntOp.addi (extui 32 (cmpi .sle
      (broadcastInDim S64x191 ![0, 1] bcast_S64x1_S64x191_0_1 (broadcastInDim S64x1 ![0] bcast_S64_S64x1_0 (tCend g)))
      (broadcastInDim S64x191 ![0, 1] bcast_S1x191_S64x191_0_1 (broadcastInDim S1x191 ![1] bcast_S191_S1x191_1 (tVisit g)))) natLt_1_32)
    (constantI S_ 32 0#32) reducesTo_S64x191_S191_d0 h_S_
/-- An expert's entry of a table, at each entry's expert. -/
def tAt (e : IVec S191 32) (x : IVec S64 32) : IVec S191 32 :=
  Host.gather gather_S64_S191x1_S191_n_0_n_n_0_1_1 x (broadcastInDim S191x1 ![0] bcast_S191_S191x1_0
    (select (cmpi .slt e (broadcastInDim S191 ![] bcast_S_S191 (constantI S_ 32 0#32)))
      (addi e (broadcastInDim S191 ![] bcast_S_S191 (constantI S_ 32 64#32))) e))
/-- Each entry's row block. -/
def tTile (g : IVec S64 32) : IVec S191 32 :=
  subi (addi (tAt (tExpert g) (tFirst g)) (tVisit g)) (subi (tAt (tExpert g) (tCend g)) (tAt (tExpert g) (tCount g)))
/-- Whether an entry is a visit of its own. -/
def tLive (g : IVec S64 32) : IVec S191 32 :=
  extui 32 (cmpi .slt (iotaInDim S191 32 0) (broadcastInDim S191 ![] bcast_S_S191 (tTot g))) natLt_1_32

variable {F : FTy → Type} [FloatOps F]
variable (m : (ℓ : Loc nD τ sig) → Buf (Elt F) ℓ)

set_option maxHeartbeats 4000000 in
/-- The five tables, as functions of the group sizes. -/
theorem V_tables (c : Dev nD) : V m c main_v25 = tExpert (m (c, main_arg1)) ∧ V m c main_v49 = tTile (m (c, main_arg1))
    ∧ V m c main_v56 = tAt (tExpert (m (c, main_arg1))) (tStarts (m (c, main_arg1)))
    ∧ V m c main_v63 = tAt (tExpert (m (c, main_arg1))) (tEnds (m (c, main_arg1)))
    ∧ V m c main_v64 = tLive (m (c, main_arg1)) := by
  refine ⟨?_, ?_, ?_, ?_, ?_⟩
  all_goals
    unfold V
    unfold_abbrev_sides
    after_reads_simp
    simp -implicitDefEqProofs only [StableHlo.TRef.toBuf, StableHlo.TRef.ofBuf, cast_cast, cast_eq]
    clean_types
    simp only [tTile, tAt, tExpert, tVisit, tLive, tTot, tCend, tCount, tLast, tFirst, tDiv, tStarts, tEnds, id]
    first | done | rfl

/-- The arguments, as the launch finds them. -/
theorem V_args (c : Dev nD) : V m c main_arg0 = m (c, main_arg0) ∧ V m c main_arg1 = m (c, main_arg1)
    ∧ V m c main_arg2 = m (c, main_arg2) ∧ V m c main_arg3 = m (c, main_arg3) := by
  refine ⟨?_, ?_, ?_, ?_⟩
  all_goals
    unfold V
    unfold_abbrev_sides
    after_reads_simp

end Cert.Kernel.Gen
-- ==== Proof.WorkList.lean ====
module

public import Idealize.ShloMosaic.Lib.Routing.Count

@[expose] public section

/-! The work list on natural numbers: which expert and which row block each step visits, from the group sizes alone. -/

namespace Cert.WorkList

open Idealize.ShloMosaic.Routing

variable (g : Nat → Nat)

/-- The rows of the first `k` experts. -/
def S (k : Nat) : Nat := ((List.range k).map g).sum
/-- How many row blocks expert `e` visits. -/
def cn (e : Nat) : Nat := if 0 < g e then (S g (e + 1) - 1) / 256 - S g e / 256 + 1 else 0
/-- The visits of the first `k` experts. -/
def C (k : Nat) : Nat := ((List.range k).map (cn g)).sum
/-- The expert of visit `j`. -/
def E (j : Nat) : Nat := Nat.count (fun e => C g (e + 1) ≤ j) 64
/-- The row block of visit `j`. -/
def T (j : Nat) : Nat := S g (E g j) / 256 + (j - C g (E g j))

theorem S_succ (k : Nat) : S g (k + 1) = S g k + g k := by
  simp [S, List.range_succ]
theorem C_succ (k : Nat) : C g (k + 1) = C g k + cn g k := by
  simp [C, List.range_succ]
theorem S_mono {a b : Nat} (h : a ≤ b) : S g a ≤ S g b := by
  induction b, h using Nat.le_induction with
  | base => exact le_refl _
  | succ n _ ih => rw [S_succ]; omega
theorem C_mono {a b : Nat} (h : a ≤ b) : C g a ≤ C g b := by
  induction b, h using Nat.le_induction with
  | base => exact le_refl _
  | succ n _ ih => rw [C_succ]; omega

theorem C_bound (k : Nat) : C g k + (if S g k = 0 then 0 else 1) ≤ (S g k + 255) / 256 + k := by
  induction k with
  | zero => simp [S, C]
  | succ k ih =>
    rw [C_succ]
    unfold cn
    have hs := S_succ g k
    split_ifs at ih ⊢ <;> omega

/-- There is a visit once there is a row. -/
theorem C_pos (k : Nat) (h : 0 < S g k) : 0 < C g k := by
  induction k with
  | zero => simp [S] at h
  | succ k ih =>
    rw [C_succ]
    rw [S_succ] at h
    by_cases hg : 0 < g k
    · unfold cn; rw [if_pos hg]; omega
    · have := ih (by omega); omega

section
variable {g} (hS : S g 64 = 32768)
include hS
theorem C_le : C g 64 ≤ 191 := by
  have := C_bound g 64
  rw [hS] at this
  simpa using this
theorem C_gt : 0 < C g 64 := C_pos g 64 (by omega)
theorem S_le {k : Nat} (h : k ≤ 64) : S g k ≤ 32768 := hS ▸ S_mono g h
end

theorem lt_E_iff {j r : Nat} (hr : r < 64) : C g (r + 1) ≤ j ↔ r < E g j :=
  lt_count_iff (Q := fun e => C g (e + 1) ≤ j) (fun _ _ hab _ hb => le_trans (C_mono g (by omega)) hb) hr

section
variable {g} {j : Nat} (hj : j < C g 64)
include hj
theorem E_lt : E g j < 64 := by
  by_contra hc
  have h1 : E g j ≤ 64 := Nat.count_le _
  have h2 : 63 < E g j := by omega
  have h3 : C g (63 + 1) ≤ j := (lt_E_iff g (by omega)).2 h2
  have h4 : C g (63 + 1) = C g 64 := rfl
  omega
theorem C_E_le : C g (E g j) ≤ j := by
  rcases Nat.eq_zero_or_pos (E g j) with h0 | h0
  · rw [h0]; simp [C]
  · have h2 : E g j - 1 < E g j := by omega
    have := (lt_E_iff g (by have := E_lt hj; omega)).2 h2
    rwa [Nat.sub_add_cancel h0] at this
theorem lt_C_E : j < C g (E g j + 1) := by
  by_contra hc
  have := (lt_E_iff g (E_lt hj)).1 (Nat.not_lt.1 hc)
  exact absurd this (lt_irrefl _)
theorem cn_E : j - C g (E g j) < cn g (E g j) := by
  have h1 := C_E_le hj
  have h2 := lt_C_E hj
  rw [C_succ] at h2
  omega
theorem g_E : 0 < g (E g j) := by
  have := cn_E hj
  unfold cn at this
  split_ifs at this <;> omega
theorem T_le : T g j ≤ (S g (E g j + 1) - 1) / 256 := by
  have h := cn_E hj
  have hg := g_E hj
  have hs := S_succ g (E g j)
  unfold cn at h
  rw [if_pos hg] at h
  unfold T
  omega
end

/-- The expert of a visit is the one between whose running counts it lies. -/
theorem E_eq {j e : Nat} (he : e < 64) (h1 : C g e ≤ j) (h2 : j < C g (e + 1)) : E g j = e := by
  have hj : j < C g 64 := lt_of_lt_of_le h2 (C_mono g he)
  have a := C_E_le hj
  have b := lt_C_E hj
  by_contra hne
  rcases Nat.lt_or_gt_of_ne hne with h | h
  · have := C_mono g (show E g j + 1 ≤ e from h); omega
  · have := C_mono g (show e + 1 ≤ E g j from h); omega

theorem T_lt (hS : S g 64 = 32768) {j : Nat} (hj : j < C g 64) : T g j < 128 := by
  have h := T_le hj
  have := S_le hS (show E g j + 1 ≤ 64 from E_lt hj)
  omega

/-- The row blocks of the visits ascend. -/
theorem T_mono {i j : Nat} (hij : i ≤ j) (hj : j < C g 64) : T g i ≤ T g j := by
  have hi : i < C g 64 := by omega
  have hE : E g i ≤ E g j := by
    by_contra hc
    have h1 := C_E_le hi
    have h2 := lt_C_E hj
    have := C_mono g (show E g j + 1 ≤ E g i by omega)
    omega
  rcases Nat.lt_or_eq_of_le hE with h | h
  · have h1 := T_le hi
    have h3 := g_E hi
    have h4 := S_succ g (E g i)
    have h2 := S_mono g (show E g i + 1 ≤ E g j from h)
    have h5 : S g (E g j) / 256 ≤ T g j := Nat.le_add_right _ _
    omega
  · unfold T; rw [h]; omega

/-- Every row is visited: with its own expert, in its own row block. -/
theorem cover {r e : Nat} (he : e < 64) (h1 : S g e ≤ r) (h2 : r < S g (e + 1)) :
    ∃ j, j < C g 64 ∧ E g j = e ∧ T g j = r / 256 := by
  have hs := S_succ g e
  have hc := C_succ g e
  have hg : 0 < g e := by omega
  have hcn : cn g e = (S g (e + 1) - 1) / 256 - S g e / 256 + 1 := by unfold cn; rw [if_pos hg]
  have hE : E g (C g e + (r / 256 - S g e / 256)) = e := E_eq g he (by omega) (by omega)
  refine ⟨C g e + (r / 256 - S g e / 256), lt_of_lt_of_le (b := C g (e + 1)) (by omega) (C_mono g he), hE, ?_⟩
  unfold T
  rw [hE]
  omega

/-- Every row belongs to an expert. -/
theorem owner (hS : S g 64 = 32768) {r : Nat} (hr : r < 32768) : ∃ e, e < 64 ∧ S g e ≤ r ∧ r < S g (e + 1) := by
  have key : ∀ k, r < S g k → ∃ e, e < k ∧ S g e ≤ r ∧ r < S g (e + 1) := by
    intro k
    induction k with
    | zero => intro h; simp [S] at h
    | succ k ih =>
      intro h
      by_cases hk : r < S g k
      · obtain ⟨e, he, h'⟩ := ih hk; exact ⟨e, by omega, h'⟩
      · exact ⟨k, by omega, by omega, h⟩
  exact key 64 (by omega)

/-- A row belongs to one expert only. -/
theorem owner_unique {r a b : Nat} (ha : S g a ≤ r) (ha' : r < S g (a + 1)) (hb : S g b ≤ r) (hb' : r < S g (b + 1)) : a = b := by
  by_contra hne
  rcases Nat.lt_or_gt_of_ne hne with h | h
  · have := S_mono g (show a + 1 ≤ b from h); omega
  · have := S_mono g (show b + 1 ≤ a from h); omega

theorem S_def (k : Nat) : S g k = ((List.range k).map g).sum := rfl
theorem C_def (k : Nat) : C g k = ((List.range k).map (cn g)).sum := rfl
theorem E_def (j : Nat) : E g j = Nat.count (fun e => C g (e + 1) ≤ j) 64 := rfl
theorem E_le (j : Nat) : E g j ≤ 64 := Nat.count_le _

attribute [irreducible] S C cn E T

end Cert.WorkList
-- ==== Proof.KernelTableWords.lean ====
module

public import proofs.«01_k».proof.Proof.KernelTables
public import proofs.«01_k».proof.Proof.WorkList
public import Idealize.ShloMosaic.Lib.Routing.OpsPair

@[expose] public section

set_option maxRecDepth 16384

noncomputable section

namespace Cert.Kernel.Gen

open Idealize.ShloMosaic hiding ix1 ix2 ix3
open Idealize.ShloMosaic.TcCoe Idealize.ShloMosaic.Tactic Idealize.ShloMosaic.WordCmp
open Idealize.ShloMosaic.Routing Idealize.ShloMosaic.ValueIdx
open Cert

/-- The group sizes hold the numbers `n`. -/
def Sizes (g : IVec S64 32) (n : Nat → Nat) : Prop := ∀ e : Fin 64, g (ix1 e) = BitVec.ofNat 32 (n e.val)

variable {g : IVec S64 32} {n : Nat → Nat} (hg : Sizes g n) (hn : WorkList.S n 64 = 32768)
include hg

theorem tEnds_ap (e : Fin 64) : tEnds g (ix1 e) = BitVec.ofNat 32 (WorkList.S n (e.val + 1)) := by
  rw [WorkList.S_def]
  exact cumsum1 (N := 64) (Nm1 := 63) rfl g n hg (broadcastInDim S_ ![] bcast_S_S_ (constantI S_ 32 0#32)) rfl _ _ e

theorem tStarts_ap (e : Fin 64) : tStarts g (ix1 e) = BitVec.ofNat 32 (WorkList.S n e.val) := by
  unfold tStarts
  rw [subi_ap, tEnds_ap hg, hg e, ofNat32_sub (by rw [WorkList.S_succ]; omega), WorkList.S_succ, Nat.add_sub_cancel]

omit hg in
theorem tDiv_ap (x : IVec S64 32) (i : S64.Idx) {a : Nat} (hx : x i = BitVec.ofNat 32 a) (ha : a < 2 ^ 31) :
    tDiv x (constantI S_ 32 256#32) i = BitVec.ofNat 32 (a / 256) := by
  exact pyDiv_ap bcast_S_S64 x (constantI S_ 32 256#32) i hx rfl ha (by decide) (by decide)

include hn

theorem tCount_ap (e : Fin 64) : tCount g (ix1 e) = BitVec.ofNat 32 (WorkList.cn n e.val) := by
  have he := e.isLt
  have h1 := WorkList.S_le hn (show e.val ≤ 64 by omega)
  have h2 := WorkList.S_le hn (show e.val + 1 ≤ 64 by omega)
  have h3 := WorkList.S_succ n e.val
  have hf : tFirst g (ix1 e) = BitVec.ofNat 32 (WorkList.S n e.val / 256) := tDiv_ap _ _ (tStarts_ap hg e) (by omega)
  unfold tCount
  rw [addi_ap, subi_ap, hf, bc0, constantI_at]
  unfold tLast
  rw [select_at, cmpi_at, bc0, constantI_at, hg e, subi_ap, hf, bc0, constantI_at]
  have hc : IntOp.cmpi .sgt (BitVec.ofNat 32 (n e.val)) (0#32) = BitVec.ofBool (decide (0 < n e.val)) := by
    show BitVec.ofBool ((0#32 : BitVec 32).slt _) = _
    rw [show (0#32 : BitVec 32) = BitVec.ofNat 32 0 from rfl, slt_ofNat32 (by decide) (by omega)]
  rw [hc]
  unfold WorkList.cn
  by_cases hp : 0 < n e.val
  · rw [if_pos hp, decide_eq_true hp]
    have hd : tDiv (subi (tEnds g) (broadcastInDim S64 ![] bcast_S_S64 (constantI S_ 32 1#32))) (constantI S_ 32 256#32) (ix1 e)
        = BitVec.ofNat 32 ((WorkList.S n (e.val + 1) - 1) / 256) := by
      refine tDiv_ap _ _ ?_ (by omega)
      rw [subi_ap, tEnds_ap hg, bc0, constantI_at, show (1#32 : BitVec 32) = BitVec.ofNat 32 1 from rfl, ofNat32_sub (by omega)]
    show tDiv _ _ _ - _ + 1#32 = _
    rw [hd, ofNat32_sub (by omega), show (1#32 : BitVec 32) = BitVec.ofNat 32 1 from rfl, BitVec.ofNat_add_ofNat]
  · rw [if_neg hp, decide_eq_false hp]
    show BitVec.ofNat 32 _ - 1#32 - BitVec.ofNat 32 _ + 1#32 = 0#32
    generalize BitVec.ofNat 32 (WorkList.S n e.val / 256) = b
    rw [BitVec.sub_sub, BitVec.add_comm (1#32), ← BitVec.sub_sub, BitVec.sub_self]
    decide

theorem tCend_ap (e : Fin 64) : tCend g (ix1 e) = BitVec.ofNat 32 (WorkList.C n (e.val + 1)) := by
  have h := tCount_ap hg hn
  unfold tCend
  generalize tCount g = x at h
  rw [WorkList.C_def]
  exact cumsum1 (N := 64) (Nm1 := 63) rfl x (WorkList.cn n) h (broadcastInDim S_ ![] bcast_S_S_ (constantI S_ 32 0#32)) rfl _ _ e

theorem tTot_ap : tTot g = fun _ => BitVec.ofNat 32 (WorkList.C n 64) := by
  funext i
  have h := tCend_ap hg hn 63
  unfold tTot
  generalize tCend g = x at h
  have hz : ∀ j : S1.Idx, extractStridedSlice S1 ![63] x slices_S64_S1_63 j = x (ix1 (63 : Fin 64)) := fun j =>
    congrArg x (funext fun a => Fin.ext (by
      match a with
      | ⟨0, _⟩ =>
        have h1 : (j 0).val < 1 := (j 0).isLt
        show 63 + (j 0).val = 63
        omega))
  exact (hz _).trans h

set_option maxHeartbeats 1000000 in
theorem tVisit_ap (i : Fin 191) : tVisit g (ix1 i) = BitVec.ofNat 32 (min i.val (WorkList.C n 64 - 1)) := by
  have h1 := WorkList.C_le hn
  have h2 := WorkList.C_gt hn
  have hi := i.isLt
  unfold tVisit
  rw [tTot_ap hg hn]
  generalize WorkList.C n 64 = K at h1 h2 ⊢
  have hm : ∀ x y : IVec S191 32, minsi x y (ix1 i) = IntOp.minsi (x (ix1 i)) (y (ix1 i)) := fun _ _ => rfl
  rw [hm, iota1_ap]
  rw [bc0, subi_ap, constantI_at, show (1#32 : BitVec 32) = BitVec.ofNat 32 1 from rfl, ofNat32_sub (by omega)]
  unfold IntOp.minsi
  rw [slt_ofNat32 (by omega) (by omega)]
  rcases Nat.lt_or_ge i.val (K - 1) with h | h
  · rw [decide_eq_true h, Nat.min_eq_left (by omega)]; rfl
  · rw [decide_eq_false (by omega), Nat.min_eq_right h]; rfl

/-- The visit of entry `i`. -/
theorem visit_lt (i : Nat) : min i (WorkList.C n 64 - 1) < WorkList.C n 64 := by
  have h2 := WorkList.C_gt hn
  omega

omit hg hn in
/-- The count of the entries of a column that are not above an entry of a row. -/
theorem count_ap (x : IVec S64 32) (y : IVec S191 32) (i : Fin 191) (c : Nat → Nat) (j : Nat) (hc : ∀ e : Fin 64, c (e.val + 1) < 2 ^ 31) (hj : j < 2 ^ 31)
    (hx : ∀ e : Fin 64, x (ix1 e) = BitVec.ofNat 32 (c (e.val + 1))) (hy : y (ix1 i) = BitVec.ofNat 32 j) :
    Host.reduce IntOp.addi (extui 32 (cmpi .sle
      (broadcastInDim S64x191 ![0, 1] bcast_S64x1_S64x191_0_1 (broadcastInDim S64x1 ![0] bcast_S64_S64x1_0 x))
      (broadcastInDim S64x191 ![0, 1] bcast_S1x191_S64x191_0_1 (broadcastInDim S1x191 ![1] bcast_S191_S1x191_1 y))) natLt_1_32)
    (constantI S_ 32 0#32) reducesTo_S64x191_S191_d0 h_S_ (ix1 i) = BitVec.ofNat 32 (Nat.count (fun e => c (e + 1) ≤ j) 64) := by
  apply BitVec.eq_of_toNat_eq
  have hle : Nat.count (fun e => c (e + 1) ≤ j) 64 ≤ 64 := Nat.count_le _
  refine (StableHlo.Predicate.toNat_reduce_count_rows (by decide) _ natLt_1_32 reducesTo_S64x191_S191_d0 h_S_ (ix1 i)).trans ?_
  rw [BitVec.toNat_ofNat, Nat.mod_eq_of_lt (by omega), ← card_filter_fin 64]
  refine congrArg Finset.card (Finset.filter_congr fun q _ => ?_)
  have e1 : ∀ M : IVec S64x191 1, M (StableHlo.Predicate.ij q ((ix1 i : (shape1 191).Idx) 0)) = M (ix2 q i) := fun M =>
    congrArg M (funext fun a => match a with | ⟨0, _⟩ => rfl | ⟨1, _⟩ => rfl)
  refine (Iff.of_eq (congrArg (· = 1#1) (e1 _))).trans ?_
  rw [cmpi_at, show broadcastInDim S64x191 ![0, 1] bcast_S64x1_S64x191_0_1 (broadcastInDim S64x1 ![0] bcast_S64_S64x1_0 x) (ix2 q i) = x (ix1 q) from bcRows _ _ x q i,
    show broadcastInDim S64x191 ![0, 1] bcast_S1x191_S64x191_0_1 (broadcastInDim S1x191 ![1] bcast_S191_S1x191_1 y) (ix2 q i) = y (ix1 i) from bcCols _ _ y q i, hx, hy]
  show BitVec.ofBool (BitVec.sle _ _) = 1#1 ↔ _
  rw [sle_ofNat32 (hc q) hj]
  by_cases h : c (q.val + 1) ≤ j <;> simp [h]

theorem tExpert_ap (i : Fin 191) : tExpert g (ix1 i) = BitVec.ofNat 32 (WorkList.E n (min i.val (WorkList.C n 64 - 1))) := by
  have h1 := WorkList.C_le hn
  have hi := i.isLt
  rw [WorkList.E_def]
  unfold tExpert
  refine count_ap (tCend g) (tVisit g) i (WorkList.C n) _ (fun e => ?_) (by omega) (tCend_ap hg hn) (tVisit_ap hg hn i)
  have := WorkList.C_mono n (show e.val + 1 ≤ 64 by omega)
  omega

theorem tAt_ap (x : IVec S64 32) (i : Fin 191) :
    tAt (tExpert g) x (ix1 i) = x (ix1 ⟨WorkList.E n (min i.val (WorkList.C n 64 - 1)), WorkList.E_lt (visit_lt hg hn i.val)⟩) := by
  have hE := WorkList.E_lt (visit_lt hg hn i.val)
  refine take_ap (N := 64) (n := 191) _ rfl rfl rfl rfl x _ i hE (by omega) ?_
  erw [bcCol]
  rw [select_at, cmpi_at, bc0, constantI_at, tExpert_ap hg hn]
  refine wrap_of_lt _ _ ?_
  rw [BitVec.toNat_ofNat, Nat.mod_eq_of_lt (by omega)]
  omega

set_option maxHeartbeats 1000000 in
theorem tTile_ap (i : Fin 191) : tTile g (ix1 i) = BitVec.ofNat 32 (WorkList.T n (min i.val (WorkList.C n 64 - 1))) := by
  have hj := visit_lt hg hn i.val
  have h1 := WorkList.C_E_le hj
  have h2 := WorkList.lt_C_E hj
  have h3 := WorkList.C_succ n (WorkList.E n (min i.val (WorkList.C n 64 - 1)))
  have hE := WorkList.E_lt hj
  have h5 := WorkList.S_le hn (show WorkList.E n (min i.val (WorkList.C n 64 - 1)) ≤ 64 by omega)
  unfold tTile
  rw [subi_ap, addi_ap, subi_ap, tAt_ap hg hn, tAt_ap hg hn, tAt_ap hg hn, tVisit_ap hg hn, tCend_ap hg hn, tCount_ap hg hn,
    show tFirst g _ = _ from tDiv_ap _ _ (tStarts_ap hg _) (by show WorkList.S n (WorkList.E n _) < _; omega)]
  dsimp only
  rw [ofNat32_sub (by omega), BitVec.ofNat_add_ofNat, ofNat32_sub (by omega)]
  unfold WorkList.T
  congr 1
  omega

theorem tLive_ap (i : Fin 191) : tLive g (ix1 i) = if i.val < WorkList.C n 64 then 1#32 else 0#32 := by
  have h1 := WorkList.C_le hn
  have hi := i.isLt
  unfold tLive
  rw [tTot_ap hg hn]
  generalize WorkList.C n 64 = K at h1 ⊢
  rw [extui_at, cmpi_at, iota1_ap, bc0]
  show (BitVec.ofBool (BitVec.slt _ _)).setWidth 32 = _
  rw [slt_ofNat32 (by omega) (by omega), setWidth_ofBool]
  split <;> rfl

end Cert.Kernel.Gen
-- ==== Proof.KernelFrame.lean ====
module

public import proofs.«01_k».proof.Proof.KernelLaunch
public import proofs.«01_k».proof.Proof.KernelTableWords
public import Idealize.ShloMosaic.Lib.Claim

@[expose] public section

set_option maxRecDepth 16384

noncomputable section

namespace Cert.Kernel.Gen

open Idealize.ShloMosaic hiding ix1 ix2 ix3
open Idealize.ShloMosaic.TcCoe Idealize.ShloMosaic.Tactic
open Idealize.SL Idealize.SL.Sem
open Idealize.ShloMosaic.Pipeline (Dat RDat Cfg Window BodyObligation cellOf)
open Idealize.ShloMosaic.ValueIdx

variable {F : FTy → Type} [FloatOps F]
variable (m : (ℓ : Loc nD τ sig) → Buf (Elt F) ℓ) (ρ : Dev nD → PrngReg)

/-! ## The tables' words at a point -/

theorem N_eq : grid0.N = 191 := by decide +kernel

/-- A point as an entry of the tables. -/
def entry (t : Fin grid0.N) : Fin 191 := ⟨t.val, N_eq ▸ t.isLt⟩

theorem word_at (c : Dev nD) (t : Fin grid0.N) (M : Memref sig .tc .smem S191 .i32) (f : TbBuf (F := F) c M) :
    wordAt c (grid0.coords t) M f = M.view.read (Elt F) f (ix1 (entry t)) := by
  unfold wordAt
  refine congrArg (M.view.read (Elt F) f) (funext fun a => Fin.ext ?_)
  match a with
  | ⟨0, _⟩ =>
    show k0_off1 (grid0.coords t) 0 + 0 * 1 = t.val
    exact (congrArg (fun i : ℕ => (BitVec.ofNat 32 i).toNat) (coords_val t)).trans (by
      have h := (entry t).isLt; change t.val < 191 at h; show (BitVec.ofNat 32 t.val).toNat = t.val; rw [BitVec.toNat_ofNat]; omega)

variable {n : Nat → Nat} (hg : Sizes (m (0, main_arg1)) n) (hn : WorkList.S n 64 = 32768)
include hg hn

/-- The visit of a point. -/
def vis (n : Nat → Nat) (t : Fin grid0.N) : Nat := min t.val (WorkList.C n 64 - 1)

theorem wE_eq (t : Fin grid0.N) : wE m 0 t = BitVec.ofNat 32 (WorkList.E n (vis n t)) := by
  exact (word_at 0 t _ _).trans ((congrFun ((V_pre m 0 0).symm.trans (V_tables m 0).1) (ix1 (entry t))).trans (tExpert_ap hg hn (entry t)))
theorem wT_eq (t : Fin grid0.N) : wT m 0 t = BitVec.ofNat 32 (WorkList.T n (vis n t)) := by
  exact (word_at 0 t _ _).trans ((congrFun ((V_pre m 0 1).symm.trans (V_tables m 0).2.1) (ix1 (entry t))).trans (tTile_ap hg hn (entry t)))
theorem wLo_eq (t : Fin grid0.N) : wLo m 0 t = BitVec.ofNat 32 (WorkList.S n (WorkList.E n (vis n t))) := by
  exact (word_at 0 t _ _).trans ((congrFun ((V_pre m 0 2).symm.trans (V_tables m 0).2.2.1) (ix1 (entry t))).trans ((tAt_ap hg hn _ (entry t)).trans (tStarts_ap hg _)))
theorem wHi_eq (t : Fin grid0.N) : wHi m 0 t = BitVec.ofNat 32 (WorkList.S n (WorkList.E n (vis n t) + 1)) := by
  exact (word_at 0 t _ _).trans ((congrFun ((V_pre m 0 3).symm.trans (V_tables m 0).2.2.2.1) (ix1 (entry t))).trans ((tAt_ap hg hn _ (entry t)).trans (tEnds_ap hg _)))
theorem wLive_eq (t : Fin grid0.N) : wLive m 0 t = if t.val < WorkList.C n 64 then 1#32 else 0#32 := by
  exact (word_at 0 t _ _).trans ((congrFun ((V_pre m 0 4).symm.trans (V_tables m 0).2.2.2.2) (ix1 (entry t))).trans (tLive_ap hg hn (entry t)))

/-- The tables name blocks that are there. -/
theorem ok : Ok m := by
  have hv : ∀ i : grid0.Coords, ∃ t, grid0.coords t = i := fun i => by
    have hi : (i 0).val < grid0.N := (i 0).isLt
    refine ⟨⟨(i 0).val, hi⟩, ?_⟩
    funext a
    obtain rfl : a = 0 := Subsingleton.elim (α := Fin 1) _ _
    exact Fin.ext (coords_val _)
  have hT : ∀ i : grid0.Coords, (wordAt 0 i (Memref.whole main_v49) (tbl m 1)).toNat < 128 := fun i => by
    obtain ⟨t, rfl⟩ := hv i
    have h1 := WorkList.T_lt n hn (visit_lt hg hn t.val)
    have := wT_eq m hg hn t
    unfold wT at this
    rw [this, BitVec.toNat_ofNat, Nat.mod_eq_of_lt (by unfold vis; omega)]
    exact h1
  have hE : ∀ i : grid0.Coords, (wordAt 0 i (Memref.whole main_v25) (tbl m 0)).toNat < 64 := fun i => by
    obtain ⟨t, rfl⟩ := hv i
    have h1 := WorkList.E_lt (visit_lt hg hn t.val)
    have := wE_eq m hg hn t
    unfold wE at this
    rw [this, BitVec.toNat_ofNat, Nat.mod_eq_of_lt (by unfold vis; omega)]
    exact h1
  have bT : ∀ (i : grid0.Coords) (w : Fin 4) (hw : w = 0 ∨ w = 3) (a), (ix0 (tbl m) w i a + 1) * (spec0 w).size a ≤ (spec0 w).shape.size a := by
    intro i w hw a
    rw [ix_tile (tbl m) i w hw a]
    have h := hT i
    generalize (wordAt 0 i (Memref.whole main_v49) (tbl m 1)).toNat = k at h ⊢
    rcases hw with rfl | rfl <;>
    · revert a; intro (a : Fin 2)
      match a with
      | ⟨0, _⟩ => show (k + 1) * 256 ≤ 32768; omega
      | ⟨1, _⟩ => exact Nat.le_of_eq rfl
  have bE : ∀ (i : grid0.Coords) (w : Fin 4) (hw : w = 1 ∨ w = 2) (a), (ix0 (tbl m) w i a + 1) * (spec0 w).size a ≤ (spec0 w).shape.size a := by
    intro i w hw a
    rw [ix_expert (tbl m) i w hw a]
    have h := hE i
    generalize (wordAt 0 i (Memref.whole main_v25) (tbl m 0)).toNat = k at h ⊢
    rcases hw with rfl | rfl <;>
    · revert a; intro (a : Fin 3)
      match a with
      | ⟨0, _⟩ => show (k + 1) * 1 ≤ 64; omega
      | ⟨1, _⟩ => exact Nat.le_of_eq rfl
      | ⟨2, _⟩ => exact Nat.le_of_eq rfl
  refine ⟨fun i => ⟨bT i 0 (.inl rfl), .inr (.inl (.inr ⟨by decide, rfl, .inl ⟨Dvd.dvd.mul_left ⟨128, rfl⟩ _, ⟨128, rfl⟩⟩⟩))⟩,
    fun i => ⟨bE i 1 (.inl rfl), .inr (.inr ⟨by decide, rfl, ?_, rfl⟩)⟩, fun i => ⟨bE i 2 (.inr rfl), .inr (.inr ⟨by decide, rfl, ?_, rfl⟩)⟩,
    fun i => ⟨bT i 3 (.inr rfl), .inr (.inl (.inr ⟨by decide, rfl, .inl ⟨Dvd.dvd.mul_left ⟨128, rfl⟩ _, ⟨128, rfl⟩⟩⟩))⟩⟩
  · exact Nat.zero_mul _
  · exact Nat.zero_mul _

omit hg hn in
/-- A run that ends as the launch says leaves the arguments as they were. -/
theorem frame_of (hO : Ok m) {QX QW} {r} (h : Pipeline.RDat.FramePost ((Pipeline.pin pcfgs fun _ => adm m hO) 0) (rdat m QX QW hO) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  obtain ⟨v0, v1, v2, v3⟩ := V_args m c
  refine ⟨(h.arr_in c 0 rfl).trans v0, ((h c).2 main_arg1 (Pipeline.mem_restRefs_of main_arg1 (by decide) (by show ∀ w : Fin 4, (spec0 w).arr.view.ref ≠ main_arg1; decide))).trans v1, (h.arr_in c 1 rfl).trans v2, (h.arr_in c 2 rfl).trans v3⟩

/-- Every run ends, with the arguments unchanged and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨frame_of m (ok m hg hn) h.1, h.2⟩)
    (run m ρ (QX := fun _ _ => True) (QW := fun _ _ _ => True) (by unfold XOk; intros; trivial) (by unfold WOk; intros; trivial) (ok m hg hn))

end Cert.Kernel.Gen
-- ==== Proof.Products.lean ====
module

public import proofs.«01_k».proof.Proof.Gen.KernelIdeal.Launch
public import proofs.«01_k».proof.Proof.Gen.KernelIdeal.Loops
public import Idealize.ShloMosaic.Lib.Pipeline.FrameBody
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a step leaves -/

/-- A scalar table's contents on core `c`. -/
abbrev TbBuf (c : Dev nD) {S : Shape} {e : EltTy} (M : Memref sig .tc .smem S e) : Type := Buf (Elt F) (M.view.loc (c : Thread nD τ))
/-- A scalar table held at half the full share. -/
abbrev tbPt (c : Dev nD) {S : Shape} {e : EltTy} (M : Memref sig .tc .smem S e) (f : TbBuf (F := F) c M) : sProp 𝕄 :=
  M.view.loc (c : Thread nD τ) ↦{fullShare.right} f

/-- The word a table holds at the grid point. -/
def wordAt (c : Dev nD) (i : grid0.Coords) (M : Memref sig .tc .smem S191 .i32) (f : TbBuf (F := F) c M) : BitVec 32 :=
  M.view.readAt (Elt F) (Rect.unit (s := S191) (k0_off1 i) S1.size (k0_off1_inb i)).toLoadRect f (Shape.Idx.first (numel1_S1.symm ▸ Nat.one_pos))
/-- The word a table holds at the grid point before. -/
def wordPrev (c : Dev nD) (i : grid0.Coords) (M : Memref sig .tc .smem S191 .i32) (f : TbBuf (F := F) c M) : BitVec 32 :=
  M.view.readAt (Elt F) (Rect.unit (s := S191) (k0_off2 i) S1.size (k0_off2_inb i)).toLoadRect f (Shape.Idx.first (numel1_S1.symm ▸ Nat.one_pos))

/-- The word by which the body decides that the point's block is a new one. -/
def newWord (i : grid0.Coords) (w w' : BitVec 32) : BitVec 1 :=
  Scalar.cmpi .ne (Scalar.extui (Scalar.ori (Scalar.cmpi .eq (BitVec.ofNat 32 (i 0).val) 0#32) (Scalar.cmpi .ne w w')) : BitVec 32) 0#32

/-- A matrix index from its two coordinates. -/
def mk2 {a b : ℕ} (r : Fin a) (q : Fin b) : (⟨2, ![a, b]⟩ : Shape).Idx := fun | 0 => r | 1 => q

/-- Columns `256 n` to `256 n + 255` of a matrix. -/
def colsOf {R : Type} {a : ℕ} (f : (⟨2, ![a, 2816]⟩ : Shape).Idx → R) (n : Fin 11) : (⟨2, ![a, 256]⟩ : Shape).Idx → R :=
  fun q => f (mk2 (q 0) ⟨256 * n.val + (q 1).val, by have h1 : (q 1).val < 256 := (q 1).isLt; omega⟩)

/-- The block of 256 columns a column of the result lies in. -/
def nOf (p : S256x2816.Idx) : Fin 11 := ⟨(p 1).val / 256, by have h1 : (p 1).val < 2816 := (p 1).isLt; omega⟩
/-- Its place in that block. -/
def xOf (p : S256x2816.Idx) : S256x256.Idx := mk2 (p 0) ⟨(p 1).val % 256, Nat.mod_lt _ (by decide)⟩

/-- What a step stores into its result block: block of columns by block of columns, the product where the step owns
    the row, what was there elsewhere. -/
def outTile (own : IVec S256x1 1) (xq : Vec F S256x1408 .bf16) (wt : Vec F S1408x2816 .bf16) (y : Vec F S256x2816 .bf16) : Vec F S256x2816 .bf16 :=
  fun p => k0_pay158 own xq (colsOf wt (nOf p)) (colsOf y (nOf p)) (xOf p)

/-- One stored block agrees with `outTile`. -/
theorem dot_piece (own : IVec S256x1 1) (xq : Vec F S256x1408 .bf16) (wt : Vec F S1408x2816 .bf16) (y : Vec F S256x2816 .bf16)
    (n : Fin 11) (o : ℕ) (ho : o = 256 * n.val) (h0 : ∀ a, (![0, 0] : Fin 2 → ℕ) a + S256x1408.size a ≤ S256x1408.size a)
    (h1 : ∀ a, (![0, o] : Fin 2 → ℕ) a + S1408x256.size a ≤ S1408x2816.size a) (h2 : ∀ a, (![0, o] : Fin 2 → ℕ) a + S256x256.size a ≤ S256x2816.size a)
    (x : S256x256.Idx) :
    k0_pay158 own (fun q => xq ((Rect.unit (s := S256x1408) ![0, 0] S256x1408.size h0).toLoadRect.idx q))
        (fun q => wt ((Rect.unit (s := S1408x2816) ![0, o] S1408x256.size h1).toLoadRect.idx q))
        (fun q => y ((Rect.unit (s := S256x2816) ![0, o] S256x256.size h2).toLoadRect.idx q)) x
      = outTile own xq wt y ((Rect.unit (s := S256x2816) ![0, o] S256x256.size h2).emb x) := by
  subst ho
  have hx1 : (x 1).val < 256 := (x 1).isLt
  have en : nOf ((Rect.unit (s := S256x2816) ![0, 256 * n.val] S256x256.size h2).emb x) = n := by
    apply Fin.ext; show (256 * n.val + 1 * (x 1).val) / 256 = n.val; omega
  have ex : xOf ((Rect.unit (s := S256x2816) ![0, 256 * n.val] S256x256.size h2).emb x) = x := by
    funext a; apply Fin.ext
    match a with
    | 0 => show 0 + 1 * (x 0).val = _; omega
    | 1 => show (256 * n.val + 1 * (x 1).val) % 256 = (x 1).val; omega
  unfold outTile
  rw [en, ex]
  congr 1
  · funext q; congr 1; funext a; apply Fin.ext
    match a with
    | 0 => show 0 + 1 * (q 0).val = _; omega
    | 1 => show 0 + 1 * (q 1).val = _; omega
  · funext q; unfold colsOf; congr 1; funext a; apply Fin.ext
    match a with
    | 0 => show 0 + 1 * (q 0).val = (q 0).val; omega
    | 1 => show 256 * n.val + 1 * (q 1).val = 256 * n.val + (q 1).val; omega
  · funext q; unfold colsOf; congr 1; funext a; apply Fin.ext
    match a with
    | 0 => show 0 + 1 * (q 0).val = (q 0).val; omega
    | 1 => show 256 * n.val + 1 * (q 1).val = 256 * n.val + (q 1).val; omega

/-- The eleven blocks cover the result block. -/
theorem dot_cover (L : List (View.Piece (Elt F) S256x2816 .bf16))
    (h : ∀ n : Fin 11, ∃ p ∈ L, ∃ o h2, o = 256 * n.val ∧ p.1 = Rect.unit (s := S256x2816) ![0, o] S256x256.size h2) (y : S256x2816.Idx) :
    ∃ p ∈ L, y ∈ p.1.set := by
  obtain ⟨p, hp, o, h2, ho, hr⟩ := h (nOf y)
  refine ⟨p, hp, ?_⟩
  rw [hr]
  subst ho
  rw [← Rect.map_emb_univ, Finset.mem_map]
  refine ⟨xOf y, Finset.mem_univ _, ?_⟩
  have hy1 : (y 1).val < 2816 := (y 1).isLt
  funext a; apply Fin.ext
  match a with
  | 0 => show 0 + 1 * (y 0).val = _; omega
  | 1 => show 256 * ((y 1).val / 256) + 1 * ((y 1).val % 256) = (y 1).val; omega

/-- What a step leaves in its result block: `outTile` when it is live, the block as it was when it is not. -/
def stepOut (live v1 lo hi : BitVec 32) (xq : Vec F S256x1408 .bf16) (wt : Vec F S1408x2816 .bf16) (y : Vec F S256x2816 .bf16) : Vec F S256x2816 .bf16 :=
  if k0_cond3 live = 1#1 then outTile (k0_pay151 (F := F) v1 lo hi) xq wt y else y

/-! ## The last third of the body: the products -/

/-- The body from its reading of the live flag on. -/
def tailProg (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (v1 : Elt F .i32) : Prog (TpuEff nD τ sig (Elt F) Λ₀ .tc) PUnit := do
  let arg0 : BitVec 32 := BitVec.ofNat 32 (i 0).val
  let v21 : Elt F .i32 ← smemLoad arg5 (Rect.unit (s := S191) (k0_off70 i) S1.size (k0_off70_inb i)) numel1_S1 rfl

  if k0_h3 : k0_cond3 v21 = 1#1 then do
    let ⟨v37, v60⟩ : Σ' (v37 : IVec S256x1 1), Vec F S256x1408 .bf16 ← k0_part27 i arg1 harg1 arg2 harg2 arg3 harg3 arg4 harg4 arg5 harg5 arg6 harg6 arg7 harg7 arg8 harg8 arg9 harg9 arg10 harg10 arg11 harg11 arg12 harg12 arg0 v1
    k0_part28 i arg1 harg1 arg2 harg2 arg3 harg3 arg4 harg4 arg5 harg5 arg6 harg6 arg7 harg7 arg8 harg8 arg9 harg9 arg10 harg10 arg11 harg11 arg12 harg12 v37 v60
    let v124 : FVec F S256x256 .bf16 ← k0_part29 i arg1 harg1 arg2 harg2 arg3 harg3 arg4 harg4 arg5 harg5 arg6 harg6 arg7 harg7 arg8 harg8 arg9 harg9 arg10 harg10 arg11 harg11 arg12 harg12 v37
    let v156 : FVec F S256x256 .f32 ← k0_part30 i arg1 harg1 arg2 harg2 arg3 harg3 arg4 harg4 arg5 harg5 arg6 harg6 arg7 harg7 arg8 harg8 arg9 harg9 arg10 harg10 arg11 harg11 arg12 harg12 v37 v124
    let v158 : Vec F S256x256 .bf16 ← Prog.lift (.load arg9 (Rect.unit (s := S256x2816) ![0, 2560] S256x256.size inb_S256x2816_S256x256_0_2560).toLoadRect (View.loadsAt_vmem h_S256x256))
    Prog.lift (.store arg9 (Rect.unit (s := S256x2816) ![0, 2560] S256x256.size inb_S256x2816_S256x256_0_2560) (k0_pay3 v156) Finset.univ (View.stores_vmem h_S256x256 (harg9.storeExact_slice rfl _ packedbf16_S256x2816_S256x256_0_2560) (fun _ => rfl)) (.inl rfl))
    pure ⟨⟩
  else do
    pure ⟨⟩
  pure ⟨⟩

set_option maxHeartbeats 4000000 in
/-- It leaves `outTile` in the result block when the step is live, and the block alone when it is not. -/
theorem tailRun (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (v1 : Elt F .i32)
    (y9 : Vec F S256x2816 .bf16)
    (g10 : Vec F S256x1408 .bf16) (g11 : Vec F S1408x2816 .bf16)
    (t3 : TbBuf (F := F) c arg3) (t4 : TbBuf (F := F) c arg4) (t5 : TbBuf (F := F) c arg5) :
      ∀ (K : PUnit → sProp 𝕄),
        iprop(tbPt c arg3 t3 ∗ tbPt c arg4 t4 ∗ tbPt c arg5 t5
            ∗ owns (c : Thread nD τ) arg9 fullShare y9
            ∗ owns (c : Thread nD τ) arg10 fullShare g10 ∗ owns (c : Thread nD τ) arg11 fullShare g11
            ∗ (iprop(tbPt c arg3 t3 ∗ tbPt c arg4 t4 ∗ tbPt c arg5 t5
            ∗ owns (c : Thread nD τ) arg9 fullShare (stepOut (wordAt c i arg5 t5) v1 (wordAt c i arg3 t3) (wordAt c i arg4 t4) g10 g11 y9)
            ∗ owns (c : Thread nD τ) arg10 fullShare g10 ∗ owns (c : Thread nD τ) arg11 fullShare g11) -∗ K ⟨⟩))
          ⊢ wp frame (wpE (defs₀ (F := F)) Variants.none c none) Set.univ (tailProg i arg1 harg1 arg2 harg2 arg3 harg3 arg4 harg4 arg5 harg5 arg6 harg6 arg7 harg7 arg8 harg8 arg9 harg9 arg10 harg10 arg11 harg11 arg12 harg12 v1) K := by
    intro K
    unfold tailProg
    unfold owns
    iintro ⟨HT3, HT4, HT5, ⟨%f9, %hf9, H9⟩, ⟨%f10, %hf10, H10⟩, ⟨%f11, %hf11, H11⟩, Hk⟩
    subst hf9 hf10 hf11
    sl_exec
    sl_step
    iapply Hk
    isplitl [HT3]; · iexact HT3
    isplitl [HT4]; · iexact HT4
    isplitl [HT5]; · iexact HT5
    isplitl [H9]
    · iexists _; isplitr; swap; · iexact H9
      ipureintro
      unfold stepOut
      by_cases hlive : k0_cond3 (wordAt c i arg5 t5) = 1#1
      · rw [if_pos hlive, dif_pos (show k0_cond3 (tailRun.sl.r c i arg5 t5) = 1#1 from hlive)]
        funext y
        refine View.read_writes_apply_of_pieces _ _ (outTile (k0_pay151 v1 (wordAt c i arg3 t3) (wordAt c i arg4 t4)) (View.read (Elt F) arg10.view f10) (View.read (Elt F) arg11.view f11) (View.read (Elt F) arg9.view f9)) _ ?_ y (dot_cover _ ?_ y)
        · have dp := dot_piece (k0_pay151 v1 (wordAt c i arg3 t3) (wordAt c i arg4 t4)) (View.read (Elt F) arg10.view f10) (View.read (Elt F) arg11.view f11) (View.read (Elt F) arg9.view f9)
          simp only [List.forall_mem_cons, List.not_mem_nil, false_imp_iff, implies_true, and_true]
          refine ⟨?_, ?_, ?_, ?_, ?_, ?_, ?_, ?_, ?_, ?_, ?_⟩
          · intro x; have := dp 10 2560 rfl (by decide) (by decide) (by decide) x; exact this
          · intro x; have := dp 9 2304 rfl (by decide) (by decide) (by decide) x; exact this
          · intro x; have := dp 8 2048 rfl (by decide) (by decide) (by decide) x; exact this
          · intro x; have := dp 7 1792 rfl (by decide) (by decide) (by decide) x; exact this
          · intro x; have := dp 6 1536 rfl (by decide) (by decide) (by decide) x; exact this
          · intro x; have := dp 5 1280 rfl (by decide) (by decide) (by decide) x; exact this
          · intro x; have := dp 4 1024 rfl (by decide) (by decide) (by decide) x; exact this
          · intro x; have := dp 3 768 rfl (by decide) (by decide) (by decide) x; exact this
          · intro x; have := dp 2 512 rfl (by decide) (by decide) (by decide) x; exact this
          · intro x; have := dp 1 256 rfl (by decide) (by decide) (by decide) x; exact this
          · intro x; have := dp 0 0 rfl (by decide) (by decide) (by decide) x; exact this
        · intro n
          fin_cases n
          · exact ⟨_, .tail _ (.tail _ (.tail _ (.tail _ (.tail _ (.tail _ (.tail _ (.tail _ (.tail _ (.tail _ (.head _)))))))))), 0, by decide, rfl, rfl⟩
          · exact ⟨_, .tail _ (.tail _ (.tail _ (.tail _ (.tail _ (.tail _ (.tail _ (.tail _ (.tail _ (.head _))))))))), 256, by decide, rfl, rfl⟩
          · exact ⟨_, .tail _ (.tail _ (.tail _ (.tail _ (.tail _ (.tail _ (.tail _ (.tail _ (.head _)))))))), 512, by decide, rfl, rfl⟩
          · exact ⟨_, .tail _ (.tail _ (.tail _ (.tail _ (.tail _ (.tail _ (.tail _ (.head _))))))), 768, by decide, rfl, rfl⟩
          · exact ⟨_, .tail _ (.tail _ (.tail _ (.tail _ (.tail _ (.tail _ (.head _)))))), 1024, by decide, rfl, rfl⟩
          · exact ⟨_, .tail _ (.tail _ (.tail _ (.tail _ (.tail _ (.head _))))), 1280, by decide, rfl, rfl⟩
          · exact ⟨_, .tail _ (.tail _ (.tail _ (.tail _ (.head _)))), 1536, by decide, rfl, rfl⟩
          · exact ⟨_, .tail _ (.tail _ (.tail _ (.head _))), 1792, by decide, rfl, rfl⟩
          · exact ⟨_, .tail _ (.tail _ (.head _)), 2048, by decide, rfl, rfl⟩
          · exact ⟨_, .tail _ (.head _), 2304, by decide, rfl, rfl⟩
          · exact ⟨_, .head _, 2560, by decide, rfl, rfl⟩
      · rw [if_neg hlive, dif_neg (show ¬ k0_cond3 (tailRun.sl.r c i arg5 t5) = 1#1 from hlive)]
    isplitl [H10]
    · iexists _; isplitr; · ipureintro; rfl
      iexact H10
    iexists _; isplitr; · ipureintro; rfl
    iexact H11

end Cert.KernelIdeal.Gen

end
-- ==== Proof.Body.lean ====
module

public import proofs.«01_k».proof.Proof.Gen.KernelIdeal.Launch
public import proofs.«01_k».proof.Proof.Gen.KernelIdeal.Loops
public import Idealize.ShloMosaic.Lib.Pipeline.FrameBody
public import Idealize.ShloMosaic.Lib.Claim
public import proofs.«01_k».proof.Proof.Products

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole body -/

/-- `QX` holds of what the first loop leaves in the quantised block, whatever block it reads. -/
def XOk (QX : Vec F S256x1408 .bf16 → Vec F S256x1408 .bf16 → Prop) : Prop :=
  ∀ (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f6 : BufTy.Contents (Elt F) arg6.view.ty) (f10 : BufTy.Contents (Elt F) arg10.view.ty),
    QX (arg6.view.read (Elt F) f6) (arg10.view.read (Elt F) (arg10.view.writes (Elt F) f10
      (pb_k0_t1 Variants.none c none i arg1 harg1 arg2 harg2 arg3 harg3 arg4 harg4 arg5 harg5 arg6 harg6 arg7 harg7 arg8 harg8 arg9 harg9 arg10 harg10 arg11 harg11 arg12 harg12 f6 (Scf.trips k0_t1_loop.lb k0_t1_loop.ub k0_t1_loop.st))))

/-- `QW` holds of what the second loop leaves in the widened weights, whatever codes and scales it reads. -/
def WOk (QW : Vec F S1x2816x1408 .fp8e4m3 → Vec F S1x2816x44 .i8 → Vec F S1408x2816 .bf16 → Prop) : Prop :=
  ∀ (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f7 : BufTy.Contents (Elt F) arg7.view.ty) (f8 : BufTy.Contents (Elt F) arg8.view.ty)
    (f11 : BufTy.Contents (Elt F) arg11.view.ty) (f12 : BufTy.Contents (Elt F) arg12.view.ty),
    QW (arg7.view.read (Elt F) f7) (arg8.view.read (Elt F) f8) (arg11.view.read (Elt F) (arg11.view.writes (Elt F) f11
      (pb_k0_t2 Variants.none c none i arg1 harg1 arg2 harg2 arg3 harg3 arg4 harg4 arg5 harg5 arg6 harg6 arg7 harg7 arg8 harg8 arg9 harg9 arg10 harg10 arg11 harg11 arg12 harg12 f7 f8 f11 f12 (Scf.trips k0_t2_loop.lb k0_t2_loop.ub k0_t2_loop.st)).1))

set_option maxHeartbeats 4000000 in
/-- The first loop's triple. -/
theorem loopRun1 (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f6 : BufTy.Contents (Elt F) arg6.view.ty) (f10 : BufTy.Contents (Elt F) arg10.view.ty) :
      ∀ (k : PUnit → Prog (TpuEff nD τ sig (Elt F) Λ₀ .tc) PUnit) (K : PUnit → sProp 𝕄),
        iprop((arg6.view.loc (c : Thread nD τ) ↦[arg6.view.set]{fullShare} f6) ∗ (arg10.view.loc (c : Thread nD τ) ↦[arg10.view.set]{fullShare} f10)
          ∗ (iprop((arg6.view.loc (c : Thread nD τ) ↦[arg6.view.set]{fullShare} f6) ∗ (arg10.view.loc (c : Thread nD τ) ↦[arg10.view.set]{fullShare} arg10.view.writes (Elt F) f10
      (pb_k0_t1 Variants.none c none i arg1 harg1 arg2 harg2 arg3 harg3 arg4 harg4 arg5 harg5 arg6 harg6 arg7 harg7 arg8 harg8 arg9 harg9 arg10 harg10 arg11 harg11 arg12 harg12 f6 (Scf.trips k0_t1_loop.lb k0_t1_loop.ub k0_t1_loop.st)))) -∗ wp frame (wpE (defs₀ (F := F)) Variants.none c none) Set.univ (k ⟨⟩) K))
        ⊢ wp frame (wpE (defs₀ (F := F)) Variants.none c none) Set.univ (Scf.Loop.for k0_t1_loop k0_t1_ok PUnit.unit (k0_t1_body i arg1 harg1 arg2 harg2 arg3 harg3 arg4 harg4 arg5 harg5 arg6 harg6 arg7 harg7 arg8 harg8 arg9 harg9 arg10 harg10 arg11 harg11 arg12 harg12) >>= k) K := by
    intro k K
    iintro ⟨H6, H10, Hk⟩
    sl_exec
    iapply Hk
    isplitl [H6]; · iexact H6
    iexact H10

set_option maxHeartbeats 4000000 in
/-- The second loop's triple. -/
theorem loopRun2 (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f7 : BufTy.Contents (Elt F) arg7.view.ty) (f8 : BufTy.Contents (Elt F) arg8.view.ty)
    (f11 : BufTy.Contents (Elt F) arg11.view.ty) (f12 : BufTy.Contents (Elt F) arg12.view.ty) :
      ∀ (k : PUnit → Prog (TpuEff nD τ sig (Elt F) Λ₀ .tc) PUnit) (K : PUnit → sProp 𝕄),
        iprop((arg7.view.loc (c : Thread nD τ) ↦[arg7.view.set]{fullShare} f7) ∗ (arg8.view.loc (c : Thread nD τ) ↦[arg8.view.set]{fullShare} f8)
          ∗ (arg11.view.loc (c : Thread nD τ) ↦[arg11.view.set]{fullShare} f11) ∗ (arg12.view.loc (c : Thread nD τ) ↦[arg12.view.set]{fullShare} f12)
          ∗ (iprop((arg7.view.loc (c : Thread nD τ) ↦[arg7.view.set]{fullShare} f7) ∗ (arg8.view.loc (c : Thread nD τ) ↦[arg8.view.set]{fullShare} f8)
            ∗ (arg11.view.loc (c : Thread nD τ) ↦[arg11.view.set]{fullShare} arg11.view.writes (Elt F) f11
      (pb_k0_t2 Variants.none c none i arg1 harg1 arg2 harg2 arg3 harg3 arg4 harg4 arg5 harg5 arg6 harg6 arg7 harg7 arg8 harg8 arg9 harg9 arg10 harg10 arg11 harg11 arg12 harg12 f7 f8 f11 f12 (Scf.trips k0_t2_loop.lb k0_t2_loop.ub k0_t2_loop.st)).1)
            ∗ (∃ f, arg12.view.loc (c : Thread nD τ) ↦[arg12.view.set]{fullShare} f)) -∗ wp frame (wpE (defs₀ (F := F)) Variants.none c none) Set.univ (k ⟨⟩) K))
        ⊢ wp frame (wpE (defs₀ (F := F)) Variants.none c none) Set.univ (Scf.Loop.for k0_t2_loop k0_t2_ok PUnit.unit (k0_t2_body i arg1 harg1 arg2 harg2 arg3 harg3 arg4 harg4 arg5 harg5 arg6 harg6 arg7 harg7 arg8 harg8 arg9 harg9 arg10 harg10 arg11 harg11 arg12 harg12) >>= k) K := by
    intro k K
    iintro ⟨H7, H8, H11, H12, Hk⟩
    sl_exec
    iapply Hk
    isplitl [H7]; · iexact H7
    isplitl [H8]; · iexact H8
    isplitl [H11]; · iexact H11
    iexists _; iexact H12

set_option maxHeartbeats 4000000 in
/-- The body's triple: the quantised block and the widened weights are made anew at a new tile and a new expert and
    kept otherwise, and the result block is `outTile` of them at a live step. -/
theorem bodyRun {QX : Vec F S256x1408 .bf16 → Vec F S256x1408 .bf16 → Prop} {QW : Vec F S1x2816x1408 .fp8e4m3 → Vec F S1x2816x44 .i8 → Vec F S1408x2816 .bf16 → Prop}
    (hX : XOk QX) (hW : WOk QW) (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole)
    (x6 : Vec F S256x1408 .bf16) (x7 : Vec F S1x2816x1408 .fp8e4m3) (x8 : Vec F S1x2816x44 .i8) (y9 : Vec F S256x2816 .bf16)
    (g10 : Vec F S256x1408 .bf16) (g11 : Vec F S1408x2816 .bf16)
    (t1 : TbBuf (F := F) c arg1) (t2 : TbBuf (F := F) c arg2) (t3 : TbBuf (F := F) c arg3) (t4 : TbBuf (F := F) c arg4) (t5 : TbBuf (F := F) c arg5) :
      ∀ (K : PUnit → sProp 𝕄),
        iprop(tbPt c arg1 t1 ∗ tbPt c arg2 t2 ∗ tbPt c arg3 t3 ∗ tbPt c arg4 t4 ∗ tbPt c arg5 t5
            ∗ owns (c : Thread nD τ) arg6 fullShare x6 ∗ owns (c : Thread nD τ) arg7 fullShare x7 ∗ owns (c : Thread nD τ) arg8 fullShare x8 ∗ owns (c : Thread nD τ) arg9 fullShare y9
            ∗ owns (c : Thread nD τ) arg10 fullShare g10 ∗ owns (c : Thread nD τ) arg11 fullShare g11 ∗ (∃ g, owns (c : Thread nD τ) arg12 fullShare g)
            ∗ (iprop(∃ g10' g11' y, ⌜(newWord i (wordAt c i arg2 t2) (wordPrev c i arg2 t2) = 1#1 → QX x6 g10') ∧ (newWord i (wordAt c i arg2 t2) (wordPrev c i arg2 t2) ≠ 1#1 → g10' = g10)
                ∧ (newWord i (wordAt c i arg1 t1) (wordPrev c i arg1 t1) = 1#1 → QW x7 x8 g11') ∧ (newWord i (wordAt c i arg1 t1) (wordPrev c i arg1 t1) ≠ 1#1 → g11' = g11)
                ∧ y = stepOut (wordAt c i arg5 t5) (wordAt c i arg2 t2) (wordAt c i arg3 t3) (wordAt c i arg4 t4) g10' g11' y9⌝
            ∗ tbPt c arg1 t1 ∗ tbPt c arg2 t2 ∗ tbPt c arg3 t3 ∗ tbPt c arg4 t4 ∗ tbPt c arg5 t5
            ∗ owns (c : Thread nD τ) arg6 fullShare x6 ∗ owns (c : Thread nD τ) arg7 fullShare x7 ∗ owns (c : Thread nD τ) arg8 fullShare x8 ∗ owns (c : Thread nD τ) arg9 fullShare y
            ∗ owns (c : Thread nD τ) arg10 fullShare g10' ∗ owns (c : Thread nD τ) arg11 fullShare g11' ∗ (∃ g, owns (c : Thread nD τ) arg12 fullShare g)) -∗ K ⟨⟩))
          ⊢ wp frame (wpE (defs₀ (F := F)) Variants.none c none) Set.univ (cc0_grouped_mm i arg1 harg1 arg2 harg2 arg3 harg3 arg4 harg4 arg5 harg5 arg6 harg6 arg7 harg7 arg8 harg8 arg9 harg9 arg10 harg10 arg11 harg11 arg12 harg12) K := by
    intro K
    simp only [cc0_grouped_mm_eq_skeleton]; unfold cc0_grouped_mm_skel
    unfold owns
    iintro ⟨HT1, HT2, HT3, HT4, HT5, ⟨%f6, %hf6, H6⟩, ⟨%f7, %hf7, H7⟩, ⟨%f8, %hf8, H8⟩, ⟨%f9, %hf9, H9⟩, ⟨%f10, %hf10, H10⟩, ⟨%f11, %hf11, H11⟩, ⟨%g12, %f12, %hf12, H12⟩, Hk⟩
    subst hf6 hf7 hf8 hf9 hf10 hf11
    sl_exec
    split
    · rename_i hc1
      iapply (loopRun1 c i arg1 harg1 arg2 harg2 arg3 harg3 arg4 harg4 arg5 harg5 arg6 harg6 arg7 harg7 arg8 harg8 arg9 harg9 arg10 harg10 arg11 harg11 arg12 harg12 f6 f10)
      isplitl [H6]; · iexact H6
      isplitl [H10]; · iexact H10
      iintro ⟨H6, H10⟩
      dsimp only
      split
      · rename_i hc2
        iapply (loopRun2 c i arg1 harg1 arg2 harg2 arg3 harg3 arg4 harg4 arg5 harg5 arg6 harg6 arg7 harg7 arg8 harg8 arg9 harg9 arg10 harg10 arg11 harg11 arg12 harg12 f7 f8 f11 f12)
        isplitl [H7]; · iexact H7
        isplitl [H8]; · iexact H8
        isplitl [H11]; · iexact H11
        isplitl [H12]; · iexact H12
        iintro ⟨H7, H8, H11, %f12', H12⟩
        iapply (tailRun c i arg1 harg1 arg2 harg2 arg3 harg3 arg4 harg4 arg5 harg5 arg6 harg6 arg7 harg7 arg8 harg8 arg9 harg9 arg10 harg10 arg11 harg11 arg12 harg12 (wordAt c i arg2 t2) (View.read (Elt F) arg9.view f9) (View.read (Elt F) arg10.view _) (View.read (Elt F) arg11.view _) t3 t4 t5 K)
        isplitl [HT3]; · iexact HT3
        isplitl [HT4]; · iexact HT4
        isplitl [HT5]; · iexact HT5
        isplitl [H9]
        · unfold owns; iexists _; isplitr; swap; · iexact H9
          ipureintro; rfl
        isplitl [H10]
        · unfold owns; iexists _; isplitr; swap; · iexact H10
          ipureintro; rfl
        isplitl [H11]
        · unfold owns; iexists _; isplitr; swap; · iexact H11
          ipureintro; rfl
        iintro ⟨HT3, HT4, HT5, H9, H10, H11⟩
        iapply Hk
        iexists _, _, _
        isplitr
        · ipureintro
          refine ⟨fun h => hX c i arg1 harg1 arg2 harg2 arg3 harg3 arg4 harg4 arg5 harg5 arg6 harg6 arg7 harg7 arg8 harg8 arg9 harg9 arg10 harg10 arg11 harg11 arg12 harg12 f6 f10, fun h => absurd hc1 h, fun h => hW c i arg1 harg1 arg2 harg2 arg3 harg3 arg4 harg4 arg5 harg5 arg6 harg6 arg7 harg7 arg8 harg8 arg9 harg9 arg10 harg10 arg11 harg11 arg12 harg12 f7 f8 f11 f12, fun h => absurd hc2 h, rfl⟩
        isplitl [HT1]; · iexact HT1
        isplitl [HT2]; · iexact HT2
        isplitl [HT3]; · iexact HT3
        isplitl [HT4]; · iexact HT4
        isplitl [HT5]; · iexact HT5
        isplitl [H6]
        · iexists _; isplitr; swap; · iexact H6
          ipureintro; rfl
        isplitl [H7]
        · iexists _; isplitr; swap; · iexact H7
          ipureintro; rfl
        isplitl [H8]
        · iexists _; isplitr; swap; · iexact H8
          ipureintro; rfl
        isplitl [H9]; · unfold owns; iexact H9
        isplitl [H10]; · unfold owns; iexact H10
        isplitl [H11]; · unfold owns; iexact H11
        iexists _, _; isplitr; swap; · iexact H12
        ipureintro; rfl
      · rename_i hc2
        iapply (tailRun c i arg1 harg1 arg2 harg2 arg3 harg3 arg4 harg4 arg5 harg5 arg6 harg6 arg7 harg7 arg8 harg8 arg9 harg9 arg10 harg10 arg11 harg11 arg12 harg12 (wordAt c i arg2 t2) (View.read (Elt F) arg9.view f9) (View.read (Elt F) arg10.view _) (View.read (Elt F) arg11.view _) t3 t4 t5 K)
        isplitl [HT3]; · iexact HT3
        isplitl [HT4]; · iexact HT4
        isplitl [HT5]; · iexact HT5
        isplitl [H9]
        · unfold owns; iexists _; isplitr; swap; · iexact H9
          ipureintro; rfl
        isplitl [H10]
        · unfold owns; iexists _; isplitr; swap; · iexact H10
          ipureintro; rfl
        isplitl [H11]
        · unfold owns; iexists _; isplitr; swap; · iexact H11
          ipureintro; rfl
        iintro ⟨HT3, HT4, HT5, H9, H10, H11⟩
        iapply Hk
        iexists _, _, _
        isplitr
        · ipureintro
          refine ⟨fun h => hX c i arg1 harg1 arg2 harg2 arg3 harg3 arg4 harg4 arg5 harg5 arg6 harg6 arg7 harg7 arg8 harg8 arg9 harg9 arg10 harg10 arg11 harg11 arg12 harg12 f6 f10, fun h => absurd hc1 h, fun h => absurd h hc2, fun h => rfl, rfl⟩
        isplitl [HT1]; · iexact HT1
        isplitl [HT2]; · iexact HT2
        isplitl [HT3]; · iexact HT3
        isplitl [HT4]; · iexact HT4
        isplitl [HT5]; · iexact HT5
        isplitl [H6]
        · iexists _; isplitr; swap; · iexact H6
          ipureintro; rfl
        isplitl [H7]
        · iexists _; isplitr; swap; · iexact H7
          ipureintro; rfl
        isplitl [H8]
        · iexists _; isplitr; swap; · iexact H8
          ipureintro; rfl
        isplitl [H9]; · unfold owns; iexact H9
        isplitl [H10]; · unfold owns; iexact H10
        isplitl [H11]; · unfold owns; iexact H11
        iexists _, _; isplitr; swap; · iexact H12
        ipureintro; rfl
    · rename_i hc1
      dsimp only
      split
      · rename_i hc2
        iapply (loopRun2 c i arg1 harg1 arg2 harg2 arg3 harg3 arg4 harg4 arg5 harg5 arg6 harg6 arg7 harg7 arg8 harg8 arg9 harg9 arg10 harg10 arg11 harg11 arg12 harg12 f7 f8 f11 f12)
        isplitl [H7]; · iexact H7
        isplitl [H8]; · iexact H8
        isplitl [H11]; · iexact H11
        isplitl [H12]; · iexact H12
        iintro ⟨H7, H8, H11, %f12', H12⟩
        iapply (tailRun c i arg1 harg1 arg2 harg2 arg3 harg3 arg4 harg4 arg5 harg5 arg6 harg6 arg7 harg7 arg8 harg8 arg9 harg9 arg10 harg10 arg11 harg11 arg12 harg12 (wordAt c i arg2 t2) (View.read (Elt F) arg9.view f9) (View.read (Elt F) arg10.view _) (View.read (Elt F) arg11.view _) t3 t4 t5 K)
        isplitl [HT3]; · iexact HT3
        isplitl [HT4]; · iexact HT4
        isplitl [HT5]; · iexact HT5
        isplitl [H9]
        · unfold owns; iexists _; isplitr; swap; · iexact H9
          ipureintro; rfl
        isplitl [H10]
        · unfold owns; iexists _; isplitr; swap; · iexact H10
          ipureintro; rfl
        isplitl [H11]
        · unfold owns; iexists _; isplitr; swap; · iexact H11
          ipureintro; rfl
        iintro ⟨HT3, HT4, HT5, H9, H10, H11⟩
        iapply Hk
        iexists _, _, _
        isplitr
        · ipureintro
          refine ⟨fun h => absurd h hc1, fun h => rfl, fun h => hW c i arg1 harg1 arg2 harg2 arg3 harg3 arg4 harg4 arg5 harg5 arg6 harg6 arg7 harg7 arg8 harg8 arg9 harg9 arg10 harg10 arg11 harg11 arg12 harg12 f7 f8 f11 f12, fun h => absurd hc2 h, rfl⟩
        isplitl [HT1]; · iexact HT1
        isplitl [HT2]; · iexact HT2
        isplitl [HT3]; · iexact HT3
        isplitl [HT4]; · iexact HT4
        isplitl [HT5]; · iexact HT5
        isplitl [H6]
        · iexists _; isplitr; swap; · iexact H6
          ipureintro; rfl
        isplitl [H7]
        · iexists _; isplitr; swap; · iexact H7
          ipureintro; rfl
        isplitl [H8]
        · iexists _; isplitr; swap; · iexact H8
          ipureintro; rfl
        isplitl [H9]; · unfold owns; iexact H9
        isplitl [H10]; · unfold owns; iexact H10
        isplitl [H11]; · unfold owns; iexact H11
        iexists _, _; isplitr; swap; · iexact H12
        ipureintro; rfl
      · rename_i hc2
        iapply (tailRun c i arg1 harg1 arg2 harg2 arg3 harg3 arg4 harg4 arg5 harg5 arg6 harg6 arg7 harg7 arg8 harg8 arg9 harg9 arg10 harg10 arg11 harg11 arg12 harg12 (wordAt c i arg2 t2) (View.read (Elt F) arg9.view f9) (View.read (Elt F) arg10.view _) (View.read (Elt F) arg11.view _) t3 t4 t5 K)
        isplitl [HT3]; · iexact HT3
        isplitl [HT4]; · iexact HT4
        isplitl [HT5]; · iexact HT5
        isplitl [H9]
        · unfold owns; iexists _; isplitr; swap; · iexact H9
          ipureintro; rfl
        isplitl [H10]
        · unfold owns; iexists _; isplitr; swap; · iexact H10
          ipureintro; rfl
        isplitl [H11]
        · unfold owns; iexists _; isplitr; swap; · iexact H11
          ipureintro; rfl
        iintro ⟨HT3, HT4, HT5, H9, H10, H11⟩
        iapply Hk
        iexists _, _, _
        isplitr
        · ipureintro
          refine ⟨fun h => absurd h hc1, fun h => rfl, fun h => absurd h hc2, fun h => rfl, rfl⟩
        isplitl [HT1]; · iexact HT1
        isplitl [HT2]; · iexact HT2
        isplitl [HT3]; · iexact HT3
        isplitl [HT4]; · iexact HT4
        isplitl [HT5]; · iexact HT5
        isplitl [H6]
        · iexists _; isplitr; swap; · iexact H6
          ipureintro; rfl
        isplitl [H7]
        · iexists _; isplitr; swap; · iexact H7
          ipureintro; rfl
        isplitl [H8]
        · iexists _; isplitr; swap; · iexact H8
          ipureintro; rfl
        isplitl [H9]; · unfold owns; iexact H9
        isplitl [H10]; · unfold owns; iexact H10
        isplitl [H11]; · unfold owns; iexact H11
        iexists _, _; isplitr; swap; · iexact H12
        ipureintro; rfl

end Cert.KernelIdeal.Gen

end
-- ==== Proof.Run.lean ====
module

public import proofs.«01_k».proof.Proof.Body

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- The host operations before the launch, stretch by stretch. -/
abbrev hostAll : List (List (HloOp τ sig (Elt F))) :=
  [hostOps0, hostOps0_1, hostOps0_2, hostOps0_3, hostOps0_4, hostOps0_5, hostOps0_6, hostOps0_7, hostOps0_8, hostOps0_9, hostOps0_10, hostOps0_11]

/-- A core's buffers when the launch begins. -/
def V (c : Dev nD) (b : Ref sig .tc) : Buf (Elt F) ((c : Thread nD τ).loc b) :=
  StableHlo.after (hostAll (F := F)).flatten (fun b => m (c, b)) b

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostAll
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩
    (by
      refine ⟨?_, ?_, ?_, ?_, ?_, ?_, ?_, ?_, ?_, ?_, ?_, ?_⟩ <;> repeat' (first | refine ⟨rfl, ?_⟩ | rfl))
    main_chain

/-! ## The tables -/

/-- The tables' contents when the launch begins. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
attribute [irreducible] V tbl

/-- Every window's block lies in its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves, one by one. -/
theorem PhiT0_eq (c : Dev nD) : (Pipeline.ΦT pre0 (tbl m) c : sProp 𝕄)
    = iprop(tbPt c (Memref.whole main_v25) (tbl m 0) ∗ tbPt c (Memref.whole main_v49) (tbl m 1) ∗ tbPt c (Memref.whole main_v56) (tbl m 2)
        ∗ tbPt c (Memref.whole main_v63) (tbl m 3) ∗ tbPt c (Memref.whole main_v64) (tbl m 4)) := by
  unfold Pipeline.ΦT Pipeline.prefHeld
  rw [BI.bigSep_eq_bigSepL_of_eq [(0 : Fin 5), 1, 2, 3, 4] (by decide) (by decide)]
  rfl

/-- The words of the five tables at a point. -/
def wE (c : Dev nD) (t : Fin grid0.N) : BitVec 32 := wordAt c (grid0.coords t) (Memref.whole main_v25) (tbl m 0)
def wT (c : Dev nD) (t : Fin grid0.N) : BitVec 32 := wordAt c (grid0.coords t) (Memref.whole main_v49) (tbl m 1)
def wLo (c : Dev nD) (t : Fin grid0.N) : BitVec 32 := wordAt c (grid0.coords t) (Memref.whole main_v56) (tbl m 2)
def wHi (c : Dev nD) (t : Fin grid0.N) : BitVec 32 := wordAt c (grid0.coords t) (Memref.whole main_v63) (tbl m 3)
def wLive (c : Dev nD) (t : Fin grid0.N) : BitVec 32 := wordAt c (grid0.coords t) (Memref.whole main_v64) (tbl m 4)

/-! ## The blocks -/

/-- Window `w`'s block at point `t`, read off its array as the launch finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The three input blocks at a point, at their literal shapes. -/
def xBlk (hO : Ok m) (c : Dev nD) (t : Fin (cfgM m hO).N) : Vec F S256x1408 .bf16 := iblk m hO c 0 t
def wBlk (hO : Ok m) (c : Dev nD) (t : Fin (cfgM m hO).N) : Vec F S1x2816x1408 .fp8e4m3 := iblk m hO c 1 t
def sBlk (hO : Ok m) (c : Dev nD) (t : Fin (cfgM m hO).N) : Vec F S1x2816x44 .i8 := iblk m hO c 2 t

variable (QX : Vec F S256x1408 .bf16 → Vec F S256x1408 .bf16 → Prop)
  (QW : Vec F S1x2816x1408 .fp8e4m3 → Vec F S1x2816x44 .i8 → Vec F S1408x2816 .bf16 → Prop)

/-- What the scratch holds after point `t`: the requantised tokens and the dequantised weights of that point's blocks. -/
def Held (hO : Ok m) (c : Dev nD) (t : Fin (cfgM m hO).N) (g10 : Vec F S256x1408 .bf16) (g11 : Vec F S1408x2816 .bf16) : Prop :=
  QX (xBlk m hO c t) g10 ∧ QW (wBlk m hO c t) (sBlk m hO c t) g11

/-- What the scratch holds before point `t`. -/
def HeldBefore (hO : Ok m) (c : Dev nD) (t : Fin ((cfgM m hO).N + 1)) (g10 : Vec F S256x1408 .bf16) (g11 : Vec F S1408x2816 .bf16) : Prop :=
  ∀ h : 0 < t.val, Held m QX QW hO c ⟨t.val - 1, by have := t.isLt; omega⟩ g10 g11

/-- A step's result block: from the scratch of that step. -/
def Left (hO : Ok m) (c : Dev nD) (t : Fin (cfgM m hO).N) (Y X : Vec F S256x2816 .bf16) : Prop :=
  ∃ g10 g11, Held m QX QW hO c t g10 g11 ∧ X = stepOut (wLive m c t) (wT m c t) (wLo m c t) (wHi m c t) g10 g11 Y

/-- The launch's proof data: each input block stays, the result block is as `Left` says; the scratch as `HeldBefore` says. -/
def rdat (hO : Ok m) (c : Dev nD) : RDat τ (Elt F) Unit ℕ (UR sig nD τ) ℕ (cfgM m hO) c where
  A w := V m c (Pipeline.arrRef spec0 w)
  after w t Y X := match w, Y, X with
    | ⟨0, _⟩, Y, X => X = Y
    | ⟨1, _⟩, Y, X => X = Y
    | ⟨2, _⟩, Y, X => X = Y
    | ⟨3, _⟩, Y, X => Left m QX QW hO c t Y X
  Φ t := iprop(Pipeline.ΦT pre0 (tbl m) c ∗ (∃ r, prngReg c r)
    ∗ ∃ g10 g11, ⌜HeldBefore m QX QW hO c t g10 g11⌝ ∗ owns (c : Thread nD τ) (Memref.whole cc0_scratch0) fullShare g10
      ∗ owns (c : Thread nD τ) (Memref.whole cc0_scratch1) fullShare g11 ∗ ∃ g12, owns (c : Thread nD τ) (Memref.whole cc0_scratch2) fullShare g12)
  q _ := fullShare
  owed _ := 0

/-- An input window's buffer holds the block of its point. -/
theorem finds_in {cfg : Cfg sig Λ₀} {c : Dev nD} (rd : RDat τ (Elt F) Unit ℕ (UR sig nD τ) ℕ cfg c) (w : Fin cfg.W) (hin : (cfg.win w).isOut = false)
    (hc : ∀ t t', (cfg.win w).clip (cfg.grid.coords t) = (cfg.win w).clip (cfg.grid.coords t'))
    (ha : ∀ t Y X, rd.after w t Y X → X = Y) : ∀ (n : ℕ) (t : Fin cfg.N), t.val = n → ∀ Y, rd.Finds w t Y → ∃ d, Y = rd.fetched w t d := by
  intro n
  induction n with
  | zero =>
    intro t ht Y h
    refine (rd.finds_of_fetch ?_ Y).mp h
    unfold Window.fetch; simp [hin, ht]
  | succ n ih =>
    intro t ht Y h
    by_cases hf : (cfg.win w).fetch t = true
    · exact (rd.finds_of_fetch hf Y).mp h
    · have hf' : (cfg.win w).fetch t = false := eq_false_of_ne_true hf
      have hidx : (cfg.win w).index t = (cfg.win w).index ⟨t.val - 1, Nat.lt_of_le_of_lt (Nat.sub_le _ _) t.isLt⟩ := by
        by_contra hne
        apply hf
        unfold Window.fetch
        rw [hin]
        simp only [Bool.not_false, Bool.true_and, Bool.or_eq_true, decide_eq_true_eq]
        exact .inr ⟨by omega, hne⟩
      rcases (rd.finds_of_pos hf' (by omega) Y).mp h with hfl | ⟨Y', hY', hL⟩
      · exfalso; unfold Window.flush at hfl; rw [hin] at hfl; simp at hfl
      · obtain rfl := ha _ _ _ hL
        obtain ⟨d, hd⟩ := ih ⟨t.val - 1, Nat.lt_of_le_of_lt (Nat.sub_le _ _) t.isLt⟩ (by show t.val - 1 = n; omega) _ hY'
        exact ⟨d, hd.trans (rd.fetched_congr w hidx (hc _ _) d).symm⟩

theorem finds0 (hO : Ok m) (c : Dev nD) (t : Fin (cfgM m hO).N) (Y) (h : (rdat m QX QW hO c).Finds 0 t Y) : Y = xBlk m hO c t := by
  obtain ⟨d, rfl⟩ := finds_in (rdat m QX QW hO c) 0 rfl (fun _ _ => rfl) (fun _ _ _ h => h) t.val t rfl Y h
  rfl
theorem finds1 (hO : Ok m) (c : Dev nD) (t : Fin (cfgM m hO).N) (Y) (h : (rdat m QX QW hO c).Finds 1 t Y) : Y = wBlk m hO c t := by
  obtain ⟨d, rfl⟩ := finds_in (rdat m QX QW hO c) 1 rfl (fun _ _ => rfl) (fun _ _ _ h => h) t.val t rfl Y h
  rfl
theorem finds2 (hO : Ok m) (c : Dev nD) (t : Fin (cfgM m hO).N) (Y) (h : (rdat m QX QW hO c).Finds 2 t Y) : Y = sBlk m hO c t := by
  obtain ⟨d, rfl⟩ := finds_in (rdat m QX QW hO c) 2 rfl (fun _ _ => rfl) (fun _ _ _ h => h) t.val t rfl Y h
  rfl

/-! ## When the blocks do not move -/

theorem newWord_ne (i : grid0.Coords) (w w' : BitVec 32) (h : newWord i w w' ≠ 1#1) : (i 0).val ≠ 0 ∧ w = w' := by
  have key : ∀ a b : Bool, Scalar.cmpi .ne (Scalar.extui (Scalar.ori (BitVec.ofBool a) (BitVec.ofBool b)) : BitVec 32) 0#32 ≠ 1#1 → a = false ∧ b = false := by decide
  have := key _ _ h
  constructor
  · intro h0; rw [h0] at this; exact absurd this.1 (by decide)
  · have h2 := this.2
    simpa using h2

theorem off_prev : ∀ t : Fin grid0.N, t.val ≠ 0 → k0_off2 (grid0.coords t) = k0_off1 (grid0.coords ⟨t.val - 1, Nat.lt_of_le_of_lt (Nat.sub_le _ _) t.isLt⟩) := by
  decide +kernel

theorem coords_val : ∀ t : Fin grid0.N, ((grid0.coords t) 0).val = t.val := by decide +kernel

theorem wordPrev_eq (c : Dev nD) (t : Fin grid0.N) (ht : t.val ≠ 0) (M : Memref sig .tc .smem S191 .i32) (f : TbBuf (F := F) c M) :
    wordPrev c (grid0.coords t) M f = wordAt c (grid0.coords ⟨t.val - 1, Nat.lt_of_le_of_lt (Nat.sub_le _ _) t.isLt⟩) M f := by
  have gen : ∀ (o o' : Fin 1 → ℕ) (h h'), o = o' →
      M.view.readAt (Elt F) (Rect.unit (s := S191) o S1.size h).toLoadRect f (Shape.Idx.first (numel1_S1.symm ▸ Nat.one_pos))
        = M.view.readAt (Elt F) (Rect.unit (s := S191) o' S1.size h').toLoadRect f (Shape.Idx.first (numel1_S1.symm ▸ Nat.one_pos)) := by
    intro o o' h h' e; subst e; rfl
  exact gen _ _ _ _ (off_prev t ht)

/-- The index maps are the tables' words. -/
theorem ix_tile (pf : pre0.Contents (Elt F)) (i : grid0.Coords) (w : Fin 4) (hw : w = 0 ∨ w = 3) (a) :
    ix0 pf w i a = if a.val = 0 then (wordAt 0 i (Memref.whole main_v49) (pf 1)).toNat else 0 := by
  rcases hw with rfl | rfl <;> (revert a; intro (a : Fin 2); fin_cases a <;> rfl)
theorem ix_expert (pf : pre0.Contents (Elt F)) (i : grid0.Coords) (w : Fin 4) (hw : w = 1 ∨ w = 2) (a) :
    ix0 pf w i a = if a.val = 0 then (wordAt 0 i (Memref.whole main_v25) (pf 0)).toNat else 0 := by
  rcases hw with rfl | rfl <;> (revert a; intro (a : Fin 3); fin_cases a <;> rfl)

theorem idxT (hO : Ok m) (w : Fin 4) (hw : w = 0 ∨ w = 3) (t t' : Fin (cfgM m hO).N) (h : wT m 0 t = wT m 0 t') : ((cfgM m hO).win w).index t = ((cfgM m hO).win w).index t' := by
  funext a
  refine (ix_tile (tbl m) (grid0.coords t) w hw a).trans (Eq.trans ?_ (ix_tile (tbl m) (grid0.coords t') w hw a).symm)
  exact congrArg (fun x : BitVec 32 => if a.val = 0 then x.toNat else 0) h
theorem idxE (hO : Ok m) (w : Fin 4) (hw : w = 1 ∨ w = 2) (t t' : Fin (cfgM m hO).N) (h : wE m 0 t = wE m 0 t') : ((cfgM m hO).win w).index t = ((cfgM m hO).win w).index t' := by
  funext a
  refine (ix_expert (tbl m) (grid0.coords t) w hw a).trans (Eq.trans ?_ (ix_expert (tbl m) (grid0.coords t') w hw a).symm)
  exact congrArg (fun x : BitVec 32 => if a.val = 0 then x.toNat else 0) h

theorem xBlk_congr (hO : Ok m) (c : Dev nD) (t t' : Fin (cfgM m hO).N) (h : wT m 0 t = wT m 0 t') : xBlk m hO c t = xBlk m hO c t' :=
  (rdat m (fun _ _ => True) (fun _ _ _ => True) hO c).fetched_congr 0 (idxT m hO 0 (.inl rfl) t t' h) rfl (fun _ => Classical.arbitrary _)
theorem wBlk_congr (hO : Ok m) (c : Dev nD) (t t' : Fin (cfgM m hO).N) (h : wE m 0 t = wE m 0 t') : wBlk m hO c t = wBlk m hO c t' :=
  (rdat m (fun _ _ => True) (fun _ _ _ => True) hO c).fetched_congr 1 (idxE m hO 1 (.inl rfl) t t' h) rfl (fun _ => Classical.arbitrary _)
theorem sBlk_congr (hO : Ok m) (c : Dev nD) (t t' : Fin (cfgM m hO).N) (h : wE m 0 t = wE m 0 t') : sBlk m hO c t = sBlk m hO c t' :=
  (rdat m (fun _ _ => True) (fun _ _ _ => True) hO c).fetched_congr 2 (idxE m hO 2 (.inr rfl) t t' h) rfl (fun _ => Classical.arbitrary _)

/-! ## The body obligation -/

variable {QX QW}

/-- The body at a point, over any staging buffers: what it leaves in the scratch is right for the point's blocks. -/
theorem held_step (hO : Ok m) (c : Dev nD) (t : Fin (cfgM m hO).N) {g10 g10' : Vec F S256x1408 .bf16} {g11 g11' : Vec F S1408x2816 .bf16}
    (hB : HeldBefore m QX QW hO c t.castSucc g10 g11)
    (h1 : newWord (grid0.coords t) (wT m c t) (wordPrev c (grid0.coords t) (Memref.whole main_v49) (tbl m 1)) = 1#1 → QX (xBlk m hO c t) g10')
    (h2 : newWord (grid0.coords t) (wT m c t) (wordPrev c (grid0.coords t) (Memref.whole main_v49) (tbl m 1)) ≠ 1#1 → g10' = g10)
    (h3 : newWord (grid0.coords t) (wE m c t) (wordPrev c (grid0.coords t) (Memref.whole main_v25) (tbl m 0)) = 1#1 → QW (wBlk m hO c t) (sBlk m hO c t) g11')
    (h4 : newWord (grid0.coords t) (wE m c t) (wordPrev c (grid0.coords t) (Memref.whole main_v25) (tbl m 0)) ≠ 1#1 → g11' = g11) :
    Held m QX QW hO c t g10' g11' := by
  obtain rfl : c = 0 := Subsingleton.elim _ _
  constructor
  · by_cases h : newWord (grid0.coords t) (wT m 0 t) (wordPrev 0 (grid0.coords t) (Memref.whole main_v49) (tbl m 1)) = 1#1
    · exact h1 h
    · rw [h2 h]
      obtain ⟨h0, he⟩ := newWord_ne _ _ _ h
      rw [coords_val t] at h0
      have he := he.trans (wordPrev_eq 0 t h0 _ _)
      rw [xBlk_congr m hO 0 t _ he]
      exact (hB (Nat.pos_of_ne_zero h0)).1
  · by_cases h : newWord (grid0.coords t) (wE m 0 t) (wordPrev 0 (grid0.coords t) (Memref.whole main_v25) (tbl m 0)) = 1#1
    · exact h3 h
    · rw [h4 h]
      obtain ⟨h0, he⟩ := newWord_ne _ _ _ h
      rw [coords_val t] at h0
      have he := he.trans (wordPrev_eq 0 t h0 _ _)
      rw [wBlk_congr m hO 0 t _ he, sBlk_congr m hO 0 t _ he]
      exact (hB (Nat.pos_of_ne_zero h0)).2

end Cert.KernelIdeal.Gen

end
-- ==== Proof.Launch.lean ====
module

public import proofs.«01_k».proof.Proof.Run

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {QX : Vec F S256x1408 .bf16 → Vec F S256x1408 .bf16 → Prop}
  {QW : Vec F S1x2816x1408 .fp8e4m3 → Vec F S1x2816x44 .i8 → Vec F S1408x2816 .bf16 → Prop}

/-! ## The body obligation -/

/-- The body at a point, as the launch calls it. -/
abbrev bodyAt (hO : Ok m) (t : Fin (cfgM m hO).N) : Prog (TpuEff nD τ sig (Elt F) Λ₀ .tc) PUnit :=
  cc0_grouped_mm (grid0.coords t) (Memref.whole main_v25) (Memref.isWhole_whole _) (Memref.whole main_v49) (Memref.isWhole_whole _) (Memref.whole main_v56) (Memref.isWhole_whole _) (Memref.whole main_v63) (Memref.isWhole_whole _) (Memref.whole main_v64) (Memref.isWhole_whole _)
    (spec0_0.stage ((cfgM m hO).slots t 0)) (hstage0_0 (((cfgM m hO).slots t 0).cast nbuf0_0)) (spec0_1.stage ((cfgM m hO).slots t 1)) (hstage0_1 (((cfgM m hO).slots t 1).cast nbuf0_1))
    (spec0_2.stage ((cfgM m hO).slots t 2)) (hstage0_2 (((cfgM m hO).slots t 2).cast nbuf0_2)) (spec0_3.stage ((cfgM m hO).slots t 3)) (hstage0_3 (((cfgM m hO).slots t 3).cast nbuf0_3))
    (Memref.whole cc0_scratch0) (Memref.isWhole_whole _) (Memref.whole cc0_scratch1) (Memref.isWhole_whole _) (Memref.whole cc0_scratch2) (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 1000000 in
theorem body_obligation (hX : XOk QX) (hW : WOk QW) (hO : Ok m) (c : Dev nD) :
    (rdat m QX QW hO c).BodyObligation (defs₀ (F := F)) Variants.none () Set.univ := by
  intro t Y hY
  have h0 := finds0 m QX QW hO c t _ (hY 0)
  have h1 := finds1 m QX QW hO c t _ (hY 1)
  have h2 := finds2 m QX QW hO c t _ (hY 2)
  rw [bigSep_W0, bigSep_W0, defs₀_row m hO]
  rw [h0, h1, h2]
  rw [show (rdat m QX QW hO c).Φ t.castSucc = iprop(Pipeline.ΦT pre0 (tbl m) c ∗ (∃ r, prngReg c r)
    ∗ ∃ g10 g11, ⌜HeldBefore m QX QW hO c t.castSucc g10 g11⌝ ∗ owns (c : Thread nD τ) (Memref.whole cc0_scratch0) fullShare g10
      ∗ owns (c : Thread nD τ) (Memref.whole cc0_scratch1) fullShare g11 ∗ ∃ g12, owns (c : Thread nD τ) (Memref.whole cc0_scratch2) fullShare g12) from rfl]
  rw [show (rdat m QX QW hO c).Φ t.succ = iprop(Pipeline.ΦT pre0 (tbl m) c ∗ (∃ r, prngReg c r)
    ∗ ∃ g10 g11, ⌜HeldBefore m QX QW hO c t.succ g10 g11⌝ ∗ owns (c : Thread nD τ) (Memref.whole cc0_scratch0) fullShare g10
      ∗ owns (c : Thread nD τ) (Memref.whole cc0_scratch1) fullShare g11 ∗ ∃ g12, owns (c : Thread nD τ) (Memref.whole cc0_scratch2) fullShare g12) from rfl]
  rw [PhiT0_eq]
  rw [show (rdat m QX QW hO c).owesAt () t.castSucc = (rdat m QX QW hO c).owesAt () t.succ from rfl]
  iintro ⟨⟨⟨HT1, HT2, HT3, HT4, HT5⟩, Hg, ⟨%g10, %g11, %hB, H10, H11, ⟨%g12, H12⟩⟩⟩, HW, H6, H7, H8, H9⟩
  iapply (bodyRun hX hW c (grid0.coords t) (Memref.whole main_v25) (Memref.isWhole_whole _) (Memref.whole main_v49) (Memref.isWhole_whole _) (Memref.whole main_v56) (Memref.isWhole_whole _) (Memref.whole main_v63) (Memref.isWhole_whole _) (Memref.whole main_v64) (Memref.isWhole_whole _)
    (spec0_0.stage ((cfgM m hO).slots t 0)) (hstage0_0 (((cfgM m hO).slots t 0).cast nbuf0_0)) (spec0_1.stage ((cfgM m hO).slots t 1)) (hstage0_1 (((cfgM m hO).slots t 1).cast nbuf0_1))
    (spec0_2.stage ((cfgM m hO).slots t 2)) (hstage0_2 (((cfgM m hO).slots t 2).cast nbuf0_2)) (spec0_3.stage ((cfgM m hO).slots t 3)) (hstage0_3 (((cfgM m hO).slots t 3).cast nbuf0_3))
    (Memref.whole cc0_scratch0) (Memref.isWhole_whole _) (Memref.whole cc0_scratch1) (Memref.isWhole_whole _) (Memref.whole cc0_scratch2) (Memref.isWhole_whole _)
    (xBlk m hO c t) (wBlk m hO c t) (sBlk m hO c t) (Y 3) g10 g11 (tbl m 0) (tbl m 1) (tbl m 2) (tbl m 3) (tbl m 4))
  isplitl [HT1]; · iexact HT1
  isplitl [HT2]; · iexact HT2
  isplitl [HT3]; · iexact HT3
  isplitl [HT4]; · iexact HT4
  isplitl [HT5]; · iexact HT5
  isplitl [H6]; · iexact H6
  isplitl [H7]; · iexact H7
  isplitl [H8]; · iexact H8
  isplitl [H9]; · iexact H9
  isplitl [H10]; · iexact H10
  isplitl [H11]; · iexact H11
  isplitl [H12]; · iexists g12; iexact H12
  iintro ⟨%g10', %g11', %y, %hp, HT1, HT2, HT3, HT4, HT5, H6, H7, H8, H9, H10, H11, ⟨%g12', H12⟩⟩
  have hH : Held m QX QW hO c t g10' g11' := held_step m hO c t hB hp.1 hp.2.1 hp.2.2.1 hp.2.2.2.1
  isplitl [HT1 HT2 HT3 HT4 HT5 Hg H10 H11 H12]
  · isplitl [HT1 HT2 HT3 HT4 HT5]
    · isplitl [HT1]; · iexact HT1
      isplitl [HT2]; · iexact HT2
      isplitl [HT3]; · iexact HT3
      isplitl [HT4]; · iexact HT4
      iexact HT5
    isplitl [Hg]; · iexact Hg
    iexists g10', g11'
    isplitr; · ipureintro; exact fun _ => hH
    isplitl [H10]; · iexact H10
    isplitl [H11]; · iexact H11
    iexists g12'; iexact H12
  isplitl [HW]; · iexact HW
  isplitl [H6]; · iexists _; isplitr; swap; · iexact H6
                  ipureintro; exact rfl
  isplitl [H7]; · iexists _; isplitr; swap; · iexact H7
                  ipureintro; exact rfl
  isplitl [H8]; · iexists _; isplitr; swap; · iexact H8
                  ipureintro; exact rfl
  iexists y; isplitr; swap; · iexact H9
  ipureintro; exact ⟨g10', g11', hH, hp.2.2.2.2⟩

/-! ## The run -/

set_option backward.isDefEq.respectTransparency.types false in
/-- Every execution ends: the arrays of the windows as the write-backs of blocks in the relation `Left` make them, every other buffer unchanged, the semaphores at zero. -/
theorem run (hX : XOk QX) (hW : WOk QW) (hO : Ok m) :
    θ_run defs (onTc (τ := τ) (main (F := F))) (s₀ m ρ) (fun r => Pipeline.RDat.FramePost ((Pipeline.pin pcfgs fun _ => adm m hO) 0) (rdat m QX QW hO) (V m) r ∧ r.2.sem = fun _ => 0) :=
  Pipeline.RDat.θ_run_frameP_track (Q' := _) pcfgs (fun _ => adm m hO) (0 : Fin 1) launch0 defs₀ Variants.none (rdat m QX QW hO) m ρ main
    (hbody := fun c => body_obligation m hX hW hO c) (hshare := fun c w => by unfold RDat.share; split <;> rfl)
    (howed := fun _ _ => rfl) (V := V m) (hmain := hmain m Variants.none) (hA := fun _ _ => rfl) (hpf := V_pre m)
    (hin := fun c => by
      show iprop(Pipeline.ΦA spec0 c ∗ Pipeline.ΦT pre0 (tbl m) c) ⊢ iprop(Pipeline.ΦT pre0 (tbl m) c ∗ (∃ r, prngReg c r)
        ∗ ∃ g10 g11, ⌜HeldBefore m QX QW hO c 0 g10 g11⌝ ∗ owns (c : Thread nD τ) (Memref.whole cc0_scratch0) fullShare g10
          ∗ owns (c : Thread nD τ) (Memref.whole cc0_scratch1) fullShare g11 ∗ ∃ g12, owns (c : Thread nD τ) (Memref.whole cc0_scratch2) fullShare g12)
      unfold Pipeline.ΦA
      rw [scopedRest0_eq]
      iintro ⟨⟨⟨⟨%f0, H0⟩, ⟨%f1, H1⟩, ⟨%f2, H2⟩⟩, Hg⟩, HT⟩
      isplitl [HT]; · iexact HT
      isplitl [Hg]; · iexact Hg
      iexists f0, f1
      isplitr; · ipureintro; exact fun h => absurd h (Nat.lt_irrefl 0)
      isplitl [H0]; · rw [owns_whole]; iexact H0
      isplitl [H1]; · rw [owns_whole]; iexact H1
      iexists f2; rw [owns_whole]; iexact H2)
    (hout := fun c => by
      show iprop(Pipeline.ΦT pre0 (tbl m) c ∗ (∃ r, prngReg c r)
        ∗ ∃ g10 g11, ⌜HeldBefore m QX QW hO c (Fin.last _) g10 g11⌝ ∗ owns (c : Thread nD τ) (Memref.whole cc0_scratch0) fullShare g10
          ∗ owns (c : Thread nD τ) (Memref.whole cc0_scratch1) fullShare g11 ∗ ∃ g12, owns (c : Thread nD τ) (Memref.whole cc0_scratch2) fullShare g12)
        ⊢ Pipeline.ΦA spec0 c
      unfold Pipeline.ΦA
      rw [scopedRest0_eq]
      iintro ⟨-, Hg, ⟨%g10, %g11, -, H0, H1, ⟨%g12, H2⟩⟩⟩
      isplitr [Hg]; swap; · iexact Hg
      isplitl [H0]; · iexists g10; rw [owns_whole]; exact .rfl
      isplitl [H1]; · iexists g11; rw [owns_whole]; exact .rfl
      iexists g12; rw [owns_whole]; exact .rfl)

end Cert.KernelIdeal.Gen

end
-- ==== Proof.Tables.lean ====
module

public import proofs.«01_k».proof.Proof.Run
public import Idealize.ShloMosaic.Lib.StableHlo.ReadAt
public import Idealize.ShloMosaic.Lib.StableHlo.RunRead
public import Idealize.ShloMosaic.Lib.Routing.OpsSet
public import Idealize.ShloMosaic.Lib.Routing.OpsSearch

@[expose] public section

set_option maxRecDepth 16384

noncomputable section

namespace Cert.KernelIdeal.Gen

open Idealize.ShloMosaic Idealize.ShloMosaic.TcCoe Idealize.ShloMosaic.Tactic

/-! The work list as functions of the group sizes, as the host program writes it. -/

/-- Where each expert's rows end. -/
def tEnds (g : IVec S64 32) : IVec S64 32 :=
  Host.reduceWindow IntOp.addi ![64] ![1] ![63] ![0] g (broadcastInDim S_ ![] bcast_S_S_ (constantI S_ 32 0#32))
    reduceWindows_S64_S64_w64s1p63_0 h_S_
/-- Where each expert's rows start. -/
def tStarts (g : IVec S64 32) : IVec S64 32 := subi (tEnds g) g
/-- The rounded-down quotient by a scalar. -/
def tDiv (x : IVec S64 32) (d : IVec S_ 32) : IVec S64 32 :=
  select (andi (cmpi .ne (signi x) (broadcastInDim S64 ![] bcast_S_S64 (signi d)))
      (cmpi .ne (Host.remsi x (broadcastInDim S64 ![] bcast_S_S64 d)) (broadcastInDim S64 ![] bcast_S_S64 (constantI S_ 32 0#32))))
    (subi (Host.divsi x (broadcastInDim S64 ![] bcast_S_S64 d)) (broadcastInDim S64 ![] bcast_S_S64 (constantI S_ 32 1#32)))
    (Host.divsi x (broadcastInDim S64 ![] bcast_S_S64 d))
/-- Each expert's first row block. -/
def tFirst (g : IVec S64 32) : IVec S64 32 := tDiv (tStarts g) (constantI S_ 32 256#32)
/-- Each expert's last row block, the one before its first where it has no rows. -/
def tLast (g : IVec S64 32) : IVec S64 32 :=
  select (cmpi .sgt g (broadcastInDim S64 ![] bcast_S_S64 (constantI S_ 32 0#32)))
    (tDiv (subi (tEnds g) (broadcastInDim S64 ![] bcast_S_S64 (constantI S_ 32 1#32))) (constantI S_ 32 256#32))
    (subi (tFirst g) (broadcastInDim S64 ![] bcast_S_S64 (constantI S_ 32 1#32)))
/-- How many row blocks each expert visits. -/
def tCount (g : IVec S64 32) : IVec S64 32 :=
  addi (subi (tLast g) (tFirst g)) (broadcastInDim S64 ![] bcast_S_S64 (constantI S_ 32 1#32))
/-- The running count of visits. -/
def tCend (g : IVec S64 32) : IVec S64 32 :=
  Host.reduceWindow IntOp.addi ![64] ![1] ![63] ![0] (tCount g) (broadcastInDim S_ ![] bcast_S_S_ (constantI S_ 32 0#32))
    reduceWindows_S64_S64_w64s1p63_0 h_S_
/-- The number of visits, as a scalar. -/
def tTot (g : IVec S64 32) : IVec S_ 32 :=
  shapeCast S_ (extractStridedSlice S1 ![63] (tCend g) slices_S64_S1_63) shapeCasts_S1_S_
/-- Each entry's visit, the last one repeated. -/
def tVisit (g : IVec S64 32) : IVec S191 32 :=
  minsi (iotaInDim S191 32 0) (broadcastInDim S191 ![] bcast_S_S191 (subi (tTot g) (constantI S_ 32 1#32)))
/-- Each entry's expert. -/
def tExpert (g : IVec S64 32) : IVec S191 32 :=
  Host.reduce IntOp.addi (extui 32 (cmpi .sle
      (broadcastInDim S64x191 ![0, 1] bcast_S64x1_S64x191_0_1 (broadcastInDim S64x1 ![0] bcast_S64_S64x1_0 (tCend g)))
      (broadcastInDim S64x191 ![0, 1] bcast_S1x191_S64x191_0_1 (broadcastInDim S1x191 ![1] bcast_S191_S1x191_1 (tVisit g)))) natLt_1_32)
    (constantI S_ 32 0#32) reducesTo_S64x191_S191_d0 h_S_
/-- An expert's entry of a table, at each entry's expert. -/
def tAt (e : IVec S191 32) (x : IVec S64 32) : IVec S191 32 :=
  Host.gather gather_S64_S191x1_S191_n_0_n_n_0_1_1 x (broadcastInDim S191x1 ![0] bcast_S191_S191x1_0
    (select (cmpi .slt e (broadcastInDim S191 ![] bcast_S_S191 (constantI S_ 32 0#32)))
      (addi e (broadcastInDim S191 ![] bcast_S_S191 (constantI S_ 32 64#32))) e))
/-- Each entry's row block. -/
def tTile (g : IVec S64 32) : IVec S191 32 :=
  subi (addi (tAt (tExpert g) (tFirst g)) (tVisit g)) (subi (tAt (tExpert g) (tCend g)) (tAt (tExpert g) (tCount g)))
/-- Whether an entry is a visit of its own. -/
def tLive (g : IVec S64 32) : IVec S191 32 :=
  extui 32 (cmpi .slt (iotaInDim S191 32 0) (broadcastInDim S191 ![] bcast_S_S191 (tTot g))) natLt_1_32

variable {F : FTy → Type} [FloatOps F]
variable (m : (ℓ : Loc nD τ sig) → Buf (Elt F) ℓ)

set_option maxHeartbeats 4000000 in
/-- The five tables, as functions of the group sizes. -/
theorem V_tables (c : Dev nD) : V m c main_v25 = tExpert (m (c, main_arg1)) ∧ V m c main_v49 = tTile (m (c, main_arg1))
    ∧ V m c main_v56 = tAt (tExpert (m (c, main_arg1))) (tStarts (m (c, main_arg1)))
    ∧ V m c main_v63 = tAt (tExpert (m (c, main_arg1))) (tEnds (m (c, main_arg1)))
    ∧ V m c main_v64 = tLive (m (c, main_arg1)) := by
  refine ⟨?_, ?_, ?_, ?_, ?_⟩
  all_goals
    unfold V
    unfold_abbrev_sides
    after_reads_simp
    simp -implicitDefEqProofs only [StableHlo.TRef.toBuf, StableHlo.TRef.ofBuf, cast_cast, cast_eq]
    clean_types
    simp only [tTile, tAt, tExpert, tVisit, tLive, tTot, tCend, tCount, tLast, tFirst, tDiv, tStarts, tEnds, id]
    first | done | rfl

/-- The arguments, as the launch finds them. -/
theorem V_args (c : Dev nD) : V m c main_arg0 = m (c, main_arg0) ∧ V m c main_arg1 = m (c, main_arg1)
    ∧ V m c main_arg2 = m (c, main_arg2) ∧ V m c main_arg3 = m (c, main_arg3) := by
  refine ⟨?_, ?_, ?_, ?_⟩
  all_goals
    unfold V
    unfold_abbrev_sides
    after_reads_simp

end Cert.KernelIdeal.Gen
-- ==== Proof.TableWords.lean ====
module

public import proofs.«01_k».proof.Proof.Tables
public import proofs.«01_k».proof.Proof.WorkList
public import Idealize.ShloMosaic.Lib.Routing.OpsPair

@[expose] public section

set_option maxRecDepth 16384

noncomputable section

namespace Cert.KernelIdeal.Gen

open Idealize.ShloMosaic hiding ix1 ix2 ix3
open Idealize.ShloMosaic.TcCoe Idealize.ShloMosaic.Tactic Idealize.ShloMosaic.WordCmp
open Idealize.ShloMosaic.Routing Idealize.ShloMosaic.ValueIdx
open Cert

/-- The group sizes hold the numbers `n`. -/
def Sizes (g : IVec S64 32) (n : Nat → Nat) : Prop := ∀ e : Fin 64, g (ix1 e) = BitVec.ofNat 32 (n e.val)

variable {g : IVec S64 32} {n : Nat → Nat} (hg : Sizes g n) (hn : WorkList.S n 64 = 32768)
include hg

theorem tEnds_ap (e : Fin 64) : tEnds g (ix1 e) = BitVec.ofNat 32 (WorkList.S n (e.val + 1)) := by
  rw [WorkList.S_def]
  exact cumsum1 (N := 64) (Nm1 := 63) rfl g n hg (broadcastInDim S_ ![] bcast_S_S_ (constantI S_ 32 0#32)) rfl _ _ e

theorem tStarts_ap (e : Fin 64) : tStarts g (ix1 e) = BitVec.ofNat 32 (WorkList.S n e.val) := by
  unfold tStarts
  rw [subi_ap, tEnds_ap hg, hg e, ofNat32_sub (by rw [WorkList.S_succ]; omega), WorkList.S_succ, Nat.add_sub_cancel]

omit hg in
theorem tDiv_ap (x : IVec S64 32) (i : S64.Idx) {a : Nat} (hx : x i = BitVec.ofNat 32 a) (ha : a < 2 ^ 31) :
    tDiv x (constantI S_ 32 256#32) i = BitVec.ofNat 32 (a / 256) := by
  exact pyDiv_ap bcast_S_S64 x (constantI S_ 32 256#32) i hx rfl ha (by decide) (by decide)

include hn

theorem tCount_ap (e : Fin 64) : tCount g (ix1 e) = BitVec.ofNat 32 (WorkList.cn n e.val) := by
  have he := e.isLt
  have h1 := WorkList.S_le hn (show e.val ≤ 64 by omega)
  have h2 := WorkList.S_le hn (show e.val + 1 ≤ 64 by omega)
  have h3 := WorkList.S_succ n e.val
  have hf : tFirst g (ix1 e) = BitVec.ofNat 32 (WorkList.S n e.val / 256) := tDiv_ap _ _ (tStarts_ap hg e) (by omega)
  unfold tCount
  rw [addi_ap, subi_ap, hf, bc0, constantI_at]
  unfold tLast
  rw [select_at, cmpi_at, bc0, constantI_at, hg e, subi_ap, hf, bc0, constantI_at]
  have hc : IntOp.cmpi .sgt (BitVec.ofNat 32 (n e.val)) (0#32) = BitVec.ofBool (decide (0 < n e.val)) := by
    show BitVec.ofBool ((0#32 : BitVec 32).slt _) = _
    rw [show (0#32 : BitVec 32) = BitVec.ofNat 32 0 from rfl, slt_ofNat32 (by decide) (by omega)]
  rw [hc]
  unfold WorkList.cn
  by_cases hp : 0 < n e.val
  · rw [if_pos hp, decide_eq_true hp]
    have hd : tDiv (subi (tEnds g) (broadcastInDim S64 ![] bcast_S_S64 (constantI S_ 32 1#32))) (constantI S_ 32 256#32) (ix1 e)
        = BitVec.ofNat 32 ((WorkList.S n (e.val + 1) - 1) / 256) := by
      refine tDiv_ap _ _ ?_ (by omega)
      rw [subi_ap, tEnds_ap hg, bc0, constantI_at, show (1#32 : BitVec 32) = BitVec.ofNat 32 1 from rfl, ofNat32_sub (by omega)]
    show tDiv _ _ _ - _ + 1#32 = _
    rw [hd, ofNat32_sub (by omega), show (1#32 : BitVec 32) = BitVec.ofNat 32 1 from rfl, BitVec.ofNat_add_ofNat]
  · rw [if_neg hp, decide_eq_false hp]
    show BitVec.ofNat 32 _ - 1#32 - BitVec.ofNat 32 _ + 1#32 = 0#32
    generalize BitVec.ofNat 32 (WorkList.S n e.val / 256) = b
    rw [BitVec.sub_sub, BitVec.add_comm (1#32), ← BitVec.sub_sub, BitVec.sub_self]
    decide

theorem tCend_ap (e : Fin 64) : tCend g (ix1 e) = BitVec.ofNat 32 (WorkList.C n (e.val + 1)) := by
  have h := tCount_ap hg hn
  unfold tCend
  generalize tCount g = x at h
  rw [WorkList.C_def]
  exact cumsum1 (N := 64) (Nm1 := 63) rfl x (WorkList.cn n) h (broadcastInDim S_ ![] bcast_S_S_ (constantI S_ 32 0#32)) rfl _ _ e

theorem tTot_ap : tTot g = fun _ => BitVec.ofNat 32 (WorkList.C n 64) := by
  funext i
  have h := tCend_ap hg hn 63
  unfold tTot
  generalize tCend g = x at h
  have hz : ∀ j : S1.Idx, extractStridedSlice S1 ![63] x slices_S64_S1_63 j = x (ix1 (63 : Fin 64)) := fun j =>
    congrArg x (funext fun a => Fin.ext (by
      match a with
      | ⟨0, _⟩ =>
        have h1 : (j 0).val < 1 := (j 0).isLt
        show 63 + (j 0).val = 63
        omega))
  exact (hz _).trans h

set_option maxHeartbeats 1000000 in
theorem tVisit_ap (i : Fin 191) : tVisit g (ix1 i) = BitVec.ofNat 32 (min i.val (WorkList.C n 64 - 1)) := by
  have h1 := WorkList.C_le hn
  have h2 := WorkList.C_gt hn
  have hi := i.isLt
  unfold tVisit
  rw [tTot_ap hg hn]
  generalize WorkList.C n 64 = K at h1 h2 ⊢
  have hm : ∀ x y : IVec S191 32, minsi x y (ix1 i) = IntOp.minsi (x (ix1 i)) (y (ix1 i)) := fun _ _ => rfl
  rw [hm, iota1_ap]
  rw [bc0, subi_ap, constantI_at, show (1#32 : BitVec 32) = BitVec.ofNat 32 1 from rfl, ofNat32_sub (by omega)]
  unfold IntOp.minsi
  rw [slt_ofNat32 (by omega) (by omega)]
  rcases Nat.lt_or_ge i.val (K - 1) with h | h
  · rw [decide_eq_true h, Nat.min_eq_left (by omega)]; rfl
  · rw [decide_eq_false (by omega), Nat.min_eq_right h]; rfl

/-- The visit of entry `i`. -/
theorem visit_lt (i : Nat) : min i (WorkList.C n 64 - 1) < WorkList.C n 64 := by
  have h2 := WorkList.C_gt hn
  omega

omit hg hn in
/-- The count of the entries of a column that are not above an entry of a row. -/
theorem count_ap (x : IVec S64 32) (y : IVec S191 32) (i : Fin 191) (c : Nat → Nat) (j : Nat) (hc : ∀ e : Fin 64, c (e.val + 1) < 2 ^ 31) (hj : j < 2 ^ 31)
    (hx : ∀ e : Fin 64, x (ix1 e) = BitVec.ofNat 32 (c (e.val + 1))) (hy : y (ix1 i) = BitVec.ofNat 32 j) :
    Host.reduce IntOp.addi (extui 32 (cmpi .sle
      (broadcastInDim S64x191 ![0, 1] bcast_S64x1_S64x191_0_1 (broadcastInDim S64x1 ![0] bcast_S64_S64x1_0 x))
      (broadcastInDim S64x191 ![0, 1] bcast_S1x191_S64x191_0_1 (broadcastInDim S1x191 ![1] bcast_S191_S1x191_1 y))) natLt_1_32)
    (constantI S_ 32 0#32) reducesTo_S64x191_S191_d0 h_S_ (ix1 i) = BitVec.ofNat 32 (Nat.count (fun e => c (e + 1) ≤ j) 64) := by
  apply BitVec.eq_of_toNat_eq
  have hle : Nat.count (fun e => c (e + 1) ≤ j) 64 ≤ 64 := Nat.count_le _
  refine (StableHlo.Predicate.toNat_reduce_count_rows (by decide) _ natLt_1_32 reducesTo_S64x191_S191_d0 h_S_ (ix1 i)).trans ?_
  rw [BitVec.toNat_ofNat, Nat.mod_eq_of_lt (by omega), ← card_filter_fin 64]
  refine congrArg Finset.card (Finset.filter_congr fun q _ => ?_)
  have e1 : ∀ M : IVec S64x191 1, M (StableHlo.Predicate.ij q ((ix1 i : (shape1 191).Idx) 0)) = M (ix2 q i) := fun M =>
    congrArg M (funext fun a => match a with | ⟨0, _⟩ => rfl | ⟨1, _⟩ => rfl)
  refine (Iff.of_eq (congrArg (· = 1#1) (e1 _))).trans ?_
  rw [cmpi_at, show broadcastInDim S64x191 ![0, 1] bcast_S64x1_S64x191_0_1 (broadcastInDim S64x1 ![0] bcast_S64_S64x1_0 x) (ix2 q i) = x (ix1 q) from bcRows _ _ x q i,
    show broadcastInDim S64x191 ![0, 1] bcast_S1x191_S64x191_0_1 (broadcastInDim S1x191 ![1] bcast_S191_S1x191_1 y) (ix2 q i) = y (ix1 i) from bcCols _ _ y q i, hx, hy]
  show BitVec.ofBool (BitVec.sle _ _) = 1#1 ↔ _
  rw [sle_ofNat32 (hc q) hj]
  by_cases h : c (q.val + 1) ≤ j <;> simp [h]

theorem tExpert_ap (i : Fin 191) : tExpert g (ix1 i) = BitVec.ofNat 32 (WorkList.E n (min i.val (WorkList.C n 64 - 1))) := by
  have h1 := WorkList.C_le hn
  have hi := i.isLt
  rw [WorkList.E_def]
  unfold tExpert
  refine count_ap (tCend g) (tVisit g) i (WorkList.C n) _ (fun e => ?_) (by omega) (tCend_ap hg hn) (tVisit_ap hg hn i)
  have := WorkList.C_mono n (show e.val + 1 ≤ 64 by omega)
  omega

theorem tAt_ap (x : IVec S64 32) (i : Fin 191) :
    tAt (tExpert g) x (ix1 i) = x (ix1 ⟨WorkList.E n (min i.val (WorkList.C n 64 - 1)), WorkList.E_lt (visit_lt hg hn i.val)⟩) := by
  have hE := WorkList.E_lt (visit_lt hg hn i.val)
  refine take_ap (N := 64) (n := 191) _ rfl rfl rfl rfl x _ i hE (by omega) ?_
  erw [bcCol]
  rw [select_at, cmpi_at, bc0, constantI_at, tExpert_ap hg hn]
  refine wrap_of_lt _ _ ?_
  rw [BitVec.toNat_ofNat, Nat.mod_eq_of_lt (by omega)]
  omega

set_option maxHeartbeats 1000000 in
theorem tTile_ap (i : Fin 191) : tTile g (ix1 i) = BitVec.ofNat 32 (WorkList.T n (min i.val (WorkList.C n 64 - 1))) := by
  have hj := visit_lt hg hn i.val
  have h1 := WorkList.C_E_le hj
  have h2 := WorkList.lt_C_E hj
  have h3 := WorkList.C_succ n (WorkList.E n (min i.val (WorkList.C n 64 - 1)))
  have hE := WorkList.E_lt hj
  have h5 := WorkList.S_le hn (show WorkList.E n (min i.val (WorkList.C n 64 - 1)) ≤ 64 by omega)
  unfold tTile
  rw [subi_ap, addi_ap, subi_ap, tAt_ap hg hn, tAt_ap hg hn, tAt_ap hg hn, tVisit_ap hg hn, tCend_ap hg hn, tCount_ap hg hn,
    show tFirst g _ = _ from tDiv_ap _ _ (tStarts_ap hg _) (by show WorkList.S n (WorkList.E n _) < _; omega)]
  dsimp only
  rw [ofNat32_sub (by omega), BitVec.ofNat_add_ofNat, ofNat32_sub (by omega)]
  unfold WorkList.T
  congr 1
  omega

theorem tLive_ap (i : Fin 191) : tLive g (ix1 i) = if i.val < WorkList.C n 64 then 1#32 else 0#32 := by
  have h1 := WorkList.C_le hn
  have hi := i.isLt
  unfold tLive
  rw [tTot_ap hg hn]
  generalize WorkList.C n 64 = K at h1 ⊢
  rw [extui_at, cmpi_at, iota1_ap, bc0]
  show (BitVec.ofBool (BitVec.slt _ _)).setWidth 32 = _
  rw [slt_ofNat32 (by omega) (by omega), setWidth_ofBool]
  split <;> rfl

end Cert.KernelIdeal.Gen
-- ==== Proof.Frame.lean ====
module

public import proofs.«01_k».proof.Proof.Launch
public import proofs.«01_k».proof.Proof.TableWords
public import Idealize.ShloMosaic.Lib.Claim

@[expose] public section

set_option maxRecDepth 16384

noncomputable section

namespace Cert.KernelIdeal.Gen

open Idealize.ShloMosaic hiding ix1 ix2 ix3
open Idealize.ShloMosaic.TcCoe Idealize.ShloMosaic.Tactic
open Idealize.SL Idealize.SL.Sem
open Idealize.ShloMosaic.Pipeline (Dat RDat Cfg Window BodyObligation cellOf)
open Idealize.ShloMosaic.ValueIdx

variable {F : FTy → Type} [FloatOps F]
variable (m : (ℓ : Loc nD τ sig) → Buf (Elt F) ℓ) (ρ : Dev nD → PrngReg)

/-! ## The tables' words at a point -/

theorem N_eq : grid0.N = 191 := by decide +kernel

/-- A point as an entry of the tables. -/
def entry (t : Fin grid0.N) : Fin 191 := ⟨t.val, N_eq ▸ t.isLt⟩

theorem word_at (c : Dev nD) (t : Fin grid0.N) (M : Memref sig .tc .smem S191 .i32) (f : TbBuf (F := F) c M) :
    wordAt c (grid0.coords t) M f = M.view.read (Elt F) f (ix1 (entry t)) := by
  unfold wordAt
  refine congrArg (M.view.read (Elt F) f) (funext fun a => Fin.ext ?_)
  match a with
  | ⟨0, _⟩ =>
    show k0_off1 (grid0.coords t) 0 + 0 * 1 = t.val
    exact (congrArg (fun i : ℕ => (BitVec.ofNat 32 i).toNat) (coords_val t)).trans (by
      have h := (entry t).isLt; change t.val < 191 at h; show (BitVec.ofNat 32 t.val).toNat = t.val; rw [BitVec.toNat_ofNat]; omega)

variable {n : Nat → Nat} (hg : Sizes (m (0, main_arg1)) n) (hn : WorkList.S n 64 = 32768)
include hg hn

/-- The visit of a point. -/
def vis (n : Nat → Nat) (t : Fin grid0.N) : Nat := min t.val (WorkList.C n 64 - 1)

theorem wE_eq (t : Fin grid0.N) : wE m 0 t = BitVec.ofNat 32 (WorkList.E n (vis n t)) := by
  exact (word_at 0 t _ _).trans ((congrFun ((V_pre m 0 0).symm.trans (V_tables m 0).1) (ix1 (entry t))).trans (tExpert_ap hg hn (entry t)))
theorem wT_eq (t : Fin grid0.N) : wT m 0 t = BitVec.ofNat 32 (WorkList.T n (vis n t)) := by
  exact (word_at 0 t _ _).trans ((congrFun ((V_pre m 0 1).symm.trans (V_tables m 0).2.1) (ix1 (entry t))).trans (tTile_ap hg hn (entry t)))
theorem wLo_eq (t : Fin grid0.N) : wLo m 0 t = BitVec.ofNat 32 (WorkList.S n (WorkList.E n (vis n t))) := by
  exact (word_at 0 t _ _).trans ((congrFun ((V_pre m 0 2).symm.trans (V_tables m 0).2.2.1) (ix1 (entry t))).trans ((tAt_ap hg hn _ (entry t)).trans (tStarts_ap hg _)))
theorem wHi_eq (t : Fin grid0.N) : wHi m 0 t = BitVec.ofNat 32 (WorkList.S n (WorkList.E n (vis n t) + 1)) := by
  exact (word_at 0 t _ _).trans ((congrFun ((V_pre m 0 3).symm.trans (V_tables m 0).2.2.2.1) (ix1 (entry t))).trans ((tAt_ap hg hn _ (entry t)).trans (tEnds_ap hg _)))
theorem wLive_eq (t : Fin grid0.N) : wLive m 0 t = if t.val < WorkList.C n 64 then 1#32 else 0#32 := by
  exact (word_at 0 t _ _).trans ((congrFun ((V_pre m 0 4).symm.trans (V_tables m 0).2.2.2.2) (ix1 (entry t))).trans (tLive_ap hg hn (entry t)))

/-- The tables name blocks that are there. -/
theorem ok : Ok m := by
  have hv : ∀ i : grid0.Coords, ∃ t, grid0.coords t = i := fun i => by
    have hi : (i 0).val < grid0.N := (i 0).isLt
    refine ⟨⟨(i 0).val, hi⟩, ?_⟩
    funext a
    obtain rfl : a = 0 := Subsingleton.elim (α := Fin 1) _ _
    exact Fin.ext (coords_val _)
  have hT : ∀ i : grid0.Coords, (wordAt 0 i (Memref.whole main_v49) (tbl m 1)).toNat < 128 := fun i => by
    obtain ⟨t, rfl⟩ := hv i
    have h1 := WorkList.T_lt n hn (visit_lt hg hn t.val)
    have := wT_eq m hg hn t
    unfold wT at this
    rw [this, BitVec.toNat_ofNat, Nat.mod_eq_of_lt (by unfold vis; omega)]
    exact h1
  have hE : ∀ i : grid0.Coords, (wordAt 0 i (Memref.whole main_v25) (tbl m 0)).toNat < 64 := fun i => by
    obtain ⟨t, rfl⟩ := hv i
    have h1 := WorkList.E_lt (visit_lt hg hn t.val)
    have := wE_eq m hg hn t
    unfold wE at this
    rw [this, BitVec.toNat_ofNat, Nat.mod_eq_of_lt (by unfold vis; omega)]
    exact h1
  have bT : ∀ (i : grid0.Coords) (w : Fin 4) (hw : w = 0 ∨ w = 3) (a), (ix0 (tbl m) w i a + 1) * (spec0 w).size a ≤ (spec0 w).shape.size a := by
    intro i w hw a
    rw [ix_tile (tbl m) i w hw a]
    have h := hT i
    generalize (wordAt 0 i (Memref.whole main_v49) (tbl m 1)).toNat = k at h ⊢
    rcases hw with rfl | rfl <;>
    · revert a; intro (a : Fin 2)
      match a with
      | ⟨0, _⟩ => show (k + 1) * 256 ≤ 32768; omega
      | ⟨1, _⟩ => exact Nat.le_of_eq rfl
  have bE : ∀ (i : grid0.Coords) (w : Fin 4) (hw : w = 1 ∨ w = 2) (a), (ix0 (tbl m) w i a + 1) * (spec0 w).size a ≤ (spec0 w).shape.size a := by
    intro i w hw a
    rw [ix_expert (tbl m) i w hw a]
    have h := hE i
    generalize (wordAt 0 i (Memref.whole main_v25) (tbl m 0)).toNat = k at h ⊢
    rcases hw with rfl | rfl <;>
    · revert a; intro (a : Fin 3)
      match a with
      | ⟨0, _⟩ => show (k + 1) * 1 ≤ 64; omega
      | ⟨1, _⟩ => exact Nat.le_of_eq rfl
      | ⟨2, _⟩ => exact Nat.le_of_eq rfl
  refine ⟨fun i => ⟨bT i 0 (.inl rfl), .inr (.inl (.inr ⟨by decide, rfl, .inl ⟨Dvd.dvd.mul_left ⟨128, rfl⟩ _, ⟨128, rfl⟩⟩⟩))⟩,
    fun i => ⟨bE i 1 (.inl rfl), .inr (.inr ⟨by decide, rfl, ?_, rfl⟩)⟩, fun i => ⟨bE i 2 (.inr rfl), .inr (.inr ⟨by decide, rfl, ?_, rfl⟩)⟩,
    fun i => ⟨bT i 3 (.inr rfl), .inr (.inl (.inr ⟨by decide, rfl, .inl ⟨Dvd.dvd.mul_left ⟨128, rfl⟩ _, ⟨128, rfl⟩⟩⟩))⟩⟩
  · exact Nat.zero_mul _
  · exact Nat.zero_mul _

omit hg hn in
/-- A run that ends as the launch says leaves the arguments as they were. -/
theorem frame_of (hO : Ok m) {QX QW} {r} (h : Pipeline.RDat.FramePost ((Pipeline.pin pcfgs fun _ => adm m hO) 0) (rdat m QX QW hO) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  obtain ⟨v0, v1, v2, v3⟩ := V_args m c
  refine ⟨(h.arr_in c 0 rfl).trans v0, ((h c).2 main_arg1 (Pipeline.mem_restRefs_of main_arg1 (by decide) (by show ∀ w : Fin 4, (spec0 w).arr.view.ref ≠ main_arg1; decide))).trans v1, (h.arr_in c 1 rfl).trans v2, (h.arr_in c 2 rfl).trans v3⟩

/-- Every run ends, with the arguments unchanged and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨frame_of m (ok m hg hn) h.1, h.2⟩)
    (run m ρ (QX := fun _ _ => True) (QW := fun _ _ _ => True) (by unfold XOk; intros; trivial) (by unfold WOk; intros; trivial) (ok m hg hn))

end Cert.KernelIdeal.Gen
-- ==== Proof.Pre.lean ====
module

public import proofs.«01_k».proof.Pre_valid
public import proofs.«01_k».proof.Proof.WorkList
public import Idealize.ShloMosaic.Lib.ReduceAll
public import Idealize.ShloMosaic.Lib.Routing.OpsSet
public import Idealize.ShloMosaic.Lib.Routing.Words

@[expose] public section

set_option maxRecDepth 16384

noncomputable section

namespace Cert.Pre_valid

open Idealize.ShloMosaic
open Idealize.ShloMosaic.WordCmp Idealize.ShloMosaic.Routing Idealize.ShloMosaic.ValueIdx

variable [hF : Facts] {F : FTy → Type} [FloatOps F]

theorem and_one : ∀ a b : BitVec 1, IntOp.andi a b = 1#1 → a = 1#1 ∧ b = 1#1 := by decide

instance : Subsingleton S_.Idx := ⟨fun a b => funext fun i => i.elim0⟩

/-- What the precondition says: the tokens are bounded, the group sizes are numbers that fill the rows, the scales are finite powers of two. -/
theorem decode (x : FVec F S32768x1408 .bf16) (g : IVec S64 32) (w : FVec F S64x2816x1408 .fp8e4m3) (s : IVec S64x2816x44 8)
    (h : fn x g w s = fun _ => 1#1) :
    (∀ i, FloatOps.cmpf .ole (Host.absf (extf .f32 x (by decide)) i) (constant (F := F) S_ .f32 0x7F7F0000#32 ix0) = 1#1)
    ∧ (∃ n : Nat → Nat, (∀ e : Fin 64, g (ix1 e) = BitVec.ofNat 32 (n e.val)) ∧ WorkList.S n 64 = 32768)
    ∧ ∀ i, 1 ≤ (s i).toNat ∧ (s i).toNat ≤ 254 := by
  have h0 := congrFun h ix0
  dsimp only [fn, fn_part1] at h0
  obtain ⟨h0, hs2⟩ := and_one _ _ h0
  obtain ⟨h0, hs1⟩ := and_one _ _ h0
  obtain ⟨h0, hsum⟩ := and_one _ _ h0
  obtain ⟨h0, hle⟩ := and_one _ _ h0
  obtain ⟨hx, hge⟩ := and_one _ _ h0
  refine ⟨fun i => ?_, ⟨fun e => if he : e < 64 then (g (ix1 ⟨e, he⟩)).toNat else 0, ?_, ?_⟩, fun i => ?_⟩
  · have := Host.reduce_andi_all _ _ _ _ _ hx i
    rw [← this]; rfl
  · intro e
    dsimp only
    rw [dif_pos e.isLt, BitVec.ofNat_toNat, BitVec.setWidth_eq]
  · have hb : ∀ e : Nat, (if he : e < 64 then (g (ix1 ⟨e, he⟩)).toNat else 0) ≤ 32768 := by
      intro e
      split
      · next he =>
        have a1 := Host.reduce_andi_all _ _ _ _ _ hge (ix1 ⟨e, he⟩)
        have a2 := Host.reduce_andi_all _ _ _ _ _ hle (ix1 ⟨e, he⟩)
        rw [cmpi_at, bc0, constantI_at] at a1 a2
        generalize g (ix1 ⟨e, he⟩) = y at a1 a2 ⊢
        have b1 : (0#32 : BitVec 32).sle y = true := by revert a1; show BitVec.ofBool ((0#32 : BitVec 32).sle y) = 1#1 → _; cases (0#32 : BitVec 32).sle y <;> simp
        have b2 : y.sle 32768#32 = true := by revert a2; show BitVec.ofBool (y.sle 32768#32) = 1#1 → _; cases y.sle 32768#32 <;> simp
        rw [BitVec.sle_iff_toInt_le] at b1 b2
        have c1 : 0 ≤ y.toInt := b1
        have c2 : y.toInt ≤ 32768 := b2
        have := toNat_lt_of_toInt_nonneg y c1
        rw [BitVec.toInt_eq_toNat_cond] at c2
        split at c2 <;> omega
      · omega
    generalize hn : (fun e : Nat => if he : e < 64 then (g (ix1 ⟨e, he⟩)).toNat else 0) = n at *
    have hb' : ∀ e, n e ≤ 32768 := fun e => by rw [← hn]; exact hb e
    have hg : ∀ e : Fin 64, g (ix1 e) = BitVec.ofNat 32 (n e.val) := fun e => by
      rw [← hn]; dsimp only; rw [dif_pos e.isLt, BitVec.ofNat_toNat, BitVec.setWidth_eq]
    have hS : ∀ k, WorkList.S n k ≤ k * 32768 := by
      intro k
      induction k with
      | zero => simp [WorkList.S_def]
      | succ k ih => rw [WorkList.S_succ]; have := hb' k; omega
    have e1 : Host.reduce IntOp.addi g (constantI S_ 32 0#32) hF.reducesTo_S64_S_d0 hF.h_S_ ix0 = BitVec.ofNat 32 (WorkList.S n 64) := by
      rw [WorkList.S_def]; exact reduce_sum (N := 64) g n hg _ _
    rw [cmpi_at, constantI_at, e1] at hsum
    have e2 : BitVec.ofNat 32 (WorkList.S n 64) = 32768#32 := by
      revert hsum
      show BitVec.ofBool (BitVec.ofNat 32 (WorkList.S n 64) == 32768#32) = 1#1 → _
      by_cases hc : BitVec.ofNat 32 (WorkList.S n 64) = 32768#32
      · exact fun _ => hc
      · rw [show (BitVec.ofNat 32 (WorkList.S n 64) == 32768#32) = false from by simpa using hc]; intro hh; exact absurd hh (by decide)
    have e3 := congrArg BitVec.toNat e2
    rw [BitVec.toNat_ofNat, Nat.mod_eq_of_lt (by have := hS 64; omega)] at e3
    exact e3
  · have a1 := Host.reduce_andi_all _ _ _ _ _ hs1 i
    have a2 := Host.reduce_andi_all _ _ _ _ _ hs2 i
    rw [cmpi_at, bc0, constantI_at] at a1 a2
    generalize s i = y at a1 a2 ⊢
    revert a1 a2
    revert y
    decide

end Cert.Pre_valid
-- ==== Proof.StepValue.lean ====
/- A step's result block, read at an index. -/
module

public import proofs.«01_k».proof.Proof.Frame
public import Idealize.ShloMosaic.Lib.Pointwise
public import Idealize.ShloMosaic.Lib.Pipeline.Value

@[expose] public section

set_option maxRecDepth 16384

noncomputable section

namespace Cert.KernelIdeal.Gen

open Idealize.ShloMosaic Idealize.ShloMosaic.TcCoe Idealize.SL.Sem Cert.KernelIdeal

variable [Facts]

theorem pay158_apply (own : IVec S256x1 1) (X : Vec Ideal S256x1408 .bf16) (W : Vec Ideal S1408x256 .bf16) (Y : Vec Ideal S256x256 .bf16) (l q : Fin 256) :
    k0_pay158 own X W Y (ValueIdx.ix2 l q) = Scalar.select (own (ValueIdx.ix2 l 0))
      (∑ k : Fin 1408, (show EReal from X (ValueIdx.ix2 l k)) * (show EReal from W (ValueIdx.ix2 k q)) : EReal) (show EReal from Y (ValueIdx.ix2 l q)) := by
  pointwise [k0_pay158]
  rfl

theorem pay151_apply (v1 lo hi : BitVec 32) (l : Fin 256) :
    k0_pay151 (F := Ideal) v1 lo hi (ValueIdx.ix2 l 0) = IntOp.andi (IntOp.cmpi CmpIPredicate.sge (IntOp.addi (IntOp.muli v1 256#32) (BitVec.ofNat 32 l.val)) lo)
      (IntOp.cmpi CmpIPredicate.slt (IntOp.addi (IntOp.muli v1 256#32) (BitVec.ofNat 32 l.val)) hi) := by
  pointwise [k0_pay151]
  rfl

theorem tile_word {a b T l : ℕ} (ha : a ≤ 32768) (hb : b ≤ 32768) (hT : T < 128) (hl : l < 256) :
    IntOp.andi (IntOp.cmpi CmpIPredicate.sge (IntOp.addi (IntOp.muli (BitVec.ofNat 32 T) 256#32) (BitVec.ofNat 32 l)) (BitVec.ofNat 32 a))
      (IntOp.cmpi CmpIPredicate.slt (IntOp.addi (IntOp.muli (BitVec.ofNat 32 T) 256#32) (BitVec.ofNat 32 l)) (BitVec.ofNat 32 b))
    = if a ≤ T * 256 + l ∧ T * 256 + l < b then 1#1 else 0#1 := by
  have e : IntOp.addi (IntOp.muli (BitVec.ofNat 32 T) 256#32) (BitVec.ofNat 32 l) = BitVec.ofNat 32 (T * 256 + l) := by
    apply BitVec.eq_of_toNat_eq
    show (BitVec.ofNat 32 T * 256#32 + BitVec.ofNat 32 l).toNat = _
    rw [BitVec.toNat_add, BitVec.toNat_mul, BitVec.toNat_ofNat, BitVec.toNat_ofNat, BitVec.toNat_ofNat, BitVec.toNat_ofNat]
    omega
  rw [e]
  have ti : ∀ q : ℕ, q ≤ 32768 → (BitVec.ofNat 32 q).toInt = (q : ℤ) := fun q hq => by
    rw [BitVec.toInt_eq_toNat_cond, BitVec.toNat_ofNat, Nat.mod_eq_of_lt (by omega), if_pos (by omega)]
  show IntOp.andi (BitVec.ofBool ((BitVec.ofNat 32 a).sle (BitVec.ofNat 32 (T * 256 + l)))) (BitVec.ofBool ((BitVec.ofNat 32 (T * 256 + l)).slt (BitVec.ofNat 32 b))) = _
  rw [BitVec.sle_eq_decide, BitVec.slt_eq_decide, ti a ha, ti _ (by omega), ti b hb]
  have c1 : ((a : ℤ) ≤ ((T * 256 + l : ℕ) : ℤ)) ↔ a ≤ T * 256 + l := Int.ofNat_le
  have c2 : (((T * 256 + l : ℕ) : ℤ) < (b : ℤ)) ↔ T * 256 + l < b := Int.ofNat_lt
  simp only [c1, c2]
  by_cases h1 : a ≤ T * 256 + l <;> by_cases h2 : T * 256 + l < b <;> simp only [h1, h2, decide_true, decide_false, and_true, and_false, and_self, if_true, if_false] <;> decide

theorem outTile_apply (own : IVec S256x1 1) (X : Vec Ideal S256x1408 .bf16) (W : Vec Ideal S1408x2816 .bf16) (Y : Vec Ideal S256x2816 .bf16) (l : Fin 256) (q : Fin 2816) :
    outTile own X W Y (ValueIdx.ix2 l q) = Scalar.select (own (ValueIdx.ix2 l 0))
      (∑ k : Fin 1408, (show EReal from X (ValueIdx.ix2 l k)) * (show EReal from W (ValueIdx.ix2 k q)) : EReal) (show EReal from Y (ValueIdx.ix2 l q)) := by
  have hq : (⟨256 * (q.val / 256) + q.val % 256, by omega⟩ : Fin 2816) = q := Fin.ext (by show 256 * (q.val / 256) + q.val % 256 = q.val; omega)
  have hx : xOf (ValueIdx.ix2 l q) = ValueIdx.ix2 l (⟨q.val % 256, Nat.mod_lt _ (by decide)⟩ : Fin 256) := by
    funext a; match a with
    | ⟨0, _⟩ => rfl
    | ⟨1, _⟩ => rfl
  have hc : ∀ {R : Type} {a : ℕ} (f : (⟨2, ![a, 2816]⟩ : Shape).Idx → R) (k : Fin a), colsOf f (nOf (ValueIdx.ix2 l q)) (ValueIdx.ix2 k (⟨q.val % 256, Nat.mod_lt _ (by decide)⟩ : Fin 256)) = f (ValueIdx.ix2 k q) := by
    intro R a f k
    unfold colsOf
    refine congrArg f ?_
    funext b; match b with
    | ⟨0, _⟩ => rfl
    | ⟨1, _⟩ => exact hq
  unfold outTile
  rw [hx, pay158_apply]
  congr 1
  · exact Finset.sum_congr rfl fun k _ => congrArg (fun z : EReal => (show EReal from X (ValueIdx.ix2 l k)) * z) (hc W k)
  · exact hc Y l

theorem live_word : k0_cond3 1#32 = 1#1 ∧ k0_cond3 0#32 ≠ 1#1 := by decide

/-- What a step that visits a tile leaves: the product in the rows it owns, the rest as found. -/
theorem stepOut_live {a b T : ℕ} (ha : a ≤ 32768) (hb : b ≤ 32768) (hT : T < 128) (X : Vec Ideal S256x1408 .bf16) (W : Vec Ideal S1408x2816 .bf16) (Y : Vec Ideal S256x2816 .bf16) (l : Fin 256) (q : Fin 2816) :
    stepOut 1#32 (BitVec.ofNat 32 T) (BitVec.ofNat 32 a) (BitVec.ofNat 32 b) X W Y (ValueIdx.ix2 l q)
      = if a ≤ T * 256 + l.val ∧ T * 256 + l.val < b then (∑ k : Fin 1408, (show EReal from X (ValueIdx.ix2 l k)) * (show EReal from W (ValueIdx.ix2 k q)) : EReal) else (show EReal from Y (ValueIdx.ix2 l q)) := by
  unfold stepOut
  rw [if_pos live_word.1, outTile_apply, pay151_apply, tile_word ha hb hT l.isLt]
  by_cases h : a ≤ T * 256 + l.val ∧ T * 256 + l.val < b
  · rw [if_pos h, if_pos h]; exact if_pos rfl
  · rw [if_neg h, if_neg h]; exact if_neg (by decide)

theorem stepOut_dead (v lo hi : BitVec 32) (X : Vec Ideal S256x1408 .bf16) (W : Vec Ideal S1408x2816 .bf16) (Y : Vec Ideal S256x2816 .bf16) :
    stepOut 0#32 v lo hi X W Y = Y := by
  unfold stepOut
  rw [if_neg live_word.2]

variable (m : (ℓ : Loc nD τ sig) → Buf (Elt Ideal) ℓ)

theorem emb3 (hO : Ok m) (t : Fin (cfgM m hO).N) (l : Fin 256) (q : Fin 2816) :
    ((((cfgM m hO).win 3).blk t).view.emb (ValueIdx.ix2 l q) (0 : Fin 2)).val = (wT m 0 t).toNat * 256 + l.val
    ∧ ((((cfgM m hO).win 3).blk t).view.emb (ValueIdx.ix2 l q) (1 : Fin 2)).val = q.val := by
  have h0 : ((cfgM m hO).win 3).index t (0 : Fin 2) = (wT m 0 t).toNat := ix_tile (tbl m) (grid0.coords t) 3 (.inr rfl) (0 : Fin 2)
  have h1 : ((cfgM m hO).win 3).index t (1 : Fin 2) = 0 := ix_tile (tbl m) (grid0.coords t) 3 (.inr rfl) (1 : Fin 2)
  constructor
  · rw [← h0]
    exact Pipeline.Window.rect_emb_val ((cfgM m hO).win 3) t (ValueIdx.ix2 l q) (0 : Fin 2) rfl
  · refine (Pipeline.Window.rect_emb_val ((cfgM m hO).win 3) t (ValueIdx.ix2 l q) (1 : Fin 2) rfl).trans ?_
    rw [h1, Nat.zero_mul, Nat.zero_add]

theorem xBlk_apply (hO : Ok m) (t : Fin (cfgM m hO).N) (l : Fin 256) (k : Fin 1408) (r : Fin 32768) (hr : r.val = (wT m 0 t).toNat * 256 + l.val) :
    xBlk m hO 0 t (ValueIdx.ix2 l k) = V m 0 main_arg0 (ValueIdx.ix2 r k) := by
  have h0 : ((cfgM m hO).win 0).index t (0 : Fin 2) = (wT m 0 t).toNat := ix_tile (tbl m) (grid0.coords t) 0 (.inl rfl) (0 : Fin 2)
  have h1 : ((cfgM m hO).win 0).index t (1 : Fin 2) = 0 := ix_tile (tbl m) (grid0.coords t) 0 (.inl rfl) (1 : Fin 2)
  show V m 0 main_arg0 ((((cfgM m hO).win 0).blk t).view.emb (ValueIdx.ix2 l k)) = _
  refine congrArg (V m 0 main_arg0) (funext fun a => Fin.ext ?_)
  match a with
  | ⟨0, _⟩ =>
    exact (Pipeline.Window.rect_emb_val ((cfgM m hO).win 0) t (ValueIdx.ix2 l k) (0 : Fin 2) rfl).trans (by rw [h0]; exact hr.symm)
  | ⟨1, _⟩ =>
    exact (Pipeline.Window.rect_emb_val ((cfgM m hO).win 0) t (ValueIdx.ix2 l k) (1 : Fin 2) rfl).trans (by rw [h1, Nat.zero_mul, Nat.zero_add])

theorem wBlk_apply (hO : Ok m) (t : Fin (cfgM m hO).N) (q : Fin 2816) (k : Fin 1408) (e : Fin 64) (he : e.val = (wE m 0 t).toNat) :
    wBlk m hO 0 t (ValueIdx.ix3 0 q k) = V m 0 main_arg2 (ValueIdx.ix3 e q k) := by
  have h0 : ((cfgM m hO).win 1).index t (0 : Fin 3) = (wE m 0 t).toNat := ix_expert (tbl m) (grid0.coords t) 1 (.inl rfl) (0 : Fin 3)
  have h1 : ((cfgM m hO).win 1).index t (1 : Fin 3) = 0 := ix_expert (tbl m) (grid0.coords t) 1 (.inl rfl) (1 : Fin 3)
  have h2 : ((cfgM m hO).win 1).index t (2 : Fin 3) = 0 := ix_expert (tbl m) (grid0.coords t) 1 (.inl rfl) (2 : Fin 3)
  show V m 0 main_arg2 ((((cfgM m hO).win 1).blk t).view.emb (ValueIdx.ix3 0 q k)) = _
  refine congrArg (V m 0 main_arg2) (funext fun a => Fin.ext ?_)
  match a with
  | ⟨0, _⟩ =>
    exact (Pipeline.Window.rect_emb_val ((cfgM m hO).win 1) t (ValueIdx.ix3 0 q k) (0 : Fin 3) rfl).trans (by rw [h0]; exact (Nat.mul_one _).trans he.symm)
  | ⟨1, _⟩ =>
    exact (Pipeline.Window.rect_emb_val ((cfgM m hO).win 1) t (ValueIdx.ix3 0 q k) (1 : Fin 3) rfl).trans (by rw [h1, Nat.zero_mul, Nat.zero_add])
  | ⟨2, _⟩ =>
    exact (Pipeline.Window.rect_emb_val ((cfgM m hO).win 1) t (ValueIdx.ix3 0 q k) (2 : Fin 3) rfl).trans (by rw [h2, Nat.zero_mul, Nat.zero_add])

theorem sBlk_apply (hO : Ok m) (t : Fin (cfgM m hO).N) (q : Fin 2816) (k : Fin 44) (e : Fin 64) (he : e.val = (wE m 0 t).toNat) :
    sBlk m hO 0 t (ValueIdx.ix3 0 q k) = V m 0 main_arg3 (ValueIdx.ix3 e q k) := by
  have h0 : ((cfgM m hO).win 2).index t (0 : Fin 3) = (wE m 0 t).toNat := ix_expert (tbl m) (grid0.coords t) 2 (.inr rfl) (0 : Fin 3)
  have h1 : ((cfgM m hO).win 2).index t (1 : Fin 3) = 0 := ix_expert (tbl m) (grid0.coords t) 2 (.inr rfl) (1 : Fin 3)
  have h2 : ((cfgM m hO).win 2).index t (2 : Fin 3) = 0 := ix_expert (tbl m) (grid0.coords t) 2 (.inr rfl) (2 : Fin 3)
  show V m 0 main_arg3 ((((cfgM m hO).win 2).blk t).view.emb (ValueIdx.ix3 0 q k)) = _
  refine congrArg (V m 0 main_arg3) (funext fun a => Fin.ext ?_)
  match a with
  | ⟨0, _⟩ =>
    exact (Pipeline.Window.rect_emb_val ((cfgM m hO).win 2) t (ValueIdx.ix3 0 q k) (0 : Fin 3) rfl).trans (by rw [h0]; exact (Nat.mul_one _).trans he.symm)
  | ⟨1, _⟩ =>
    exact (Pipeline.Window.rect_emb_val ((cfgM m hO).win 2) t (ValueIdx.ix3 0 q k) (1 : Fin 3) rfl).trans (by rw [h1, Nat.zero_mul, Nat.zero_add])
  | ⟨2, _⟩ =>
    exact (Pipeline.Window.rect_emb_val ((cfgM m hO).win 2) t (ValueIdx.ix3 0 q k) (2 : Fin 3) rfl).trans (by rw [h2, Nat.zero_mul, Nat.zero_add])

end Cert.KernelIdeal.Gen
-- ==== Proof.Butterfly.lean ====
/- The exchange of row maxima between lanes: after five rounds the node at a lane bounds the magnitude of every entry of
   the lane's own group of thirty-two in the column block the lane's low bits name. -/
module

public import proofs.«01_k».proof.Proof.Gen.KernelIdeal.Skeleton
public import Idealize.ShloMosaic.Lib.Pointwise

@[expose] public section

noncomputable section

namespace Cert.KernelIdeal.Gen

open Idealize.ShloMosaic Cert.KernelIdeal

variable [Facts]

abbrev X16 : Type := FVec Ideal S16x128 .f32

/-- The index of a row and a lane. -/
abbrev at16 (r : Fin 16) (l : Fin 128) : S16x128.Idx := ValueIdx.ix2 r l

/-- Each lane's own number. -/
def lane16 : IVec S16x128 32 := iota .tc S16x128 32 [1] iota_S16x128_d1_w32

/-- The lanes with bit `sh` set. -/
def oddL (sh : BitVec 32) : IVec S16x128 1 :=
  cmpi .eq (andi (shrsi lane16 (broadcast S16x128 sh)) (broadcast S16x128 1#32)) (broadcast S16x128 1#32)

/-- The vector with lanes exchanged across bit `m`. -/
def far (m : BitVec 32) (v : X16) : X16 :=
  dynamicGather 1 v (shapeCast S16x128 (shapeCast S16x128x1 (select (cmpi .slt (xori lane16 (broadcast S16x128 m)) (broadcast S16x128 0#32))
    (addi (xori lane16 (broadcast S16x128 m)) (broadcast S16x128 128#32)) (xori lane16 (broadcast S16x128 m))) shapeCasts_S16x128_S16x128x1) shapeCasts_S16x128x1_S16x128)

/-- One round on two nodes. -/
def pairN (sh m : BitVec 32) (a b : X16) : X16 := maximumf (select (oddL sh) b a) (far m (select (oddL sh) a b))

/-- One round on a node without a partner. -/
def oneN (m : BitVec 32) (a : X16) : X16 := maximumf a (far m a)

/-- The magnitudes. -/
def upN (x : Vec Ideal S16x128 .bf16) : X16 := extf .f32 (absf x) bitsLt_bf16_f32

theorem lanes_word : ∀ i : Fin 5, ∀ l : Fin 128,
    ((((BitVec.ofNat 32 l.val).sshiftRight i.val &&& 1#32) == 1#32) = decide (l.val / 2 ^ i.val % 2 = 1))
    ∧ (BitVec.ofNat 32 l.val ^^^ BitVec.ofNat 32 (2 ^ i.val)).slt 0#32 = false
    ∧ (BitVec.ofNat 32 l.val ^^^ BitVec.ofNat 32 (2 ^ i.val)).toNat % 128 = l.val ^^^ 2 ^ i.val
    ∧ (l.val ^^^ 2 ^ i.val) < 128 ∧ (l.val ^^^ 2 ^ i.val) % 2 ^ i.val = l.val % 2 ^ i.val
    ∧ (l.val ^^^ 2 ^ i.val) / 2 ^ (i.val + 1) = l.val / 2 ^ (i.val + 1)
    ∧ (l.val ^^^ 2 ^ i.val) / 2 ^ i.val % 2 = 1 - l.val / 2 ^ i.val % 2 := by
  decide +kernel

/-- The lane across bit `i`. -/
def flip (i : Fin 5) (l : Fin 128) : Fin 128 := ⟨l.val ^^^ 2 ^ i.val, (lanes_word i l).2.2.2.1⟩

theorem oddL_apply (i : Fin 5) (r : Fin 16) (l : Fin 128) :
    oddL (BitVec.ofNat 32 i.val) (at16 r l) = if l.val / 2 ^ i.val % 2 = 1 then 1#1 else 0#1 := by
  have h := (lanes_word i l).1
  have e : oddL (BitVec.ofNat 32 i.val) (at16 r l) = BitVec.ofBool (((BitVec.ofNat 32 l.val).sshiftRight i.val &&& 1#32) == 1#32) := by
    pointwise [oddL, lane16]
    have hs : IntOp.shrsi ArithUnit.vector (BitVec.ofNat 32 l.val) (BitVec.ofNat 32 i.val) = (BitVec.ofNat 32 l.val).sshiftRight i.val := by
      fin_cases i <;> rfl
    exact congrArg (fun z => IntOp.cmpi CmpIPredicate.eq (IntOp.andi z 1#32) 1#32) hs
  rw [e, h]
  by_cases q : l.val / 2 ^ i.val % 2 = 1 <;> simp [q]

theorem far_apply (i : Fin 5) (v : X16) (r : Fin 16) (l : Fin 128) :
    far (BitVec.ofNat 32 (2 ^ i.val)) v (at16 r l) = v (at16 r (flip i l)) := by
  obtain ⟨-, h1, h2, h3, -⟩ := lanes_word i l
  pointwise [far, lane16]
  refine congrArg v (congrArg (ValueIdx.ix2 r) (Fin.ext ?_))
  have e : IntOp.cmpi CmpIPredicate.slt (IntOp.xori (BitVec.ofNat 32 l.val) (BitVec.ofNat 32 (2 ^ i.val))) 0#32 = 0#1 := by
    show BitVec.ofBool _ = _
    rw [show (IntOp.xori (BitVec.ofNat 32 l.val) (BitVec.ofNat 32 (2 ^ i.val))).slt 0#32 = false from h1]; rfl
  show BitVec.toNat (Scalar.select (IntOp.cmpi CmpIPredicate.slt (IntOp.xori (BitVec.ofNat 32 l.val) (BitVec.ofNat 32 (2 ^ i.val))) 0#32) _ _) % 128 = _
  rw [e]
  exact h2

/-- A node that bounds the magnitudes its bits name: `i` rounds done, the node's number `j`. -/
def Bounds (x : Fin 11 → X16) (i j : ℕ) (n : X16) : Prop :=
  ∀ (u : Fin 11) (r : Fin 16) (l l' : Fin 128), u.val / 2 ^ i = j → u.val % 2 ^ i = l.val % 2 ^ i → l'.val / 2 ^ i = l.val / 2 ^ i →
    x u (at16 r l') ≤ n (at16 r l)

theorem Bounds.zero (x : Fin 11 → X16) (u : Fin 11) : Bounds x 0 u.val (x u) := by
  intro u' r l l' h _ h'
  have hu : u' = u := Fin.ext (by simpa using h)
  have hl : l' = l := Fin.ext (by simpa using h')
  rw [hu, hl]

theorem sel_apply (c : IVec S16x128 1) (a b : X16) (j : S16x128.Idx) : select c a b j = if c j = 1#1 then a j else b j := rfl

theorem pairN_apply (i : Fin 5) (a b : X16) (r : Fin 16) (l : Fin 128) :
    pairN (BitVec.ofNat 32 i.val) (BitVec.ofNat 32 (2 ^ i.val)) a b (at16 r l)
      = max (if l.val / 2 ^ i.val % 2 = 1 then b (at16 r l) else a (at16 r l))
          (if l.val / 2 ^ i.val % 2 = 1 then b (at16 r (flip i l)) else a (at16 r (flip i l))) := by
  have e : pairN (BitVec.ofNat 32 i.val) (BitVec.ofNat 32 (2 ^ i.val)) a b (at16 r l)
      = max (select (oddL (BitVec.ofNat 32 i.val)) b a (at16 r l)) (far (BitVec.ofNat 32 (2 ^ i.val)) (select (oddL (BitVec.ofNat 32 i.val)) a b) (at16 r l)) := rfl
  rw [e, far_apply, sel_apply, sel_apply, oddL_apply, oddL_apply]
  have hf : (flip i l).val / 2 ^ i.val % 2 = 1 - l.val / 2 ^ i.val % 2 := (lanes_word i l).2.2.2.2.2.2
  rw [hf]
  by_cases q : l.val / 2 ^ i.val % 2 = 1
  · simp [q]
  · have : l.val / 2 ^ i.val % 2 = 0 := by omega
    simp [this]

theorem Bounds.pair (x : Fin 11 → X16) (i : Fin 5) (j : ℕ) {a b : X16} (ha : Bounds x i.val (2 * j) a) (hb : Bounds x i.val (2 * j + 1) b) :
    Bounds x (i.val + 1) j (pairN (BitVec.ofNat 32 i.val) (BitVec.ofNat 32 (2 ^ i.val)) a b) := by
  intro u r l l' h1 h2 h3
  obtain ⟨-, -, -, -, f1, f2, f3⟩ := lanes_word i l
  rw [pairN_apply]
  have g1 : (flip i l).val % 2 ^ i.val = l.val % 2 ^ i.val := f1
  have g2 : (flip i l).val / 2 ^ (i.val + 1) = l.val / 2 ^ (i.val + 1) := f2
  have g3 : (flip i l).val / 2 ^ i.val % 2 = 1 - l.val / 2 ^ i.val % 2 := f3
  rw [pow_succ, ← Nat.div_div_eq_div_mul] at h1 h3 g2
  rw [← Nat.div_div_eq_div_mul] at h3 g2
  rw [pow_succ, Nat.mod_mul, Nat.mod_mul] at h2
  have hp : 0 < 2 ^ i.val := Nat.two_pow_pos _
  have hu := Nat.mod_lt u.val hp
  have hl := Nat.mod_lt l.val hp
  have key : u.val % 2 ^ i.val = l.val % 2 ^ i.val ∧ u.val / 2 ^ i.val % 2 = l.val / 2 ^ i.val % 2 := by
    rcases Nat.mod_two_eq_zero_or_one (u.val / 2 ^ i.val) with a0 | a0 <;> rcases Nat.mod_two_eq_zero_or_one (l.val / 2 ^ i.val) with b0 | b0 <;>
      rw [a0, b0] at h2 <;> (try rw [a0, b0]) <;> omega
  obtain ⟨k1, k2⟩ := key
  by_cases q : l.val / 2 ^ i.val % 2 = 1
  · rw [if_pos q, if_pos q]
    have hj : u.val / 2 ^ i.val = 2 * j + 1 := by omega
    by_cases q' : l'.val / 2 ^ i.val % 2 = 1
    · exact le_max_of_le_left (hb u r l l' hj k1 (by omega))
    · exact le_max_of_le_right (hb u r (flip i l) l' hj (by omega) (by omega))
  · rw [if_neg q, if_neg q]
    have hj : u.val / 2 ^ i.val = 2 * j := by omega
    by_cases q' : l'.val / 2 ^ i.val % 2 = 1
    · exact le_max_of_le_right (ha u r (flip i l) l' hj (by omega) (by omega))
    · exact le_max_of_le_left (ha u r l l' hj k1 (by omega))

/-- A node without a partner is its own partner, when the partner would bound no block. -/
theorem Bounds.one (x : Fin 11 → X16) (i : Fin 5) (j : ℕ) {a : X16} (ha : Bounds x i.val (2 * j) a) (hj : 11 ≤ (2 * j + 1) * 2 ^ i.val) :
    Bounds x (i.val + 1) j (oneN (BitVec.ofNat 32 (2 ^ i.val)) a) := by
  have hb : Bounds x i.val (2 * j + 1) a := by
    intro u r l l' h
    exfalso
    have := Nat.div_mul_le_self u.val (2 ^ i.val)
    rw [h] at this
    have := u.isLt
    omega
  have e : oneN (BitVec.ofNat 32 (2 ^ i.val)) a = pairN (BitVec.ofNat 32 i.val) (BitVec.ofNat 32 (2 ^ i.val)) a a := by
    unfold oneN pairN
    have : select (oddL (BitVec.ofNat 32 i.val)) a a = a := by funext j; rw [sel_apply]; simp
    rw [this]
  rw [e]
  exact Bounds.pair x i j ha hb

/-- The node the five rounds leave. -/
def top (x : Fin 11 → X16) : X16 :=
  oneN 16#32 (pairN 3#32 8#32
    (pairN 2#32 4#32 (pairN 1#32 2#32 (pairN 0#32 1#32 (x 0) (x 1)) (pairN 0#32 1#32 (x 2) (x 3)))
      (pairN 1#32 2#32 (pairN 0#32 1#32 (x 4) (x 5)) (pairN 0#32 1#32 (x 6) (x 7))))
    (oneN 4#32 (pairN 1#32 2#32 (pairN 0#32 1#32 (x 8) (x 9)) (oneN 1#32 (x 10)))))

theorem Bounds.top (x : Fin 11 → X16) : Bounds x 5 0 (top x) := by
  refine Bounds.one x 4 0 (Bounds.pair x 3 0 (Bounds.pair x 2 0 (Bounds.pair x 1 0 (Bounds.pair x 0 0 ?_ ?_) (Bounds.pair x 0 1 ?_ ?_))
    (Bounds.pair x 1 1 (Bounds.pair x 0 2 ?_ ?_) (Bounds.pair x 0 3 ?_ ?_)))
    (Bounds.one x 2 1 (Bounds.pair x 1 2 (Bounds.pair x 0 4 ?_ ?_) (Bounds.one x 0 5 ?_ (by decide))) (by decide))) (by decide)
  exacts [Bounds.zero x 0, Bounds.zero x 1, Bounds.zero x 2, Bounds.zero x 3, Bounds.zero x 4, Bounds.zero x 5, Bounds.zero x 6,
    Bounds.zero x 7, Bounds.zero x 8, Bounds.zero x 9, Bounds.zero x 10]

/-- The node at the lane of a group's block bounds every entry of the group in that block. -/
theorem top_bounds (x : Fin 11 → X16) (u : Fin 11) (r : Fin 16) (l : Fin 128) (q : Fin 128) (hq : q.val = l.val / 32 * 32 + u.val) :
    x u (at16 r l) ≤ top x (at16 r q) := by
  refine Bounds.top x u r q l ?_ ?_ ?_ <;> have := u.isLt <;> simp only [Nat.reducePow] <;> omega

end Cert.KernelIdeal.Gen

end
-- ==== Proof.FloatWords.lean ====
/- The powers of two that floating-point words spell at the ideal values. -/
module

public import proofs.«01_k».proof.KernelIdeal
public import Idealize.ShloMosaic.PureOps.Ideal

@[expose] public section

noncomputable section

namespace Cert.FloatWords

open Idealize.ShloMosaic

theorem f32_fields : ∀ E : Fin 256, ∀ T : Fin 2,
    (BitVec.extractLsb' 31 1 (BitVec.ofNat 32 (E.val * 8388608 + T.val * 6291456)) == 1#1) = false
    ∧ (BitVec.extractLsb' 23 8 (BitVec.ofNat 32 (E.val * 8388608 + T.val * 6291456))).toNat = E.val
    ∧ (BitVec.extractLsb' 0 23 (BitVec.ofNat 32 (E.val * 8388608 + T.val * 6291456))).toNat = T.val * 6291456 := by
  decide +kernel

theorem bf16_fields : ∀ E : Fin 256, ∀ T : Fin 2,
    (BitVec.extractLsb' 15 1 (BitVec.ofNat 16 (E.val * 128 + T.val * 96)) == 1#1) = false
    ∧ (BitVec.extractLsb' 7 8 (BitVec.ofNat 16 (E.val * 128 + T.val * 96))).toNat = E.val
    ∧ (BitVec.extractLsb' 0 7 (BitVec.ofNat 16 (E.val * 128 + T.val * 96))).toNat = T.val * 96 := by
  decide +kernel

/-- A power of two, or one and three quarters of it, as a 32-bit float word. -/
theorem f32_val (E T : ℕ) (h : 1 ≤ E) (h' : E ≤ 254) (hT : T < 2) :
    Ideal.ofBits .f32 (BitVec.ofNat 32 (E * 8388608 + T * 6291456)) = (((1 + 3 / 4 * T) * (2 : ℝ) ^ ((E : ℤ) - 127) : ℝ) : EReal) := by
  obtain ⟨a, b, c⟩ := f32_fields ⟨E, by omega⟩ ⟨T, hT⟩
  simp only at a b c
  show Ideal.ieee 8 23 (BitVec.ofNat 32 (E * 8388608 + T * 6291456)) = _
  unfold Ideal.ieee
  simp only [a, b, c]
  rw [if_neg (by omega), if_neg (by omega)]
  congr 1
  have e : ((E : ℤ) - (2 ^ (8 - 1) - 1) - (23 : ℕ)) = ((E : ℤ) - 127) + (-23) := by norm_num; ring
  rw [e, zpow_add₀ (by norm_num : (2 : ℝ) ≠ 0)]
  have e2 : ((2 : ℝ) ^ (-23 : ℤ)) = 1 / 8388608 := by norm_num
  rw [e2]
  push_cast
  norm_num
  ring

/-- The same as a 16-bit brain float word. -/
theorem bf16_val (E T : ℕ) (h : 1 ≤ E) (h' : E ≤ 254) (hT : T < 2) :
    Ideal.ofBits .bf16 (BitVec.ofNat 16 (E * 128 + T * 96)) = (((1 + 3 / 4 * T) * (2 : ℝ) ^ ((E : ℤ) - 127) : ℝ) : EReal) := by
  obtain ⟨a, b, c⟩ := bf16_fields ⟨E, by omega⟩ ⟨T, hT⟩
  simp only at a b c
  show Ideal.ieee 8 7 (BitVec.ofNat 16 (E * 128 + T * 96)) = _
  unfold Ideal.ieee
  simp only [a, b, c]
  rw [if_neg (by omega), if_neg (by omega)]
  congr 1
  have e : ((E : ℤ) - (2 ^ (8 - 1) - 1) - (7 : ℕ)) = ((E : ℤ) - 127) + (-7) := by norm_num; ring
  rw [e, zpow_add₀ (by norm_num : (2 : ℝ) ≠ 0)]
  have e2 : ((2 : ℝ) ^ (-7 : ℤ)) = 1 / 128 := by norm_num
  rw [e2]
  push_cast
  norm_num
  ring

theorem bf16_pow (E : ℕ) (h : 1 ≤ E) (h' : E ≤ 254) :
    Ideal.ofBits .bf16 (BitVec.ofNat 16 (E * 128)) = (((2 : ℝ) ^ ((E : ℤ) - 127) : ℝ) : EReal) := by
  have := bf16_val E 0 h h' (by norm_num)
  simpa using this

theorem bf16_inf : Ideal.ofBits .bf16 0x7F80#16 = (⊤ : EReal) := by
  have a : (BitVec.extractLsb' 15 1 (0x7F80#16) == 1#1) = false := by decide
  have b : (BitVec.extractLsb' 7 8 (0x7F80#16)).toNat = 255 := by decide
  have c : (BitVec.extractLsb' 0 7 (0x7F80#16)).toNat = 0 := by decide
  show Ideal.ieee 8 7 (0x7F80#16) = _
  unfold Ideal.ieee
  simp only [a, b, c]
  rw [if_pos (by norm_num)]
  simp

/-- The largest finite eight-bit code and its negation. -/
theorem f32_448 : Ideal.ofBits .f32 0x43E00000#32 = ((448 : ℝ) : EReal) := by
  have h := f32_val 135 1 (by norm_num) (by norm_num) (by norm_num)
  have e : (BitVec.ofNat 32 (135 * 8388608 + 1 * 6291456)) = 0x43E00000#32 := by decide
  rw [e] at h
  rw [h]
  norm_num

theorem f32_neg448 : Ideal.ofBits .f32 0xC3E00000#32 = ((-448 : ℝ) : EReal) := by
  have a : (BitVec.extractLsb' 31 1 (0xC3E00000#32) == 1#1) = true := by decide
  have b : (BitVec.extractLsb' 23 8 (0xC3E00000#32)).toNat = 135 := by decide
  have c : (BitVec.extractLsb' 0 23 (0xC3E00000#32)).toNat = 6291456 := by decide
  show Ideal.ieee 8 23 (0xC3E00000#32) = _
  unfold Ideal.ieee
  simp only [a, b, c]
  rw [if_neg (by omega), if_neg (by omega)]
  congr 1
  norm_num

end Cert.FloatWords

end
-- ==== Proof.Ladder.lean ====
/- Quantising a row block and widening it again: over the extended reals the block's inverse scale and scale are powers of
   two that cancel, and the clip between them does not bite. -/
module

public import proofs.«01_k».proof.Proof.Butterfly
public import proofs.«01_k».proof.Proof.FloatWords
public import Idealize.ShloMosaic.Lib.BitcastPair

@[expose] public section

noncomputable section

namespace Cert.KernelIdeal.Gen

open Idealize.ShloMosaic Cert.KernelIdeal

variable [Facts]

/-! ## The exponent of the row maximum -/

/-- The lanes a rung of the ladder takes. -/
def stp (p : X16) (t : BitVec 32) : IVec S16x128 1 := cmpf .oge p (broadcast S16x128 (Scalar.ofBits (F := Ideal) .f32 t))

/-- What is left of the maximum after a rung. -/
def rest (p : X16) (t c : BitVec 32) : X16 := select (stp p t) (mulf p (broadcast S16x128 (Scalar.ofBits (F := Ideal) .f32 c))) p

/-- The exponent after a rung. -/
def expo (p : X16) (e : IVec S16x128 32) (t s : BitVec 32) : IVec S16x128 32 := select (stp p t) (addi e (broadcast S16x128 s)) e

def q1 (a : X16) : X16 := rest a 0x24E00000#32 0x1F800000#32
def q2 (a : X16) : X16 := rest (q1 a) 0x24E00000#32 0x1F800000#32
def q3 (a : X16) : X16 := rest (q2 a) 0x24E00000#32 0x1F800000#32
def q4 (a : X16) : X16 := rest (q3 a) 0x14E00000#32 0x2F800000#32
def q5 (a : X16) : X16 := rest (q4 a) 0x0CE00000#32 0x37800000#32
def q6 (a : X16) : X16 := rest (q5 a) 0x08E00000#32 0x3B800000#32
def q7 (a : X16) : X16 := rest (q6 a) 0x06E00000#32 0x3D800000#32
def q8 (a : X16) : X16 := rest (q7 a) 0x05E00000#32 0x3E800000#32
def e3 (a : X16) : IVec S16x128 32 := expo (q2 a) (expo (q1 a) (expo a (broadcast S16x128 10#32) 0x24E00000#32 64#32) 0x24E00000#32 64#32) 0x24E00000#32 64#32
def e5 (a : X16) : IVec S16x128 32 := expo (q4 a) (expo (q3 a) (e3 a) 0x14E00000#32 32#32) 0x0CE00000#32 16#32
def e9 (a : X16) : IVec S16x128 32 :=
  expo (q8 a) (expo (q7 a) (expo (q6 a) (expo (q5 a) (e5 a) 0x08E00000#32 8#32) 0x06E00000#32 4#32) 0x05E00000#32 2#32) 0x05600000#32 1#32

/-- The inverse scale's words, before they are packed. -/
def halves (a : X16) : IVec S16x128 16 :=
  trunci 16 (select (andi (cmpf .oge (truncf .bf16 a bitsLt_bf16_f32) (broadcast S16x128 (Scalar.ofBits (F := Ideal) .bf16 0x04E0#16)))
      (cmpf .olt (truncf .bf16 a bitsLt_bf16_f32) (broadcast S16x128 (Scalar.ofBits (F := Ideal) .bf16 0x7F80#16))))
    (subi (broadcast S16x128 33536#32) (shli (e9 a) (broadcast S16x128 7#32))) (broadcast S16x128 16256#32)) natLt_16_32

/-- The packed words of the inverse scale. -/
def packed (a : X16) : IVec S8x128 32 := bitcast S8x128 32 (halves a) bitcasts_S16x128_w16_S8x128_w32

theorem packed_eq (a : X16) :
    k0_pay52 (F := Ideal) a (k0_pay49 a) (k0_pay50 a 10#32) (k0_pay51 a) (Scalar.ofBits (F := Ideal) .f32 0x3B800000#32) = packed a := rfl

/-- After some rungs: `S` was taken off the exponent, and what is left is below a power of two. -/
def Rung (a : ℝ) (p : EReal) (e : BitVec 32) (B : ℕ) : Prop :=
  ∃ (S : ℕ) (q : ℝ), p = (q : EReal) ∧ e = BitVec.ofNat 32 (10 + S) ∧ a = q * 2 ^ S ∧ q < 7 / 4 * (2 : ℝ) ^ ((B : ℤ) - 118)
    ∧ (S = 0 ∨ 7 / 4 * (2 : ℝ) ^ (-118 : ℤ) ≤ q)

theorem Rung.step {a : ℝ} {p : X16} {e : IVec S16x128 32} {j : S16x128.Idx} {B : ℕ} (h : Rung a (p j) (e j) B) (s B' : ℕ) (hs : s ≤ 64)
    (hs' : 1 ≤ s) (hB : B ≤ B' + s) (hB' : s ≤ B') (t c w : BitVec 32) (ht : t = BitVec.ofNat 32 ((s + 9) * 8388608 + 1 * 6291456))
    (hc : c = BitVec.ofNat 32 ((127 - s) * 8388608 + 0 * 6291456)) (hw : w = BitVec.ofNat 32 s) :
    Rung a (rest p t c j) (expo p e t w j) B' := by
  obtain ⟨S, q, hp, he, ha, hq, hS⟩ := h
  have vt : Scalar.ofBits (F := Ideal) .f32 t = ((7 / 4 * (2 : ℝ) ^ ((s : ℤ) - 118) : ℝ) : EReal) := by
    rw [ht]
    refine (Cert.FloatWords.f32_val (s + 9) 1 (by omega) (by omega) (by norm_num)).trans ?_
    congr 1
    rw [show (((s + 9 : ℕ) : ℤ) - 127) = (s : ℤ) - 118 by push_cast; ring]
    norm_num
  have vc : Scalar.ofBits (F := Ideal) .f32 c = (((2 : ℝ) ^ (-(s : ℤ)) : ℝ) : EReal) := by
    rw [hc]
    refine (Cert.FloatWords.f32_val (127 - s) 0 (by omega) (by omega) (by norm_num)).trans ?_
    congr 1
    rw [show (((127 - s : ℕ) : ℤ) - 127) = -(s : ℤ) by omega]
    norm_num
  have hcond : stp p t j = BitVec.ofBool (decide (((7 / 4 * (2 : ℝ) ^ ((s : ℤ) - 118) : ℝ) : EReal) ≤ (q : EReal))) := by
    rw [← vt, ← hp]; rfl
  have e1 : rest p t c j = if stp p t j = 1#1 then p j * Scalar.ofBits (F := Ideal) .f32 c else p j := rfl
  have e2 : expo p e t w j = if stp p t j = 1#1 then e j + w else e j := rfl
  rw [e1, e2, hcond, vc, hp, he]
  by_cases hle : 7 / 4 * (2 : ℝ) ^ ((s : ℤ) - 118) ≤ q
  · have hd : decide (((7 / 4 * (2 : ℝ) ^ ((s : ℤ) - 118) : ℝ) : EReal) ≤ (q : EReal)) = true := by
      rw [decide_eq_true_iff]; exact EReal.coe_le_coe_iff.2 hle
    rw [hd, if_pos (show BitVec.ofBool true = 1#1 by decide), if_pos (show BitVec.ofBool true = 1#1 by decide)]
    have h2 : (0 : ℝ) < (2 : ℝ) ^ (-(s : ℤ)) := by positivity
    refine ⟨S + s, q * (2 : ℝ) ^ (-(s : ℤ)), by norm_cast, ?_, ?_, ?_, Or.inr ?_⟩
    · rw [hw, ← BitVec.ofNat_add, Nat.add_assoc]
    · rw [ha, pow_add, zpow_neg, zpow_natCast]; field_simp
    · have := mul_lt_mul_of_pos_right hq h2
      refine lt_of_lt_of_le this ?_
      rw [mul_assoc, ← zpow_add₀ (by norm_num : (2 : ℝ) ≠ 0)]
      have : (2 : ℝ) ^ ((B : ℤ) - 118 + -(s : ℤ)) ≤ (2 : ℝ) ^ ((B' : ℤ) - 118) := zpow_le_zpow_right₀ (by norm_num) (by omega)
      linarith
    · have := mul_le_mul_of_nonneg_right hle h2.le
      refine le_trans (le_of_eq ?_) this
      rw [mul_assoc, ← zpow_add₀ (by norm_num : (2 : ℝ) ≠ 0)]
      congr 2; ring
  · have hd : decide (((7 / 4 * (2 : ℝ) ^ ((s : ℤ) - 118) : ℝ) : EReal) ≤ (q : EReal)) = false := by
      rw [decide_eq_false_iff_not]; intro h; exact hle (EReal.coe_le_coe_iff.1 h)
    rw [hd, if_neg (show ¬ BitVec.ofBool false = 1#1 by decide), if_neg (show ¬ BitVec.ofBool false = 1#1 by decide)]
    refine ⟨S, q, rfl, rfl, ha, ?_, hS⟩
    have : (2 : ℝ) ^ ((s : ℤ) - 118) ≤ (2 : ℝ) ^ ((B' : ℤ) - 118) := zpow_le_zpow_right₀ (by norm_num) (by omega)
    push Not at hle
    linarith

/-- The ladder, whole. -/
theorem ladder {a : ℝ} {m : X16} {j : S16x128.Idx} (hm : m j = (a : EReal)) (ha : a < 7 / 4 * (2 : ℝ) ^ (128 : ℤ)) :
    ∃ p, Rung a p (e9 m j) 1 := by
  have r0 : Rung a (m j) (broadcast S16x128 10#32 j) 246 := ⟨0, a, hm, rfl, by simp, by norm_num at ha ⊢; exact ha, Or.inl rfl⟩
  have r1 := Rung.step r0 64 182 (by norm_num) (by norm_num) (by norm_num) (by norm_num) 0x24E00000#32 0x1F800000#32 64#32 (by decide) (by decide) (by decide)
  have r2 := Rung.step r1 64 118 (by norm_num) (by norm_num) (by norm_num) (by norm_num) 0x24E00000#32 0x1F800000#32 64#32 (by decide) (by decide) (by decide)
  have r3 := Rung.step r2 64 64 (by norm_num) (by norm_num) (by norm_num) (by norm_num) 0x24E00000#32 0x1F800000#32 64#32 (by decide) (by decide) (by decide)
  have r4 := Rung.step r3 32 32 (by norm_num) (by norm_num) (by norm_num) (by norm_num) 0x14E00000#32 0x2F800000#32 32#32 (by decide) (by decide) (by decide)
  have r5 := Rung.step r4 16 16 (by norm_num) (by norm_num) (by norm_num) (by norm_num) 0x0CE00000#32 0x37800000#32 16#32 (by decide) (by decide) (by decide)
  have r6 := Rung.step r5 8 8 (by norm_num) (by norm_num) (by norm_num) (by norm_num) 0x08E00000#32 0x3B800000#32 8#32 (by decide) (by decide) (by decide)
  have r7 := Rung.step r6 4 4 (by norm_num) (by norm_num) (by norm_num) (by norm_num) 0x06E00000#32 0x3D800000#32 4#32 (by decide) (by decide) (by decide)
  have r8 := Rung.step r7 2 2 (by norm_num) (by norm_num) (by norm_num) (by norm_num) 0x05E00000#32 0x3E800000#32 2#32 (by decide) (by decide) (by decide)
  have r9 := Rung.step r8 1 1 (by norm_num) (by norm_num) (by norm_num) (by norm_num) 0x05600000#32 0x3F000000#32 1#32 (by decide) (by decide) (by decide)
  exact ⟨_, r9⟩

theorem half_word : ∀ S : Fin 246, BitVec.setWidth 16 (IntOp.subi 33536#32 (IntOp.shli .vector (BitVec.ofNat 32 (10 + S.val)) 7#32))
    = BitVec.ofNat 16 ((252 - S.val) * 128) := by decide +kernel

/-- The inverse scale at a lane: a power of two that brings the maximum to at most the largest code. -/
theorem halves_spec {a : ℝ} {m : X16} {j : S16x128.Idx} (hm : m j = (a : EReal)) (h0 : 0 ≤ a) (ha : a < 7 / 4 * (2 : ℝ) ^ (128 : ℤ)) :
    ∃ E : ℕ, 1 ≤ E ∧ E ≤ 253 ∧ halves m j = BitVec.ofNat 16 (E * 128) ∧ a * (2 : ℝ) ^ ((E : ℤ) - 127) ≤ 448 := by
  have vlo : Scalar.ofBits (F := Ideal) .bf16 0x04E0#16 = ((7 / 4 * (2 : ℝ) ^ (-118 : ℤ) : ℝ) : EReal) := by
    refine (Cert.FloatWords.bf16_val 9 1 (by norm_num) (by norm_num) (by norm_num)).trans ?_
    congr 1; norm_num
  have vhi : Scalar.ofBits (F := Ideal) .bf16 0x7F80#16 = (⊤ : EReal) := Cert.FloatWords.bf16_inf
  have e1 : halves m j = BitVec.setWidth 16 (if (BitVec.ofBool (decide (Scalar.ofBits (F := Ideal) .bf16 0x04E0#16 ≤ m j))
        &&& BitVec.ofBool (decide (m j < Scalar.ofBits (F := Ideal) .bf16 0x7F80#16))) = 1#1
      then IntOp.subi 33536#32 (IntOp.shli .vector (e9 m j) 7#32) else 16256#32) := rfl
  rw [e1, vlo, vhi, hm]
  have ht : decide ((a : EReal) < ⊤) = true := by rw [decide_eq_true_iff]; exact EReal.coe_lt_top a
  rw [ht]
  by_cases hle : 7 / 4 * (2 : ℝ) ^ (-118 : ℤ) ≤ a
  · have hd : decide (((7 / 4 * (2 : ℝ) ^ (-118 : ℤ) : ℝ) : EReal) ≤ (a : EReal)) = true := by
      rw [decide_eq_true_iff]; exact EReal.coe_le_coe_iff.2 hle
    rw [hd, if_pos (by decide)]
    obtain ⟨p, S, q, -, he, haq, hq, hS⟩ := ladder hm ha
    have hq' : 7 / 4 * (2 : ℝ) ^ (-118 : ℤ) ≤ q := by
      rcases hS with rfl | hS
      · rw [haq] at hle; simpa using hle
      · exact hS
    have hS2 : S < 246 := by
      by_contra hc
      push Not at hc
      have h1 : (2 : ℝ) ^ (246 : ℕ) ≤ 2 ^ S := pow_le_pow_right₀ (by norm_num) hc
      have h2 : 7 / 4 * (2 : ℝ) ^ (-118 : ℤ) * 2 ^ (246 : ℕ) ≤ q * 2 ^ S :=
        mul_le_mul hq' h1 (by positivity) (le_trans (by positivity) hq')
      rw [← haq] at h2
      have h3 : 7 / 4 * (2 : ℝ) ^ (-118 : ℤ) * 2 ^ (246 : ℕ) = 7 / 4 * (2 : ℝ) ^ (128 : ℤ) := by norm_num
      linarith
    refine ⟨252 - S, by omega, by omega, ?_, ?_⟩
    · rw [he]; exact half_word ⟨S, hS2⟩
    · rw [haq, show ((252 - S : ℕ) : ℤ) - 127 = 125 - (S : ℤ) by omega, zpow_sub₀ (by norm_num : (2 : ℝ) ≠ 0), zpow_natCast]
      have : q * 2 ^ S * ((2 : ℝ) ^ (125 : ℤ) / 2 ^ S) = q * (2 : ℝ) ^ (125 : ℤ) := by field_simp
      rw [this]
      have h4 : q * (2 : ℝ) ^ (125 : ℤ) ≤ 7 / 4 * (2 : ℝ) ^ (((1 : ℕ) : ℤ) - 118) * (2 : ℝ) ^ (125 : ℤ) :=
        mul_le_mul_of_nonneg_right hq.le (by positivity)
      refine h4.trans (le_of_eq ?_)
      norm_num
  · have hd : decide (((7 / 4 * (2 : ℝ) ^ (-118 : ℤ) : ℝ) : EReal) ≤ (a : EReal)) = false := by
      rw [decide_eq_false_iff_not]; intro h; exact hle (EReal.coe_le_coe_iff.1 h)
    rw [hd, if_neg (by decide)]
    refine ⟨127, by norm_num, by norm_num, by decide, ?_⟩
    push Not at hle
    have : 7 / 4 * (2 : ℝ) ^ (-118 : ℤ) ≤ 448 := by norm_num
    norm_num at *
    linarith

/-! ## A block, quantised and widened -/

/-- The lanes a block reads its scale from. -/
def lanesOf (v : BitVec 32) : IVec S8x128 32 :=
  ori (andi (iota .tc S8x128 32 [1] iota_S8x128_d1_w32) (broadcast S8x128 96#32)) (broadcast S8x128 v)

/-- The block's inverse scale, packed. -/
def invOf (v : BitVec 32) (W : IVec S8x128 32) : IVec S8x128 32 :=
  dynamicGather 1 W (shapeCast S8x128 (shapeCast S8x128x1 (select (cmpi .slt (lanesOf v) (broadcast S8x128 0#32))
    (addi (lanesOf v) (broadcast S8x128 128#32)) (lanesOf v)) shapeCasts_S8x128_S8x128x1) shapeCasts_S8x128x1_S8x128)

/-- The block after its codes are widened. -/
def deq (v : BitVec 32) (x : Vec Ideal S16x128 .bf16) (W : IVec S8x128 32) : FVec Ideal S16x128 .bf16 :=
  mulf (extf .bf16 (truncf .fp8e4m3 (minimumf (broadcast S16x128 (Scalar.truncf (F := Ideal) .bf16 bitsLt_bf16_f32 (Scalar.ofBits (F := Ideal) .f32 0x43E00000#32)))
      (maximumf (broadcast S16x128 (Scalar.truncf (F := Ideal) .bf16 bitsLt_bf16_f32 (Scalar.ofBits (F := Ideal) .f32 0xC3E00000#32)))
        (mulf x (bitcastToFloat .bf16 (bitcast S16x128 16 (invOf v W) bitcasts_S8x128_w32_S16x128_w16))))) bitsLt_fp8e4m3_bf16) bitsLt_fp8e4m3_bf16)
    (bitcastToFloat .bf16 (bitcast S16x128 16 (subi (broadcast S8x128 2130738944#32) (invOf v W)) bitcasts_S8x128_w32_S16x128_w16))

theorem lanesOf_word : ∀ v : Fin 11, ∀ l : Fin 128,
    ((BitVec.ofNat 32 l.val &&& 96#32) ||| BitVec.ofNat 32 v.val).slt 0#32 = false
    ∧ ((BitVec.ofNat 32 l.val &&& 96#32) ||| BitVec.ofNat 32 v.val).toNat % 128 = l.val / 32 * 32 + v.val := by
  decide +kernel

/-- The lane of a block's scale. -/
def scaleLane (v : Fin 11) (l : Fin 128) : Fin 128 := ⟨l.val / 32 * 32 + v.val, by have := v.isLt; have := l.isLt; omega⟩

theorem invOf_apply (v : Fin 11) (W : IVec S8x128 32) (r : Fin 8) (l : Fin 128) :
    invOf (BitVec.ofNat 32 v.val) W (ValueIdx.ix2 r l) = W (ValueIdx.ix2 r (scaleLane v l)) := by
  obtain ⟨h1, h2⟩ := lanesOf_word v l
  pointwise [invOf, lanesOf]
  refine congrArg W (congrArg (ValueIdx.ix2 r) (Fin.ext ?_))
  have e : IntOp.cmpi CmpIPredicate.slt (IntOp.ori (IntOp.andi (BitVec.ofNat 32 l.val) 96#32) (BitVec.ofNat 32 v.val)) 0#32 = 0#1 := by
    show BitVec.ofBool _ = _
    rw [show (IntOp.ori (IntOp.andi (BitVec.ofNat 32 l.val) 96#32) (BitVec.ofNat 32 v.val)).slt 0#32 = false from h1]; rfl
  show BitVec.toNat (Scalar.select (IntOp.cmpi CmpIPredicate.slt (IntOp.ori (IntOp.andi (BitVec.ofNat 32 l.val) 96#32) (BitVec.ofNat 32 v.val)) 0#32) _ _) % 128 = _
  rw [e]
  exact h2

/-- A half of a packed word. -/
theorem unpack (W : IVec S8x128 32) (r : Fin 16) (l : Fin 128) :
    bitcast S16x128 16 W bitcasts_S8x128_w32_S16x128_w16 (at16 r l)
      = (W (ValueIdx.ix2 ⟨r.val / 2, by have := r.isLt; omega⟩ l)).extractLsb' (16 * (r.val % 2)) 16 := by
  rw [bitcast_32_16]
  congr 1
  congr 1
  funext a; apply Fin.ext
  match a with
  | ⟨0, _⟩ => rfl
  | ⟨1, _⟩ => rfl

theorem pack (h : IVec S16x128 16) (r : Fin 8) (l : Fin 128) :
    bitcast S8x128 32 h bitcasts_S16x128_w16_S8x128_w32 (ValueIdx.ix2 r l)
      = h (at16 ⟨2 * r.val + 1, by have := r.isLt; omega⟩ l) ++ h (at16 ⟨2 * r.val, by have := r.isLt; omega⟩ l) := by
  rw [bitcast_16_32]
  congr 1 <;> congr 1 <;> funext a <;> apply Fin.ext <;> match a with | ⟨0, _⟩ => rfl | ⟨1, _⟩ => rfl

theorem halves_nat (h l : ℕ) (hh : h < 65536) (hl : l ≤ 32512) :
    (h * 65536 + l) / 1 % 65536 = l ∧ (h * 65536 + l) / 65536 % 65536 = h
    ∧ (4294967296 - (h * 65536 + l) + 2130738944) % 4294967296 / 1 % 65536 = (65536 - l + 32512) % 65536
    ∧ (4294967296 - (h * 65536 + l) + 2130738944) % 4294967296 / 65536 % 65536 = (65536 - h + 32512) % 65536 := by
  have e : 2130738944 = 32512 * 65536 + 32512 := by norm_num
  refine ⟨by omega, by omega, ?_, ?_⟩
  · rcases Nat.lt_or_ge 32512 h with a | a
    · have : (4294967296 - (h * 65536 + l) + 2130738944) % 4294967296 = (65536 - h + 32512) * 65536 + (32512 - l) := by omega
      rw [this]; omega
    · have : (4294967296 - (h * 65536 + l) + 2130738944) % 4294967296 = (32512 - h) * 65536 + (32512 - l) := by omega
      rw [this]; omega
  · rcases Nat.lt_or_ge 32512 h with a | a
    · have : (4294967296 - (h * 65536 + l) + 2130738944) % 4294967296 = (65536 - h + 32512) * 65536 + (32512 - l) := by omega
      rw [this]; omega
    · have : (4294967296 - (h * 65536 + l) + 2130738944) % 4294967296 = (32512 - h) * 65536 + (32512 - l) := by omega
      rw [this]; omega

/-- The halves of a packed word, and of the packed word of the scales: subtracting word-wise is subtracting half-wise when the low
    half does not exceed what it is taken from. -/
theorem halves_of_word (hi lo : BitVec 16) (w : BitVec 32) (hw : w = hi ++ lo) (hl : lo.toNat ≤ 32512) :
    w.extractLsb' 0 16 = lo ∧ w.extractLsb' 16 16 = hi
    ∧ (2130738944#32 - w).extractLsb' 0 16 = 32512#16 - lo ∧ (2130738944#32 - w).extractLsb' 16 16 = 32512#16 - hi := by
  have hn : w.toNat = hi.toNat * 65536 + lo.toNat := by
    rw [hw, BitVec.toNat_append, ← Nat.shiftLeft_add_eq_or_of_lt lo.isLt, Nat.shiftLeft_eq]
  obtain ⟨a, b, c, d⟩ := halves_nat hi.toNat lo.toNat hi.isLt hl
  have hs : (2130738944#32 - w).toNat = (4294967296 - w.toNat + 2130738944) % 4294967296 := by
    rw [BitVec.toNat_sub]; rfl
  have h1 : (32512#16 - lo).toNat = (65536 - lo.toNat + 32512) % 65536 := by rw [BitVec.toNat_sub]; rfl
  have h2 : (32512#16 - hi).toNat = (65536 - hi.toNat + 32512) % 65536 := by rw [BitVec.toNat_sub]; rfl
  refine ⟨?_, ?_, ?_, ?_⟩ <;> apply BitVec.eq_of_toNat_eq
  · rw [BitVec.extractLsb'_toNat, Nat.shiftRight_eq_div_pow, hn]; exact a
  · rw [BitVec.extractLsb'_toNat, Nat.shiftRight_eq_div_pow, hn]; exact b
  · rw [BitVec.extractLsb'_toNat, Nat.shiftRight_eq_div_pow, hs, hn, h1]; exact c
  · rw [BitVec.extractLsb'_toNat, Nat.shiftRight_eq_div_pow, hs, hn, h2]; exact d

end Cert.KernelIdeal.Gen
end
-- ==== Proof.Quant.lean ====
/- A block quantised and widened again is the block. -/
module

public import proofs.«01_k».proof.Proof.Ladder
public import proofs.«01_k».proof.Proof.FloatWords
public import Idealize.ShloMosaic.Lib.BitcastPair

@[expose] public section

noncomputable section

namespace Cert.KernelIdeal.Gen

open Idealize.ShloMosaic Cert.KernelIdeal

variable [Facts]

/-- The absolute value, read at a place. -/
theorem upN_apply (x : Vec Ideal S16x128 .bf16) (j : S16x128.Idx) : upN x j = max (α := EReal) (x j) (-(show EReal from x j)) := rfl

/-- A product clipped and multiplied again. -/
def clipMul (hi lo x f g : EReal) : EReal := min hi (max lo (x * f)) * g

theorem clip_apply (hi lo : Ideal .bf16) (x f g : FVec Ideal S16x128 .bf16) (j : S16x128.Idx) :
    mulf (extf .bf16 (truncf .fp8e4m3 (minimumf (broadcast S16x128 hi) (maximumf (broadcast S16x128 lo) (mulf x f))) bitsLt_fp8e4m3_bf16)
      bitsLt_fp8e4m3_bf16) g j = clipMul hi lo (x j) (f j) (g j) := rfl

theorem ofBits_apply (h : IVec S16x128 16) (j : S16x128.Idx) : bitcastToFloat (F := Ideal) .bf16 h j = Ideal.ofBits .bf16 (h j) := rfl

theorem bound_apply (b : BitVec 32) : Scalar.truncf (F := Ideal) .bf16 bitsLt_bf16_f32 (Scalar.ofBits (F := Ideal) .f32 b) = Ideal.ofBits .f32 b := rfl

theorem deq_apply (w : BitVec 32) (x : Vec Ideal S16x128 .bf16) (W : IVec S8x128 32) (j : S16x128.Idx) :
    deq w x W j = clipMul (Ideal.ofBits .f32 0x43E00000#32) (Ideal.ofBits .f32 0xC3E00000#32) (x j)
      (Ideal.ofBits .bf16 (bitcast S16x128 16 (invOf w W) bitcasts_S8x128_w32_S16x128_w16 j))
      (Ideal.ofBits .bf16 (bitcast S16x128 16 (subi (broadcast S8x128 2130738944#32) (invOf w W)) bitcasts_S8x128_w32_S16x128_w16 j)) := by
  unfold deq
  rw [clip_apply, ofBits_apply, ofBits_apply, bound_apply, bound_apply]

/-- The two factors a row and lane read, from the unpacked inverse scales. -/
theorem factors (h : IVec S16x128 16) (hh : ∀ r l, (h (at16 r l)).toNat ≤ 32512) (v : Fin 11) (r : Fin 16) (l : Fin 128) :
    bitcast S16x128 16 (invOf (BitVec.ofNat 32 v.val) (bitcast S8x128 32 h bitcasts_S16x128_w16_S8x128_w32)) bitcasts_S8x128_w32_S16x128_w16 (at16 r l)
        = h (at16 r (scaleLane v l))
    ∧ bitcast S16x128 16 (subi (broadcast S8x128 2130738944#32) (invOf (BitVec.ofNat 32 v.val) (bitcast S8x128 32 h bitcasts_S16x128_w16_S8x128_w32)))
        bitcasts_S8x128_w32_S16x128_w16 (at16 r l) = 32512#16 - h (at16 r (scaleLane v l)) := by
  have hr := r.isLt
  have hw : invOf (BitVec.ofNat 32 v.val) (bitcast S8x128 32 h bitcasts_S16x128_w16_S8x128_w32) (ValueIdx.ix2 ⟨r.val / 2, by omega⟩ l)
      = h (at16 ⟨2 * (r.val / 2) + 1, by omega⟩ (scaleLane v l)) ++ h (at16 ⟨2 * (r.val / 2), by omega⟩ (scaleLane v l)) := by
    rw [invOf_apply, pack]
  obtain ⟨a, b, c, d⟩ := halves_of_word _ _ _ hw (hh _ _)
  rw [unpack, unpack]
  show _ ∧ (2130738944#32 - invOf (BitVec.ofNat 32 v.val) (bitcast S8x128 32 h bitcasts_S16x128_w16_S8x128_w32) (ValueIdx.ix2 ⟨r.val / 2, by omega⟩ l)).extractLsb' _ 16 = _
  rcases Nat.mod_two_eq_zero_or_one r.val with h2 | h2
  · have e : r = ⟨2 * (r.val / 2), by omega⟩ := Fin.ext (by simp only; omega)
    rw [h2]
    refine ⟨a.trans ?_, c.trans ?_⟩ <;> rw [← e]
  · have e : r = ⟨2 * (r.val / 2) + 1, by omega⟩ := Fin.ext (by simp only; omega)
    rw [h2]
    refine ⟨b.trans ?_, d.trans ?_⟩ <;> rw [← e]

theorem scale_word : ∀ E : Fin 254, 1 ≤ E.val → 32512#16 - BitVec.ofNat 16 (E.val * 128) = BitVec.ofNat 16 ((254 - E.val) * 128)
    ∧ (BitVec.ofNat 16 (E.val * 128)).toNat ≤ 32512 := by decide +kernel

/-- Quantised and widened again, a block is what it was. -/
theorem deq_eq (a : X16) (hA : ∀ r l, ∃ y : ℝ, a (at16 r l) = (y : EReal) ∧ 0 ≤ y ∧ y < 7 / 4 * (2 : ℝ) ^ (128 : ℤ)) (v : Fin 11) (w : BitVec 32)
    (hw : w = BitVec.ofNat 32 v.val)
    (x : Vec Ideal S16x128 .bf16) (hx : ∀ r l, ∃ y : ℝ, x (at16 r l) = (y : EReal)) (hb : ∀ r l, upN x (at16 r l) ≤ a (at16 r (scaleLane v l)))
    (r : Fin 16) (l : Fin 128) : deq w x (packed a) (at16 r l) = x (at16 r l) := by
  subst hw
  obtain ⟨y, hy⟩ := hx r l
  obtain ⟨z, hz, hz0, hz1⟩ := hA r (scaleLane v l)
  obtain ⟨E, E1, E2, hE, hc⟩ := halves_spec hz hz0 hz1
  have hh : ∀ r l, (halves a (at16 r l)).toNat ≤ 32512 := by
    intro r l
    obtain ⟨z, hz, hz0, hz1⟩ := hA r l
    obtain ⟨E, E1, E2, hE, -⟩ := halves_spec hz hz0 hz1
    rw [hE]; exact (scale_word ⟨E, by omega⟩ E1).2
  obtain ⟨f1, f2⟩ := factors (halves a) hh v r l
  rw [hE] at f1 f2
  rw [(scale_word ⟨E, by omega⟩ E1).1] at f2
  have ab : |y| ≤ z := by
    have := hb r l
    rw [hz] at this
    have e : upN x (at16 r l) = ((|y| : ℝ) : EReal) := by
      rw [upN_apply, hy, ← EReal.coe_neg, abs_eq_max_neg]; exact (EReal.coe_strictMono.monotone.map_max).symm
    rw [e] at this
    exact EReal.coe_le_coe_iff.1 this
  rw [deq_apply]
  unfold packed
  rw [f1, f2, Cert.FloatWords.bf16_pow E E1 (by omega), Cert.FloatWords.bf16_pow (254 - E) (by omega) (by omega), hy]
  rw [Cert.FloatWords.f32_448, Cert.FloatWords.f32_neg448]
  unfold clipMul
  have hp : (0 : ℝ) < (2 : ℝ) ^ ((E : ℤ) - 127) := by positivity
  have hm : |y * (2 : ℝ) ^ ((E : ℤ) - 127)| ≤ 448 := by
    rw [abs_mul, abs_of_pos hp]
    exact le_trans (mul_le_mul_of_nonneg_right ab hp.le) hc
  obtain ⟨m1, m2⟩ := abs_le.1 hm
  rw [← EReal.coe_mul, max_eq_right (EReal.coe_le_coe_iff.2 m1), min_eq_right (EReal.coe_le_coe_iff.2 m2), ← EReal.coe_mul]
  congr 1
  rw [mul_assoc, ← zpow_add₀ (by norm_num : (2 : ℝ) ≠ 0), show ((E : ℤ) - 127) + (((254 - E : ℕ) : ℤ) - 127) = 0 by omega]
  simp

end Cert.KernelIdeal.Gen

end
-- ==== Proof.LoopX.lean ====
/- What the first loop leaves: the block it read. -/
module

public import proofs.«01_k».proof.Proof.Quant
public import proofs.«01_k».proof.Proof.Body
public import Idealize.ShloMosaic.Lib.Writes
public import Idealize.ShloMosaic.Lib.Pipeline.Value

@[expose] public section

noncomputable section

namespace Cert.KernelIdeal.Gen

open Idealize.ShloMosaic Idealize.ShloMosaic.TcCoe Idealize.SL.Sem Cert.KernelIdeal

/-- Real entries of a magnitude the scales reach. -/
def Small {s : Shape} (φ : FTy) (a : s.Idx → Ideal φ) : Prop := ∀ j, ∃ y : ℝ, a j = (y : EReal) ∧ |y| < 7 / 4 * (2 : ℝ) ^ (128 : ℤ)

/-- Entries of a magnitude, from zero. -/
def Pos (a : X16) : Prop := ∀ r l, ∃ y : ℝ, a (at16 r l) = (y : EReal) ∧ 0 ≤ y ∧ y < 7 / 4 * (2 : ℝ) ^ (128 : ℤ)

theorem pos_max {p q : EReal} {B : ℝ} (hp : ∃ y : ℝ, p = (y : EReal) ∧ 0 ≤ y ∧ y < B) (hq : ∃ y : ℝ, q = (y : EReal) ∧ 0 ≤ y ∧ y < B) :
    ∃ y : ℝ, Max.max p q = (y : EReal) ∧ 0 ≤ y ∧ y < B := by
  rcases max_choice p q with h | h <;> rw [h] <;> assumption

theorem Pos.pair (i : Fin 5) {a b : X16} (ha : Pos a) (hb : Pos b) : Pos (pairN (BitVec.ofNat 32 i.val) (BitVec.ofNat 32 (2 ^ i.val)) a b) := by
  intro r l
  rw [pairN_apply]
  apply pos_max <;> split <;> first | exact ha _ _ | exact hb _ _

theorem Pos.one (i : Fin 5) {a : X16} (ha : Pos a) : Pos (oneN (BitVec.ofNat 32 (2 ^ i.val)) a) := by
  intro r l
  have e : oneN (BitVec.ofNat 32 (2 ^ i.val)) a (at16 r l) = Max.max (a (at16 r l)) (far (BitVec.ofNat 32 (2 ^ i.val)) a (at16 r l)) := rfl
  rw [e, far_apply]
  exact pos_max (ha _ _) (ha _ _)

theorem Pos.top (x : Fin 11 → X16) (h : ∀ u, Pos (x u)) : Pos (top x) :=
  Pos.one 4 (Pos.pair 3 (Pos.pair 2 (Pos.pair 1 (Pos.pair 0 (h 0) (h 1)) (Pos.pair 0 (h 2) (h 3))) (Pos.pair 1 (Pos.pair 0 (h 4) (h 5)) (Pos.pair 0 (h 6) (h 7))))
    (Pos.one 2 (Pos.pair 1 (Pos.pair 0 (h 8) (h 9)) (Pos.one 0 (h 10)))))

theorem upN_pos {x : Vec Ideal S16x128 .bf16} (h : Small .bf16 x) : Pos (upN x) := by
  intro r l
  obtain ⟨y, hy, hb⟩ := h (at16 r l)
  refine ⟨|y|, ?_, abs_nonneg y, hb⟩
  rw [upN_apply, hy, ← EReal.coe_neg, abs_eq_max_neg]; exact (EReal.coe_strictMono.monotone.map_max).symm

section
variable [Facts]

/-- Every column block of a row block, quantised against the row's maxima and widened, is what it was. -/
theorem deq_top (x : Fin 11 → Vec Ideal S16x128 .bf16) (h : ∀ u, Small .bf16 (x u)) (v : Fin 11) (w : BitVec 32) (hw : w = BitVec.ofNat 32 v.val) :
    deq w (x v) (packed (top fun u => upN (x u))) = x v := by
  funext j
  rw [show j = at16 (j 0) (j 1) by funext a; match a with | 0 => rfl | 1 => rfl]
  refine deq_eq _ (Pos.top _ fun u => upN_pos (h u)) v w hw _ ?_ ?_ _ _
  · intro r l; obtain ⟨y, hy, -⟩ := h v (at16 r l); exact ⟨y, hy⟩
  · intro r l; exact top_bounds (fun u => upN (x u)) v r l _ rfl

/-- The column blocks of trip `k`. -/
def ld (arg6 : Memref sig .tc .vmem S256x1408 .bf16) (f6 : BufTy.Contents (Elt Ideal) arg6.view.ty) (k : Fin k0_t1_loop.trips) : Fin 11 → Vec Ideal S16x128 .bf16 :=
  ![trip_k0_t1.sl.r arg6 f6 k, trip_k0_t1.sl.r_1 arg6 f6 k, trip_k0_t1.sl.r_2 arg6 f6 k, trip_k0_t1.sl.r_3 arg6 f6 k, trip_k0_t1.sl.r_4 arg6 f6 k, trip_k0_t1.sl.r_5 arg6 f6 k, trip_k0_t1.sl.r_6 arg6 f6 k, trip_k0_t1.sl.r_7 arg6 f6 k, trip_k0_t1.sl.r_8 arg6 f6 k, trip_k0_t1.sl.r_9 arg6 f6 k, trip_k0_t1.sl.r_10 arg6 f6 k]

theorem leaf11 (arg6 : Memref sig .tc .vmem S256x1408 .bf16) (f6 : BufTy.Contents (Elt Ideal) arg6.view.ty) (k : Fin k0_t1_loop.trips) : trip_k0_t1.sl.r_11 arg6 f6 k = upN (trip_k0_t1.sl.r arg6 f6 k) := rfl
theorem leaf12 (arg6 : Memref sig .tc .vmem S256x1408 .bf16) (f6 : BufTy.Contents (Elt Ideal) arg6.view.ty) (k : Fin k0_t1_loop.trips) : trip_k0_t1.sl.r_12 arg6 f6 k = upN (trip_k0_t1.sl.r_1 arg6 f6 k) := rfl
theorem leaf13 (arg6 : Memref sig .tc .vmem S256x1408 .bf16) (f6 : BufTy.Contents (Elt Ideal) arg6.view.ty) (k : Fin k0_t1_loop.trips) : trip_k0_t1.sl.r_13 arg6 f6 k = upN (trip_k0_t1.sl.r_2 arg6 f6 k) := rfl
theorem leaf14 (arg6 : Memref sig .tc .vmem S256x1408 .bf16) (f6 : BufTy.Contents (Elt Ideal) arg6.view.ty) (k : Fin k0_t1_loop.trips) : trip_k0_t1.sl.r_14 arg6 f6 k = upN (trip_k0_t1.sl.r_3 arg6 f6 k) := rfl
theorem leaf15 (arg6 : Memref sig .tc .vmem S256x1408 .bf16) (f6 : BufTy.Contents (Elt Ideal) arg6.view.ty) (k : Fin k0_t1_loop.trips) : trip_k0_t1.sl.r_15 arg6 f6 k = upN (trip_k0_t1.sl.r_4 arg6 f6 k) := rfl
theorem leaf16 (arg6 : Memref sig .tc .vmem S256x1408 .bf16) (f6 : BufTy.Contents (Elt Ideal) arg6.view.ty) (k : Fin k0_t1_loop.trips) : trip_k0_t1.sl.r_16 arg6 f6 k = upN (trip_k0_t1.sl.r_5 arg6 f6 k) := rfl
theorem leaf17 (arg6 : Memref sig .tc .vmem S256x1408 .bf16) (f6 : BufTy.Contents (Elt Ideal) arg6.view.ty) (k : Fin k0_t1_loop.trips) : trip_k0_t1.sl.r_17 arg6 f6 k = upN (trip_k0_t1.sl.r_6 arg6 f6 k) := rfl
theorem leaf18 (arg6 : Memref sig .tc .vmem S256x1408 .bf16) (f6 : BufTy.Contents (Elt Ideal) arg6.view.ty) (k : Fin k0_t1_loop.trips) : trip_k0_t1.sl.r_18 arg6 f6 k = upN (trip_k0_t1.sl.r_7 arg6 f6 k) := rfl
theorem leaf19 (arg6 : Memref sig .tc .vmem S256x1408 .bf16) (f6 : BufTy.Contents (Elt Ideal) arg6.view.ty) (k : Fin k0_t1_loop.trips) : trip_k0_t1.sl.r_19 arg6 f6 k = upN (trip_k0_t1.sl.r_8 arg6 f6 k) := rfl
theorem leaf20 (arg6 : Memref sig .tc .vmem S256x1408 .bf16) (f6 : BufTy.Contents (Elt Ideal) arg6.view.ty) (k : Fin k0_t1_loop.trips) : trip_k0_t1.sl.r_20 arg6 f6 k = upN (trip_k0_t1.sl.r_9 arg6 f6 k) := rfl
theorem leaf22 (arg6 : Memref sig .tc .vmem S256x1408 .bf16) (f6 : BufTy.Contents (Elt Ideal) arg6.view.ty) (k : Fin k0_t1_loop.trips) : trip_k0_t1.sl.r_22 arg6 f6 k = upN (trip_k0_t1.sl.r_10 arg6 f6 k) := rfl
theorem node23 (arg6 : Memref sig .tc .vmem S256x1408 .bf16) (f6 : BufTy.Contents (Elt Ideal) arg6.view.ty) (k : Fin k0_t1_loop.trips) : trip_k0_t1.sl.r_23 arg6 f6 k = pairN 0#32 1#32 (trip_k0_t1.sl.r_11 arg6 f6 k) (trip_k0_t1.sl.r_12 arg6 f6 k) := rfl
theorem node24 (arg6 : Memref sig .tc .vmem S256x1408 .bf16) (f6 : BufTy.Contents (Elt Ideal) arg6.view.ty) (k : Fin k0_t1_loop.trips) : trip_k0_t1.sl.r_24 arg6 f6 k = pairN 0#32 1#32 (trip_k0_t1.sl.r_13 arg6 f6 k) (trip_k0_t1.sl.r_14 arg6 f6 k) := rfl
theorem node25 (arg6 : Memref sig .tc .vmem S256x1408 .bf16) (f6 : BufTy.Contents (Elt Ideal) arg6.view.ty) (k : Fin k0_t1_loop.trips) : trip_k0_t1.sl.r_25 arg6 f6 k = pairN 0#32 1#32 (trip_k0_t1.sl.r_15 arg6 f6 k) (trip_k0_t1.sl.r_16 arg6 f6 k) := rfl
theorem node28 (arg6 : Memref sig .tc .vmem S256x1408 .bf16) (f6 : BufTy.Contents (Elt Ideal) arg6.view.ty) (k : Fin k0_t1_loop.trips) : trip_k0_t1.sl.r_28 arg6 f6 k = pairN 0#32 1#32 (trip_k0_t1.sl.r_17 arg6 f6 k) (trip_k0_t1.sl.r_18 arg6 f6 k) := rfl
theorem node29 (arg6 : Memref sig .tc .vmem S256x1408 .bf16) (f6 : BufTy.Contents (Elt Ideal) arg6.view.ty) (k : Fin k0_t1_loop.trips) : trip_k0_t1.sl.r_29 arg6 f6 k = pairN 0#32 1#32 (trip_k0_t1.sl.r_19 arg6 f6 k) (trip_k0_t1.sl.r_20 arg6 f6 k) := rfl
theorem node30 (arg6 : Memref sig .tc .vmem S256x1408 .bf16) (f6 : BufTy.Contents (Elt Ideal) arg6.view.ty) (k : Fin k0_t1_loop.trips) : trip_k0_t1.sl.r_30 arg6 f6 k = oneN 1#32 (trip_k0_t1.sl.r_22 arg6 f6 k) := rfl

theorem late1 (e f : X16) : k0_pay32 trip_k0_t1.sl.v51 e f (k0_pay25 trip_k0_t1.sl.v51) = pairN 1#32 2#32 e f := rfl

theorem late2 (p a b c d : X16) : k0_pay39 trip_k0_t1.sl.v51 p (k0_pay34 trip_k0_t1.sl.v51 c d (k0_pay25 trip_k0_t1.sl.v51) (k0_pay26 trip_k0_t1.sl.v51 a b) (k0_pay27 trip_k0_t1.sl.v51 a b) (k0_pay28 trip_k0_t1.sl.v51) k0_pay29)
    (k0_pay35 trip_k0_t1.sl.v51 c d (k0_pay25 trip_k0_t1.sl.v51) (k0_pay26 trip_k0_t1.sl.v51 a b) (k0_pay27 trip_k0_t1.sl.v51 a b) (k0_pay28 trip_k0_t1.sl.v51) k0_pay29) (k0_pay36 trip_k0_t1.sl.v51) (k0_pay37 trip_k0_t1.sl.v51) k0_pay38
    = oneN 16#32 (pairN 3#32 8#32 (pairN 2#32 4#32 (pairN 1#32 2#32 a b) (pairN 1#32 2#32 c d)) (oneN 4#32 p)) := rfl

theorem late3 (arg6 : Memref sig .tc .vmem S256x1408 .bf16) (f6 : BufTy.Contents (Elt Ideal) arg6.view.ty) (k : Fin k0_t1_loop.trips) : trip_k0_t1.sl.r_36 arg6 f6 k = oneN 16#32 (pairN 3#32 8#32 (pairN 2#32 4#32 (pairN 1#32 2#32 (trip_k0_t1.sl.r_23 arg6 f6 k) (trip_k0_t1.sl.r_24 arg6 f6 k)) (pairN 1#32 2#32 (trip_k0_t1.sl.r_25 arg6 f6 k) (trip_k0_t1.sl.r_28 arg6 f6 k)))
    (oneN 4#32 (pairN 1#32 2#32 (trip_k0_t1.sl.r_29 arg6 f6 k) (trip_k0_t1.sl.r_30 arg6 f6 k)))) := by
  rw [← late2, ← late1]; rfl

theorem tops (arg6 : Memref sig .tc .vmem S256x1408 .bf16) (f6 : BufTy.Contents (Elt Ideal) arg6.view.ty) (k : Fin k0_t1_loop.trips) :
    trip_k0_t1.sl.r_36 arg6 f6 k = top (fun u => upN (ld arg6 f6 k u)) := by
  rw [late3, node23, node24, node25, node28, node29, node30, leaf11, leaf12, leaf13, leaf14, leaf15, leaf16, leaf17, leaf18, leaf19, leaf20, leaf22]
  rfl

theorem packs (arg6 : Memref sig .tc .vmem S256x1408 .bf16) (f6 : BufTy.Contents (Elt Ideal) arg6.view.ty) (k : Fin k0_t1_loop.trips) :
    trip_k0_t1.sl.r_40 arg6 f6 k = packed (trip_k0_t1.sl.r_36 arg6 f6 k) := packed_eq _

theorem piece0 (arg6 : Memref sig .tc .vmem S256x1408 .bf16) (f6 : BufTy.Contents (Elt Ideal) arg6.view.ty) (k : Fin k0_t1_loop.trips) :
    trip_k0_t1.sl.v634 arg6 f6 k = deq 0#32 (trip_k0_t1.sl.r arg6 f6 k) (trip_k0_t1.sl.r_40 arg6 f6 k) := by
  have e : trip_k0_t1.sl.r_41 arg6 f6 k = deq 0#32 (trip_k0_t1.sl.r arg6 f6 k) (trip_k0_t1.sl.r_40 arg6 f6 k) := rfl
  rw [← e]; exact shapeCast_self _ _

theorem piece1 (arg6 : Memref sig .tc .vmem S256x1408 .bf16) (f6 : BufTy.Contents (Elt Ideal) arg6.view.ty) (k : Fin k0_t1_loop.trips) :
    trip_k0_t1.sl.v638 arg6 f6 k = deq 1#32 (trip_k0_t1.sl.r_1 arg6 f6 k) (trip_k0_t1.sl.r_40 arg6 f6 k) := by
  have e : trip_k0_t1.sl.r_44 arg6 f6 k = deq 1#32 (trip_k0_t1.sl.r_1 arg6 f6 k) (trip_k0_t1.sl.r_40 arg6 f6 k) := rfl
  rw [← e]; exact shapeCast_self _ _

theorem piece2 (arg6 : Memref sig .tc .vmem S256x1408 .bf16) (f6 : BufTy.Contents (Elt Ideal) arg6.view.ty) (k : Fin k0_t1_loop.trips) :
    trip_k0_t1.sl.v642 arg6 f6 k = deq 2#32 (trip_k0_t1.sl.r_2 arg6 f6 k) (trip_k0_t1.sl.r_40 arg6 f6 k) := by
  have e : trip_k0_t1.sl.r_45 arg6 f6 k = deq 2#32 (trip_k0_t1.sl.r_2 arg6 f6 k) (trip_k0_t1.sl.r_40 arg6 f6 k) := rfl
  rw [← e]; exact shapeCast_self _ _

theorem piece3 (arg6 : Memref sig .tc .vmem S256x1408 .bf16) (f6 : BufTy.Contents (Elt Ideal) arg6.view.ty) (k : Fin k0_t1_loop.trips) :
    trip_k0_t1.sl.v646 arg6 f6 k = deq 3#32 (trip_k0_t1.sl.r_3 arg6 f6 k) (trip_k0_t1.sl.r_40 arg6 f6 k) := by
  have e : trip_k0_t1.sl.r_48 arg6 f6 k = deq 3#32 (trip_k0_t1.sl.r_3 arg6 f6 k) (trip_k0_t1.sl.r_40 arg6 f6 k) := rfl
  rw [← e]; exact shapeCast_self _ _

theorem piece4 (arg6 : Memref sig .tc .vmem S256x1408 .bf16) (f6 : BufTy.Contents (Elt Ideal) arg6.view.ty) (k : Fin k0_t1_loop.trips) :
    trip_k0_t1.sl.v650 arg6 f6 k = deq 4#32 (trip_k0_t1.sl.r_4 arg6 f6 k) (trip_k0_t1.sl.r_40 arg6 f6 k) := by
  have e : trip_k0_t1.sl.r_49 arg6 f6 k = deq 4#32 (trip_k0_t1.sl.r_4 arg6 f6 k) (trip_k0_t1.sl.r_40 arg6 f6 k) := rfl
  rw [← e]; exact shapeCast_self _ _

theorem piece5 (arg6 : Memref sig .tc .vmem S256x1408 .bf16) (f6 : BufTy.Contents (Elt Ideal) arg6.view.ty) (k : Fin k0_t1_loop.trips) :
    trip_k0_t1.sl.v654 arg6 f6 k = deq 5#32 (trip_k0_t1.sl.r_5 arg6 f6 k) (trip_k0_t1.sl.r_40 arg6 f6 k) := by
  have e : trip_k0_t1.sl.r_52 arg6 f6 k = deq 5#32 (trip_k0_t1.sl.r_5 arg6 f6 k) (trip_k0_t1.sl.r_40 arg6 f6 k) := rfl
  rw [← e]; exact shapeCast_self _ _

theorem piece6 (arg6 : Memref sig .tc .vmem S256x1408 .bf16) (f6 : BufTy.Contents (Elt Ideal) arg6.view.ty) (k : Fin k0_t1_loop.trips) :
    trip_k0_t1.sl.v658 arg6 f6 k = deq 6#32 (trip_k0_t1.sl.r_6 arg6 f6 k) (trip_k0_t1.sl.r_40 arg6 f6 k) := by
  have e : trip_k0_t1.sl.r_53 arg6 f6 k = deq 6#32 (trip_k0_t1.sl.r_6 arg6 f6 k) (trip_k0_t1.sl.r_40 arg6 f6 k) := rfl
  rw [← e]; exact shapeCast_self _ _

theorem piece7 (arg6 : Memref sig .tc .vmem S256x1408 .bf16) (f6 : BufTy.Contents (Elt Ideal) arg6.view.ty) (k : Fin k0_t1_loop.trips) :
    trip_k0_t1.sl.v662 arg6 f6 k = deq 7#32 (trip_k0_t1.sl.r_7 arg6 f6 k) (trip_k0_t1.sl.r_40 arg6 f6 k) := by
  have e : trip_k0_t1.sl.r_54 arg6 f6 k = deq 7#32 (trip_k0_t1.sl.r_7 arg6 f6 k) (trip_k0_t1.sl.r_40 arg6 f6 k) := rfl
  rw [← e]; exact shapeCast_self _ _

theorem piece8 (arg6 : Memref sig .tc .vmem S256x1408 .bf16) (f6 : BufTy.Contents (Elt Ideal) arg6.view.ty) (k : Fin k0_t1_loop.trips) :
    trip_k0_t1.sl.v666 arg6 f6 k = deq 8#32 (trip_k0_t1.sl.r_8 arg6 f6 k) (trip_k0_t1.sl.r_40 arg6 f6 k) := by
  have e : trip_k0_t1.sl.r_55 arg6 f6 k = deq 8#32 (trip_k0_t1.sl.r_8 arg6 f6 k) (trip_k0_t1.sl.r_40 arg6 f6 k) := rfl
  rw [← e]; exact shapeCast_self _ _

theorem piece9 (arg6 : Memref sig .tc .vmem S256x1408 .bf16) (f6 : BufTy.Contents (Elt Ideal) arg6.view.ty) (k : Fin k0_t1_loop.trips) :
    trip_k0_t1.sl.v670 arg6 f6 k = deq 9#32 (trip_k0_t1.sl.r_9 arg6 f6 k) (trip_k0_t1.sl.r_40 arg6 f6 k) := by
  have e : trip_k0_t1.sl.r_56 arg6 f6 k = deq 9#32 (trip_k0_t1.sl.r_9 arg6 f6 k) (trip_k0_t1.sl.r_40 arg6 f6 k) := rfl
  rw [← e]; exact shapeCast_self _ _

theorem piece10 (arg6 : Memref sig .tc .vmem S256x1408 .bf16) (f6 : BufTy.Contents (Elt Ideal) arg6.view.ty) (k : Fin k0_t1_loop.trips) :
    k0_pay1 (trip_k0_t1.sl.r_57 arg6 f6 k) = deq 10#32 (trip_k0_t1.sl.r_10 arg6 f6 k) (trip_k0_t1.sl.r_40 arg6 f6 k) := by
  have e : trip_k0_t1.sl.r_57 arg6 f6 k = deq 10#32 (trip_k0_t1.sl.r_10 arg6 f6 k) (trip_k0_t1.sl.r_40 arg6 f6 k) := rfl
  rw [← e]; exact shapeCast_self _ _

end

end Cert.KernelIdeal.Gen

end
-- ==== Proof.ValueX.lean ====
/- The first loop leaves the block it read, over the extended reals, when the block is small. -/
module

public import proofs.«01_k».proof.Proof.LoopX

@[expose] public section

noncomputable section

namespace Cert.KernelIdeal.Gen

open Idealize.ShloMosaic Idealize.ShloMosaic.TcCoe Idealize.SL.Sem Cert.KernelIdeal

variable [Facts]

theorem offs : ∀ k : Fin k0_t1_loop.trips, k0_off3 k 0 = 16 * k.val ∧ k0_off3 k 1 = 0 ∧ k0_off4 k 0 = 16 * k.val ∧ k0_off4 k 1 = 128 ∧ k0_off5 k 0 = 16 * k.val ∧ k0_off5 k 1 = 256 ∧ k0_off6 k 0 = 16 * k.val ∧ k0_off6 k 1 = 384 ∧ k0_off7 k 0 = 16 * k.val ∧ k0_off7 k 1 = 512 ∧ k0_off8 k 0 = 16 * k.val ∧ k0_off8 k 1 = 640 ∧ k0_off9 k 0 = 16 * k.val ∧ k0_off9 k 1 = 768 ∧ k0_off10 k 0 = 16 * k.val ∧ k0_off10 k 1 = 896 ∧ k0_off11 k 0 = 16 * k.val ∧ k0_off11 k 1 = 1024 ∧ k0_off12 k 0 = 16 * k.val ∧ k0_off12 k 1 = 1152 ∧ k0_off13 k 0 = 16 * k.val ∧ k0_off13 k 1 = 1280 := by
  decide +kernel

theorem trips1 : k0_t1_loop.trips = 16 := by decide +kernel

/-- What the first loop leaves. -/
def XQ (x g : Vec Ideal S256x1408 .bf16) : Prop := Small .bf16 x → g = x

theorem ld0 (arg6 : Memref sig .tc .vmem S256x1408 .bf16) (f6 : BufTy.Contents (Elt Ideal) arg6.view.ty) (k : Fin k0_t1_loop.trips) : ld arg6 f6 k 0 = trip_k0_t1.sl.r arg6 f6 k := rfl
theorem ld1 (arg6 : Memref sig .tc .vmem S256x1408 .bf16) (f6 : BufTy.Contents (Elt Ideal) arg6.view.ty) (k : Fin k0_t1_loop.trips) : ld arg6 f6 k 1 = trip_k0_t1.sl.r_1 arg6 f6 k := rfl
theorem ld2 (arg6 : Memref sig .tc .vmem S256x1408 .bf16) (f6 : BufTy.Contents (Elt Ideal) arg6.view.ty) (k : Fin k0_t1_loop.trips) : ld arg6 f6 k 2 = trip_k0_t1.sl.r_2 arg6 f6 k := rfl
theorem ld3 (arg6 : Memref sig .tc .vmem S256x1408 .bf16) (f6 : BufTy.Contents (Elt Ideal) arg6.view.ty) (k : Fin k0_t1_loop.trips) : ld arg6 f6 k 3 = trip_k0_t1.sl.r_3 arg6 f6 k := rfl
theorem ld4 (arg6 : Memref sig .tc .vmem S256x1408 .bf16) (f6 : BufTy.Contents (Elt Ideal) arg6.view.ty) (k : Fin k0_t1_loop.trips) : ld arg6 f6 k 4 = trip_k0_t1.sl.r_4 arg6 f6 k := rfl
theorem ld5 (arg6 : Memref sig .tc .vmem S256x1408 .bf16) (f6 : BufTy.Contents (Elt Ideal) arg6.view.ty) (k : Fin k0_t1_loop.trips) : ld arg6 f6 k 5 = trip_k0_t1.sl.r_5 arg6 f6 k := rfl
theorem ld6 (arg6 : Memref sig .tc .vmem S256x1408 .bf16) (f6 : BufTy.Contents (Elt Ideal) arg6.view.ty) (k : Fin k0_t1_loop.trips) : ld arg6 f6 k 6 = trip_k0_t1.sl.r_6 arg6 f6 k := rfl
theorem ld7 (arg6 : Memref sig .tc .vmem S256x1408 .bf16) (f6 : BufTy.Contents (Elt Ideal) arg6.view.ty) (k : Fin k0_t1_loop.trips) : ld arg6 f6 k 7 = trip_k0_t1.sl.r_7 arg6 f6 k := rfl
theorem ld8 (arg6 : Memref sig .tc .vmem S256x1408 .bf16) (f6 : BufTy.Contents (Elt Ideal) arg6.view.ty) (k : Fin k0_t1_loop.trips) : ld arg6 f6 k 8 = trip_k0_t1.sl.r_8 arg6 f6 k := rfl
theorem ld9 (arg6 : Memref sig .tc .vmem S256x1408 .bf16) (f6 : BufTy.Contents (Elt Ideal) arg6.view.ty) (k : Fin k0_t1_loop.trips) : ld arg6 f6 k 9 = trip_k0_t1.sl.r_9 arg6 f6 k := rfl
theorem ld10 (arg6 : Memref sig .tc .vmem S256x1408 .bf16) (f6 : BufTy.Contents (Elt Ideal) arg6.view.ty) (k : Fin k0_t1_loop.trips) : ld arg6 f6 k 10 = trip_k0_t1.sl.r_10 arg6 f6 k := rfl

theorem ld_read (arg6 : Memref sig .tc .vmem S256x1408 .bf16) (f6 : BufTy.Contents (Elt Ideal) arg6.view.ty) (k : Fin k0_t1_loop.trips) (u : Fin 11) (j : S16x128.Idx) :
    ∃ i, ld arg6 f6 k u j = arg6.view.read (Elt Ideal) f6 i := by
  match u with
  | 0 => rw [ld0]; exact ⟨_, rfl⟩
  | 1 => rw [ld1]; exact ⟨_, rfl⟩
  | 2 => rw [ld2]; exact ⟨_, rfl⟩
  | 3 => rw [ld3]; exact ⟨_, rfl⟩
  | 4 => rw [ld4]; exact ⟨_, rfl⟩
  | 5 => rw [ld5]; exact ⟨_, rfl⟩
  | 6 => rw [ld6]; exact ⟨_, rfl⟩
  | 7 => rw [ld7]; exact ⟨_, rfl⟩
  | 8 => rw [ld8]; exact ⟨_, rfl⟩
  | 9 => rw [ld9]; exact ⟨_, rfl⟩
  | 10 => rw [ld10]; exact ⟨_, rfl⟩

theorem blk (arg6 : Memref sig .tc .vmem S256x1408 .bf16) (f6 : BufTy.Contents (Elt Ideal) arg6.view.ty) (h : Small .bf16 (arg6.view.read (Elt Ideal) f6)) (k : Fin k0_t1_loop.trips)
    (u : Fin 11) : Small .bf16 (ld arg6 f6 k u) := by
  intro j
  obtain ⟨i, e⟩ := ld_read arg6 f6 k u j
  rw [e]; exact h i

theorem blk_eq (arg6 : Memref sig .tc .vmem S256x1408 .bf16) (f6 : BufTy.Contents (Elt Ideal) arg6.view.ty) (h : Small .bf16 (arg6.view.read (Elt Ideal) f6)) (k : Fin k0_t1_loop.trips)
    (u : Fin 11) (w : BitVec 32) (hw : w = BitVec.ofNat 32 u.val) : deq w (ld arg6 f6 k u) (trip_k0_t1.sl.r_40 arg6 f6 k) = ld arg6 f6 k u := by
  rw [packs, tops]
  exact deq_top _ (blk arg6 f6 h k) u w hw

set_option maxHeartbeats 2000000 in
theorem trip1 (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f6 : BufTy.Contents (Elt Ideal) arg6.view.ty) (h : Small .bf16 (arg6.view.read (Elt Ideal) f6)) (k : Fin k0_t1_loop.trips) :
    (∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 f6 k, ∀ x : p.1.shape.Idx, p.2 x = arg6.view.read (Elt Ideal) f6 (p.1.emb x))
    ∧ (∀ y : S256x1408.Idx, 16 * k.val ≤ (y 0).val → (y 0).val < 16 * k.val + 16 →
        ∃ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 f6 k, y ∈ p.1.set) := by
  have o := offs k
  unfold tripL_k0_t1
  unfold trip_k0_t1
  dsimp only
  constructor
  · simp only [List.forall_mem_cons, List.not_mem_nil, false_imp_iff, implies_true, and_true]
    refine ⟨?_, ?_, ?_, ?_, ?_, ?_, ?_, ?_, ?_, ?_, ?_⟩ <;> intro x
    · exact (congrFun ((piece10 arg6 f6 k).trans ((congrArg (fun z => deq _ z _) (ld10 arg6 f6 k).symm).trans ((blk_eq arg6 f6 h k 10 _ rfl).trans (ld10 arg6 f6 k)))) x)
    · exact (congrFun ((piece9 arg6 f6 k).trans ((congrArg (fun z => deq _ z _) (ld9 arg6 f6 k).symm).trans ((blk_eq arg6 f6 h k 9 _ rfl).trans (ld9 arg6 f6 k)))) x)
    · exact (congrFun ((piece8 arg6 f6 k).trans ((congrArg (fun z => deq _ z _) (ld8 arg6 f6 k).symm).trans ((blk_eq arg6 f6 h k 8 _ rfl).trans (ld8 arg6 f6 k)))) x)
    · exact (congrFun ((piece7 arg6 f6 k).trans ((congrArg (fun z => deq _ z _) (ld7 arg6 f6 k).symm).trans ((blk_eq arg6 f6 h k 7 _ rfl).trans (ld7 arg6 f6 k)))) x)
    · exact (congrFun ((piece6 arg6 f6 k).trans ((congrArg (fun z => deq _ z _) (ld6 arg6 f6 k).symm).trans ((blk_eq arg6 f6 h k 6 _ rfl).trans (ld6 arg6 f6 k)))) x)
    · exact (congrFun ((piece5 arg6 f6 k).trans ((congrArg (fun z => deq _ z _) (ld5 arg6 f6 k).symm).trans ((blk_eq arg6 f6 h k 5 _ rfl).trans (ld5 arg6 f6 k)))) x)
    · exact (congrFun ((piece4 arg6 f6 k).trans ((congrArg (fun z => deq _ z _) (ld4 arg6 f6 k).symm).trans ((blk_eq arg6 f6 h k 4 _ rfl).trans (ld4 arg6 f6 k)))) x)
    · exact (congrFun ((piece3 arg6 f6 k).trans ((congrArg (fun z => deq _ z _) (ld3 arg6 f6 k).symm).trans ((blk_eq arg6 f6 h k 3 _ rfl).trans (ld3 arg6 f6 k)))) x)
    · exact (congrFun ((piece2 arg6 f6 k).trans ((congrArg (fun z => deq _ z _) (ld2 arg6 f6 k).symm).trans ((blk_eq arg6 f6 h k 2 _ rfl).trans (ld2 arg6 f6 k)))) x)
    · exact (congrFun ((piece1 arg6 f6 k).trans ((congrArg (fun z => deq _ z _) (ld1 arg6 f6 k).symm).trans ((blk_eq arg6 f6 h k 1 _ rfl).trans (ld1 arg6 f6 k)))) x)
    · exact (congrFun ((piece0 arg6 f6 k).trans ((congrArg (fun z => deq _ z _) (ld0 arg6 f6 k).symm).trans ((blk_eq arg6 f6 h k 0 _ rfl).trans (ld0 arg6 f6 k)))) x)
  · intro y h0 h1
    have hy : (y 1).val < 1408 := (y 1).isLt
    simp only [List.exists_mem_cons_iff, List.not_mem_nil, false_and, exists_false, or_false, Rect.mem_set_unit, Fin.forall_fin_two]
    simp only [o]
    simp only [Matrix.cons_val_zero, Matrix.cons_val_one]
    omega

theorem loop1 (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f6 : BufTy.Contents (Elt Ideal) arg6.view.ty) (h : Small .bf16 (arg6.view.read (Elt Ideal) f6)) :
    ∀ n ≤ k0_t1_loop.trips,
      (∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 f6 n, ∀ x : p.1.shape.Idx, p.2 x = arg6.view.read (Elt Ideal) f6 (p.1.emb x))
      ∧ (∀ y : S256x1408.Idx, (y 0).val < 16 * n → ∃ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 f6 n, y ∈ p.1.set)
  | 0, _ => ⟨fun p hp => absurd hp List.not_mem_nil, fun y hy => absurd hy (by omega)⟩
  | n + 1, hn => by
    obtain ⟨a, b⟩ := loop1 c i arg1 harg1 arg2 harg2 arg3 harg3 arg4 harg4 arg5 harg5 arg6 harg6 arg7 harg7 arg8 harg8 arg9 harg9 arg10 harg10 arg11 harg11 arg12 harg12 f6 h n (by omega)
    obtain ⟨a', b'⟩ := trip1 c i arg1 harg1 arg2 harg2 arg3 harg3 arg4 harg4 arg5 harg5 arg6 harg6 arg7 harg7 arg8 harg8 arg9 harg9 arg10 harg10 arg11 harg11 arg12 harg12 f6 h ⟨n, by omega⟩
    rw [pb_k0_t1_succ Variants.none c none i arg1 harg1 arg2 harg2 arg3 harg3 arg4 harg4 arg5 harg5 arg6 harg6 arg7 harg7 arg8 harg8 arg9 harg9 arg10 harg10 arg11 harg11 arg12 harg12 f6 ⟨n, by omega⟩]
    refine ⟨fun p hp => ?_, fun y hy => ?_⟩
    · rcases List.mem_append.1 hp with q | q
      · exact a' p q
      · exact a p q
    · by_cases q : (y 0).val < 16 * n
      · obtain ⟨p, hp, hy⟩ := b y q
        exact ⟨p, List.mem_append.2 (Or.inr hp), hy⟩
      · obtain ⟨p, hp, hy⟩ := b' y (by simpa using q) (by simp only; omega)
        exact ⟨p, List.mem_append.2 (Or.inl hp), hy⟩

/-- The first loop leaves the block. -/
theorem xOk : XOk (F := Ideal) XQ := by
  unfold XOk
  intro c i arg1 harg1 arg2 harg2 arg3 harg3 arg4 harg4 arg5 harg5 arg6 harg6 arg7 harg7 arg8 harg8 arg9 harg9 arg10 harg10 arg11 harg11 arg12 harg12 f6 f10 h
  obtain ⟨a, b⟩ := loop1 c i arg1 harg1 arg2 harg2 arg3 harg3 arg4 harg4 arg5 harg5 arg6 harg6 arg7 harg7 arg8 harg8 arg9 harg9 arg10 harg10 arg11 harg11 arg12 harg12 f6 h (Scf.trips k0_t1_loop.lb k0_t1_loop.ub k0_t1_loop.st) (le_refl k0_t1_loop.trips)
  funext y
  refine View.read_writes_apply_of_pieces _ _ _ _ a y (b y ?_)
  have hy : (y 0).val < 256 := (y 0).isLt
  have : Scf.trips k0_t1_loop.lb k0_t1_loop.ub k0_t1_loop.st = 16 := trips1
  omega

end Cert.KernelIdeal.Gen

end
-- ==== Proof.Widen.lean ====
/- What a trip of the second loop leaves: a block of codes times their scales. -/
module

public import proofs.«01_k».proof.Proof.FloatWords
public import proofs.«01_k».proof.Proof.Body
public import Idealize.ShloMosaic.Lib.BitcastPair
public import Idealize.ShloMosaic.Lib.Writes
public import Idealize.ShloMosaic.Lib.Pointwise
public import Idealize.ShloMosaic.Lib.Pipeline.Value
public import Idealize.ShloMosaic.Lib.Pipeline.ReadBack

@[expose] public section

noncomputable section

namespace Cert.KernelIdeal.Gen

open Idealize.ShloMosaic Idealize.ShloMosaic.TcCoe Idealize.SL.Sem Cert.KernelIdeal

variable [Facts]

/-- Thirty-two rows of a block of codes, turned and widened, times the row of scales. -/
def wide (o : ℕ) (h : S128x256.Slices ![o, 0] S32x256) (b : Vec Ideal S1x256x128 .fp8e4m3) (v : Vec Ideal S1x256 .i32) : FVec Ideal S32x256 .bf16 :=
  mulf (extractStridedSlice S32x256 ![o, 0] (extf .bf16 (transpose S128x256 [1, 0] (shapeCast S256x128 b shapeCasts_S1x256x128_S256x128) transposes_S256x128_p1_0_S128x256) bitsLt_fp8e4m3_bf16) h)
    (bitcastToFloat .bf16 (bitcast S32x256 16 (broadcastTo S16x256 (shapeCast S1x256 v shapeCasts_S1x256_S1x256) broadcasts_S1x256_S16x256) bitcasts_S16x256_w32_S32x256_w16))

theorem unpackW (W : IVec S16x256 32) (r : Fin 32) (l : Fin 256) :
    bitcast S32x256 16 W bitcasts_S16x256_w32_S32x256_w16 (ValueIdx.ix2 r l)
      = (W (ValueIdx.ix2 ⟨r.val / 2, by have := r.isLt; omega⟩ l)).extractLsb' (16 * (r.val % 2)) 16 := by
  rw [bitcast_32_16]
  congr 1
  congr 1
  funext a; apply Fin.ext
  match a with
  | ⟨0, _⟩ => rfl
  | ⟨1, _⟩ => rfl

theorem wide_mul (p q : FVec Ideal S32x256 .bf16) (j : S32x256.Idx) : mulf p q j = (show EReal from p j) * q j := rfl

theorem wide_bits (h : IVec S32x256 16) (j : S32x256.Idx) : bitcastToFloat (F := Ideal) .bf16 h j = Ideal.ofBits .bf16 (h j) := rfl

theorem wide_code (o : ℕ) (ho : o + 32 ≤ 128) (h : S128x256.Slices ![o, 0] S32x256) (b : Vec Ideal S1x256x128 .fp8e4m3) (r : Fin 32) (l : Fin 256) :
    extractStridedSlice S32x256 ![o, 0] (extf (F := Ideal) .bf16 (transpose S128x256 [1, 0] (shapeCast S256x128 b shapeCasts_S1x256x128_S256x128) transposes_S256x128_p1_0_S128x256) bitsLt_fp8e4m3_bf16) h (ValueIdx.ix2 r l)
      = b (ValueIdx.ix3 0 l ⟨o + r.val, by omega⟩) := by
  pointwise
  rfl

theorem wide_row (v : Vec Ideal S1x256 .i32) (r : Fin 16) (l : Fin 256) :
    broadcastTo S16x256 (shapeCast S1x256 v shapeCasts_S1x256_S1x256) broadcasts_S1x256_S16x256 (ValueIdx.ix2 r l) = v (ValueIdx.ix2 0 l) := by
  rw [shapeCast_self]
  pointwise
  rfl

theorem wide_apply (o : ℕ) (ho : o + 32 ≤ 128) (h : S128x256.Slices ![o, 0] S32x256) (b : Vec Ideal S1x256x128 .fp8e4m3) (v : Vec Ideal S1x256 .i32) (r : Fin 32) (l : Fin 256) :
    wide o h b v (ValueIdx.ix2 r l) = (show EReal from b (ValueIdx.ix3 0 l ⟨o + r.val, by omega⟩)) * Ideal.ofBits .bf16 ((v (ValueIdx.ix2 0 l)).extractLsb' (16 * (r.val % 2)) 16) := by
  unfold wide
  rw [wide_mul, wide_code o ho, wide_bits, unpackW, wide_row]

/-- The word a scale byte fills. -/
def twice (b : BitVec 8) : BitVec 32 :=
  IntOp.ori (IntOp.shli .vector (b.setWidth 32) 7#32) (IntOp.shli .vector (IntOp.shli .vector (b.setWidth 32) 7#32) 16#32)

theorem twice_half : ∀ b : BitVec 8, ∀ h : Fin 2, (twice b).extractLsb' (16 * h.val) 16 = BitVec.ofNat 16 (b.toNat * 128) := by
  decide +kernel

theorem scales_apply (s : Vec Ideal S1x256x44 .i8) (j : Fin 44) (l : Fin 256) : k0_pay88 (F := Ideal) s (ValueIdx.ix2 j l) = twice (s (ValueIdx.ix3 0 l j)) := by
  unfold k0_pay88
  rw [shapeCast_self]
  pointwise [twice]
  rfl

/-- The codes times their scales, turned. -/
def GW (w : Vec Ideal S1x2816x1408 .fp8e4m3) (s : Vec Ideal S1x2816x44 .i8) (y : S1408x2816.Idx) : EReal :=
  (show EReal from w (ValueIdx.ix3 0 (y 1) (y 0)))
    * (((2 : ℝ) ^ (((s (ValueIdx.ix3 0 (y 1) ⟨(y 0).val / 32, by have : (y 0).val < 1408 := (y 0).isLt; omega⟩)).toNat : ℤ) - 127) : ℝ) : EReal)

theorem code_read (arg7 : Memref sig .tc .vmem S1x2816x1408 .fp8e4m3) (f7 : BufTy.Contents (Elt Ideal) arg7.view.ty) (off : Fin 3 → ℕ)
    (inb : ∀ a, off a + S1x256x128.size a ≤ S1x2816x1408.size a) (k c : Fin 11) (h0 : off 0 = 0) (h1 : off 1 = 256 * k.val) (h2 : off 2 = 128 * c.val) (l : Fin 256) (i : Fin 128) :
    View.readAt (Elt Ideal) arg7.view (Rect.unit (s := S1x2816x1408) off S1x256x128.size inb).toLoadRect f7 (ValueIdx.ix3 0 l i)
      = arg7.view.read (Elt Ideal) f7 (ValueIdx.ix3 0 ⟨256 * k.val + l.val, by omega⟩ ⟨128 * c.val + i.val, by omega⟩) := by
  rw [View.readAt_apply]
  refine congrArg _ (funext fun a => Fin.ext ?_)
  match a with
  | 0 => show off 0 + 1 * 0 = 0; omega
  | 1 => show off 1 + 1 * l.val = 256 * k.val + l.val; omega
  | 2 => show off 2 + 1 * i.val = 128 * c.val + i.val; omega

theorem scale_read (arg8 : Memref sig .tc .vmem S1x2816x44 .i8) (f8 : BufTy.Contents (Elt Ideal) arg8.view.ty) (off : Fin 3 → ℕ)
    (inb : ∀ a, off a + S1x256x44.size a ≤ S1x2816x44.size a) (k : Fin 11) (h0 : off 0 = 0) (h1 : off 1 = 256 * k.val) (h2 : off 2 = 0) (l : Fin 256) (j : Fin 44) :
    View.readAt (Elt Ideal) arg8.view (Rect.unit (s := S1x2816x44) off S1x256x44.size inb).toLoadRect f8 (ValueIdx.ix3 0 l j)
      = arg8.view.read (Elt Ideal) f8 (ValueIdx.ix3 0 ⟨256 * k.val + l.val, by omega⟩ j) := by
  rw [View.readAt_apply]
  refine congrArg _ (funext fun a => Fin.ext ?_)
  match a with
  | 0 => show off 0 + 1 * 0 = 0; omega
  | 1 => show off 1 + 1 * l.val = 256 * k.val + l.val; omega
  | 2 => show off 2 + 1 * j.val = j.val; omega

/-- A scale row, read back from the filled buffer. -/
theorem row_read (arg8 : Memref sig .tc .vmem S1x2816x44 .i8) (arg12 : Memref sig .tc .vmem S44x256 .i32) (f8 : BufTy.Contents (Elt Ideal) arg8.view.ty) (k : Fin k0_t2_loop.trips) (k' : Fin 11)
    (h0 : k0_off14 k 0 = 0) (h1 : k0_off14 k 1 = 256 * k'.val) (h2 : k0_off14 k 2 = 0)
    (j : Fin 44) (off : Fin 2 → ℕ) (inb : ∀ a, off a + S1x256.size a ≤ S44x256.size a) (o0 : off 0 = j.val) (o1 : off 1 = 0) (l : Fin 256) :
    arg12.view.readCov (trip_k0_t2.sl.HW_arg12_1 arg8 f8 k) (Rect.unit (s := S44x256) off S1x256.size inb).toLoadRect (ValueIdx.ix2 0 l)
      = twice (arg8.view.read (Elt Ideal) f8 (ValueIdx.ix3 0 ⟨256 * k'.val + l.val, by omega⟩ j)) := by
  unfold trip_k0_t2.sl.HW_arg12_1
  rw [View.readCov_fill _ _ _ _ _ (by decide)]
  have e : ∀ Z : S44x256.Idx → BitVec 32, View.ld (Val := Elt Ideal) (e' := .i32) Z (Rect.unit (s := S44x256) off S1x256.size inb) (ValueIdx.ix2 0 l) = Z (ValueIdx.ix2 j l) := by
    intro Z
    refine congrArg Z (funext fun a => Fin.ext ?_)
    match a with
    | 0 => show off 0 + 1 * 0 = j.val; omega
    | 1 => show off 1 + 1 * l.val = l.val; omega
  refine (e _).trans ?_
  rw [scales_apply, scale_read arg8 f8 _ _ k' h0 h1 h2]

theorem wide_piece (w : Vec Ideal S1x2816x1408 .fp8e4m3) (s : Vec Ideal S1x2816x44 .i8) (hs : ∀ p, 1 ≤ (s p).toNat ∧ (s p).toNat ≤ 254) (k c : Fin 11) (o : Fin 4) (q : ℕ) (hq : q = 32 * o.val)
    (h : S128x256.Slices ![q, 0] S32x256) (b : Vec Ideal S1x256x128 .fp8e4m3) (v : Vec Ideal S1x256 .i32)
    (hb : ∀ (l : Fin 256) (i : Fin 128), b (ValueIdx.ix3 0 l i) = w (ValueIdx.ix3 0 ⟨256 * k.val + l.val, by omega⟩ ⟨128 * c.val + i.val, by omega⟩))
    (hv : ∀ l : Fin 256, v (ValueIdx.ix2 0 l) = twice (s (ValueIdx.ix3 0 ⟨256 * k.val + l.val, by omega⟩ ⟨4 * c.val + o.val, by omega⟩)))
    (off : Fin 2 → ℕ) (inb : ∀ a, off a + S32x256.size a ≤ S1408x2816.size a) (h0 : off 0 = 128 * c.val + 32 * o.val) (h1 : off 1 = 256 * k.val) (x : S32x256.Idx) :
    wide q h b v x = GW w s ((Rect.unit (s := S1408x2816) off S32x256.size inb).emb x) := by
  subst hq
  obtain ⟨r, l, rfl⟩ : ∃ (r : Fin 32) (l : Fin 256), x = ValueIdx.ix2 r l := ⟨x 0, x 1, by funext a; match a with | 0 => rfl | 1 => rfl⟩
  have hr := r.isLt
  have ho := o.isLt
  rw [wide_apply _ (by omega), hb, hv]
  have t := twice_half (s (ValueIdx.ix3 0 ⟨256 * k.val + l.val, by omega⟩ ⟨4 * c.val + o.val, by omega⟩)) ⟨r.val % 2, by omega⟩
  rw [show 16 * (r.val % 2) = 16 * (⟨r.val % 2, by omega⟩ : Fin 2).val from rfl, t, Cert.FloatWords.bf16_pow _ (hs _).1 (hs _).2]
  have e0 : (((Rect.unit (s := S1408x2816) off S32x256.size inb).emb (ValueIdx.ix2 r l)) 0).val = 128 * c.val + 32 * o.val + r.val := by
    show off 0 + 1 * r.val = _; omega
  have e1 : (((Rect.unit (s := S1408x2816) off S32x256.size inb).emb (ValueIdx.ix2 r l)) 1).val = 256 * k.val + l.val := by
    show off 1 + 1 * l.val = _; omega
  unfold GW
  generalize (Rect.unit (s := S1408x2816) off S32x256.size inb).emb (ValueIdx.ix2 r l) = y at e0 e1
  have a1 : (⟨256 * k.val + l.val, by omega⟩ : Fin 2816) = y 1 := Fin.ext e1.symm
  have a0 : (⟨128 * c.val + (32 * o.val + r.val), by omega⟩ : Fin 1408) = y 0 := Fin.ext (by rw [e0]; show _ = _; simp only; omega)
  have a2 : (⟨4 * c.val + o.val, by omega⟩ : Fin 44) = ⟨(y 0).val / 32, by have : (y 0).val < 1408 := (y 0).isLt; omega⟩ := Fin.ext (by simp only; omega)
  rw [a1, a2]
  show (show EReal from w (ValueIdx.ix3 0 (y 1) (⟨128 * c.val + (32 * o.val + r.val), by omega⟩ : Fin 1408))) * _ = _
  rw [a0]

end Cert.KernelIdeal.Gen

end
-- ==== Proof.ValueW.lean ====
/- The second loop leaves the codes times their scales, over the extended reals. -/
module

public import proofs.«01_k».proof.Proof.Widen

@[expose] public section

noncomputable section

namespace Cert.KernelIdeal.Gen

open Idealize.ShloMosaic Idealize.ShloMosaic.TcCoe Idealize.SL.Sem Cert.KernelIdeal

variable [Facts]

theorem offW16 : ∀ k : Fin k0_t2_loop.trips, k0_off16 k 0 = 0 ∧ k0_off16 k 1 = 256 * k.val := by decide +kernel
theorem offW17 : ∀ k : Fin k0_t2_loop.trips, k0_off17 k 0 = 32 ∧ k0_off17 k 1 = 256 * k.val := by decide +kernel
theorem offW18 : ∀ k : Fin k0_t2_loop.trips, k0_off18 k 0 = 64 ∧ k0_off18 k 1 = 256 * k.val := by decide +kernel
theorem offW19 : ∀ k : Fin k0_t2_loop.trips, k0_off19 k 0 = 96 ∧ k0_off19 k 1 = 256 * k.val := by decide +kernel
theorem offW21 : ∀ k : Fin k0_t2_loop.trips, k0_off21 k 0 = 128 ∧ k0_off21 k 1 = 256 * k.val := by decide +kernel
theorem offW22 : ∀ k : Fin k0_t2_loop.trips, k0_off22 k 0 = 160 ∧ k0_off22 k 1 = 256 * k.val := by decide +kernel
theorem offW23 : ∀ k : Fin k0_t2_loop.trips, k0_off23 k 0 = 192 ∧ k0_off23 k 1 = 256 * k.val := by decide +kernel
theorem offW24 : ∀ k : Fin k0_t2_loop.trips, k0_off24 k 0 = 224 ∧ k0_off24 k 1 = 256 * k.val := by decide +kernel
theorem offW26 : ∀ k : Fin k0_t2_loop.trips, k0_off26 k 0 = 256 ∧ k0_off26 k 1 = 256 * k.val := by decide +kernel
theorem offW27 : ∀ k : Fin k0_t2_loop.trips, k0_off27 k 0 = 288 ∧ k0_off27 k 1 = 256 * k.val := by decide +kernel
theorem offW28 : ∀ k : Fin k0_t2_loop.trips, k0_off28 k 0 = 320 ∧ k0_off28 k 1 = 256 * k.val := by decide +kernel
theorem offW29 : ∀ k : Fin k0_t2_loop.trips, k0_off29 k 0 = 352 ∧ k0_off29 k 1 = 256 * k.val := by decide +kernel
theorem offW31 : ∀ k : Fin k0_t2_loop.trips, k0_off31 k 0 = 384 ∧ k0_off31 k 1 = 256 * k.val := by decide +kernel
theorem offW32 : ∀ k : Fin k0_t2_loop.trips, k0_off32 k 0 = 416 ∧ k0_off32 k 1 = 256 * k.val := by decide +kernel
theorem offW33 : ∀ k : Fin k0_t2_loop.trips, k0_off33 k 0 = 448 ∧ k0_off33 k 1 = 256 * k.val := by decide +kernel
theorem offW34 : ∀ k : Fin k0_t2_loop.trips, k0_off34 k 0 = 480 ∧ k0_off34 k 1 = 256 * k.val := by decide +kernel
theorem offW36 : ∀ k : Fin k0_t2_loop.trips, k0_off36 k 0 = 512 ∧ k0_off36 k 1 = 256 * k.val := by decide +kernel
theorem offW37 : ∀ k : Fin k0_t2_loop.trips, k0_off37 k 0 = 544 ∧ k0_off37 k 1 = 256 * k.val := by decide +kernel
theorem offW38 : ∀ k : Fin k0_t2_loop.trips, k0_off38 k 0 = 576 ∧ k0_off38 k 1 = 256 * k.val := by decide +kernel
theorem offW39 : ∀ k : Fin k0_t2_loop.trips, k0_off39 k 0 = 608 ∧ k0_off39 k 1 = 256 * k.val := by decide +kernel
theorem offW41 : ∀ k : Fin k0_t2_loop.trips, k0_off41 k 0 = 640 ∧ k0_off41 k 1 = 256 * k.val := by decide +kernel
theorem offW42 : ∀ k : Fin k0_t2_loop.trips, k0_off42 k 0 = 672 ∧ k0_off42 k 1 = 256 * k.val := by decide +kernel
theorem offW43 : ∀ k : Fin k0_t2_loop.trips, k0_off43 k 0 = 704 ∧ k0_off43 k 1 = 256 * k.val := by decide +kernel
theorem offW44 : ∀ k : Fin k0_t2_loop.trips, k0_off44 k 0 = 736 ∧ k0_off44 k 1 = 256 * k.val := by decide +kernel
theorem offW46 : ∀ k : Fin k0_t2_loop.trips, k0_off46 k 0 = 768 ∧ k0_off46 k 1 = 256 * k.val := by decide +kernel
theorem offW47 : ∀ k : Fin k0_t2_loop.trips, k0_off47 k 0 = 800 ∧ k0_off47 k 1 = 256 * k.val := by decide +kernel
theorem offW48 : ∀ k : Fin k0_t2_loop.trips, k0_off48 k 0 = 832 ∧ k0_off48 k 1 = 256 * k.val := by decide +kernel
theorem offW49 : ∀ k : Fin k0_t2_loop.trips, k0_off49 k 0 = 864 ∧ k0_off49 k 1 = 256 * k.val := by decide +kernel
theorem offW51 : ∀ k : Fin k0_t2_loop.trips, k0_off51 k 0 = 896 ∧ k0_off51 k 1 = 256 * k.val := by decide +kernel
theorem offW52 : ∀ k : Fin k0_t2_loop.trips, k0_off52 k 0 = 928 ∧ k0_off52 k 1 = 256 * k.val := by decide +kernel
theorem offW53 : ∀ k : Fin k0_t2_loop.trips, k0_off53 k 0 = 960 ∧ k0_off53 k 1 = 256 * k.val := by decide +kernel
theorem offW54 : ∀ k : Fin k0_t2_loop.trips, k0_off54 k 0 = 992 ∧ k0_off54 k 1 = 256 * k.val := by decide +kernel
theorem offW56 : ∀ k : Fin k0_t2_loop.trips, k0_off56 k 0 = 1024 ∧ k0_off56 k 1 = 256 * k.val := by decide +kernel
theorem offW57 : ∀ k : Fin k0_t2_loop.trips, k0_off57 k 0 = 1056 ∧ k0_off57 k 1 = 256 * k.val := by decide +kernel
theorem offW58 : ∀ k : Fin k0_t2_loop.trips, k0_off58 k 0 = 1088 ∧ k0_off58 k 1 = 256 * k.val := by decide +kernel
theorem offW59 : ∀ k : Fin k0_t2_loop.trips, k0_off59 k 0 = 1120 ∧ k0_off59 k 1 = 256 * k.val := by decide +kernel
theorem offW61 : ∀ k : Fin k0_t2_loop.trips, k0_off61 k 0 = 1152 ∧ k0_off61 k 1 = 256 * k.val := by decide +kernel
theorem offW62 : ∀ k : Fin k0_t2_loop.trips, k0_off62 k 0 = 1184 ∧ k0_off62 k 1 = 256 * k.val := by decide +kernel
theorem offW63 : ∀ k : Fin k0_t2_loop.trips, k0_off63 k 0 = 1216 ∧ k0_off63 k 1 = 256 * k.val := by decide +kernel
theorem offW64 : ∀ k : Fin k0_t2_loop.trips, k0_off64 k 0 = 1248 ∧ k0_off64 k 1 = 256 * k.val := by decide +kernel
theorem offW66 : ∀ k : Fin k0_t2_loop.trips, k0_off66 k 0 = 1280 ∧ k0_off66 k 1 = 256 * k.val := by decide +kernel
theorem offW67 : ∀ k : Fin k0_t2_loop.trips, k0_off67 k 0 = 1312 ∧ k0_off67 k 1 = 256 * k.val := by decide +kernel
theorem offW68 : ∀ k : Fin k0_t2_loop.trips, k0_off68 k 0 = 1344 ∧ k0_off68 k 1 = 256 * k.val := by decide +kernel
theorem offW69 : ∀ k : Fin k0_t2_loop.trips, k0_off69 k 0 = 1376 ∧ k0_off69 k 1 = 256 * k.val := by decide +kernel

theorem offL0 : ∀ k : Fin k0_t2_loop.trips, k0_off15 k 0 = 0 ∧ k0_off15 k 1 = 256 * k.val ∧ k0_off15 k 2 = 0 := by decide +kernel
theorem offL1 : ∀ k : Fin k0_t2_loop.trips, k0_off20 k 0 = 0 ∧ k0_off20 k 1 = 256 * k.val ∧ k0_off20 k 2 = 128 := by decide +kernel
theorem offL2 : ∀ k : Fin k0_t2_loop.trips, k0_off25 k 0 = 0 ∧ k0_off25 k 1 = 256 * k.val ∧ k0_off25 k 2 = 256 := by decide +kernel
theorem offL3 : ∀ k : Fin k0_t2_loop.trips, k0_off30 k 0 = 0 ∧ k0_off30 k 1 = 256 * k.val ∧ k0_off30 k 2 = 384 := by decide +kernel
theorem offL4 : ∀ k : Fin k0_t2_loop.trips, k0_off35 k 0 = 0 ∧ k0_off35 k 1 = 256 * k.val ∧ k0_off35 k 2 = 512 := by decide +kernel
theorem offL5 : ∀ k : Fin k0_t2_loop.trips, k0_off40 k 0 = 0 ∧ k0_off40 k 1 = 256 * k.val ∧ k0_off40 k 2 = 640 := by decide +kernel
theorem offL6 : ∀ k : Fin k0_t2_loop.trips, k0_off45 k 0 = 0 ∧ k0_off45 k 1 = 256 * k.val ∧ k0_off45 k 2 = 768 := by decide +kernel
theorem offL7 : ∀ k : Fin k0_t2_loop.trips, k0_off50 k 0 = 0 ∧ k0_off50 k 1 = 256 * k.val ∧ k0_off50 k 2 = 896 := by decide +kernel
theorem offL8 : ∀ k : Fin k0_t2_loop.trips, k0_off55 k 0 = 0 ∧ k0_off55 k 1 = 256 * k.val ∧ k0_off55 k 2 = 1024 := by decide +kernel
theorem offL9 : ∀ k : Fin k0_t2_loop.trips, k0_off60 k 0 = 0 ∧ k0_off60 k 1 = 256 * k.val ∧ k0_off60 k 2 = 1152 := by decide +kernel
theorem offL10 : ∀ k : Fin k0_t2_loop.trips, k0_off65 k 0 = 0 ∧ k0_off65 k 1 = 256 * k.val ∧ k0_off65 k 2 = 1280 := by decide +kernel

theorem offS : ∀ k : Fin k0_t2_loop.trips, k0_off14 k 0 = 0 ∧ k0_off14 k 1 = 256 * k.val ∧ k0_off14 k 2 = 0 := by
  decide +kernel

theorem trips2 : k0_t2_loop.trips = 11 := by decide +kernel

/-- What the second loop leaves. -/
def WQ (w : Vec Ideal S1x2816x1408 .fp8e4m3) (s : Vec Ideal S1x2816x44 .i8) (g : Vec Ideal S1408x2816 .bf16) : Prop :=
  (∀ p, 1 ≤ (s p).toNat ∧ (s p).toNat ≤ 254) → ∀ y, g y = GW w s y

theorem pieceW0 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 0 slices_S128x256_o0_0_S32x256 (View.readAt (Elt Ideal) arg7.view (Rect.unit (s := S1x2816x1408) (k0_off15 k) S1x256x128.size (k0_off15_inb k)).toLoadRect f7)
        (trip_k0_t2.sl.v46 arg8 arg12 f8 k)) shapeCasts_S32x256_S32x256 x
      = GW (arg7.view.read (Elt Ideal) f7) (arg8.view.read (Elt Ideal) f8) ((Rect.unit (s := S1408x2816) (k0_off16 k) S32x256.size (k0_off16_inb k)).emb x) := by
  rw [shapeCast_self]
  have hk : k.val < 11 := trips2 ▸ k.isLt
  exact wide_piece _ _ hs ⟨k.val, hk⟩ 0 0 0 rfl _ _ _ (fun l i => code_read arg7 f7 _ _ ⟨k.val, hk⟩ 0 (offL0 k).1 (offL0 k).2.1 (offL0 k).2.2 l i)
    (fun l => row_read arg8 arg12 f8 k ⟨k.val, hk⟩ (offS k).1 (offS k).2.1 (offS k).2.2 0 _ _ rfl rfl l) _ _ (offW16 k).1 (offW16 k).2 x

theorem pieceW1 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 32 slices_S128x256_o32_0_S32x256 (View.readAt (Elt Ideal) arg7.view (Rect.unit (s := S1x2816x1408) (k0_off15 k) S1x256x128.size (k0_off15_inb k)).toLoadRect f7)
        (trip_k0_t2.sl.v56 arg8 arg12 f8 k)) shapeCasts_S32x256_S32x256 x
      = GW (arg7.view.read (Elt Ideal) f7) (arg8.view.read (Elt Ideal) f8) ((Rect.unit (s := S1408x2816) (k0_off17 k) S32x256.size (k0_off17_inb k)).emb x) := by
  rw [shapeCast_self]
  have hk : k.val < 11 := trips2 ▸ k.isLt
  exact wide_piece _ _ hs ⟨k.val, hk⟩ 0 1 32 rfl _ _ _ (fun l i => code_read arg7 f7 _ _ ⟨k.val, hk⟩ 0 (offL0 k).1 (offL0 k).2.1 (offL0 k).2.2 l i)
    (fun l => row_read arg8 arg12 f8 k ⟨k.val, hk⟩ (offS k).1 (offS k).2.1 (offS k).2.2 1 _ _ rfl rfl l) _ _ (offW17 k).1 (offW17 k).2 x

theorem pieceW2 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 64 slices_S128x256_o64_0_S32x256 (View.readAt (Elt Ideal) arg7.view (Rect.unit (s := S1x2816x1408) (k0_off15 k) S1x256x128.size (k0_off15_inb k)).toLoadRect f7)
        (trip_k0_t2.sl.v66 arg8 arg12 f8 k)) shapeCasts_S32x256_S32x256 x
      = GW (arg7.view.read (Elt Ideal) f7) (arg8.view.read (Elt Ideal) f8) ((Rect.unit (s := S1408x2816) (k0_off18 k) S32x256.size (k0_off18_inb k)).emb x) := by
  rw [shapeCast_self]
  have hk : k.val < 11 := trips2 ▸ k.isLt
  exact wide_piece _ _ hs ⟨k.val, hk⟩ 0 2 64 rfl _ _ _ (fun l i => code_read arg7 f7 _ _ ⟨k.val, hk⟩ 0 (offL0 k).1 (offL0 k).2.1 (offL0 k).2.2 l i)
    (fun l => row_read arg8 arg12 f8 k ⟨k.val, hk⟩ (offS k).1 (offS k).2.1 (offS k).2.2 2 _ _ rfl rfl l) _ _ (offW18 k).1 (offW18 k).2 x

theorem pieceW3 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 96 slices_S128x256_o96_0_S32x256 (View.readAt (Elt Ideal) arg7.view (Rect.unit (s := S1x2816x1408) (k0_off15 k) S1x256x128.size (k0_off15_inb k)).toLoadRect f7)
        (trip_k0_t2.sl.v76 arg8 arg12 f8 k)) shapeCasts_S32x256_S32x256 x
      = GW (arg7.view.read (Elt Ideal) f7) (arg8.view.read (Elt Ideal) f8) ((Rect.unit (s := S1408x2816) (k0_off19 k) S32x256.size (k0_off19_inb k)).emb x) := by
  rw [shapeCast_self]
  have hk : k.val < 11 := trips2 ▸ k.isLt
  exact wide_piece _ _ hs ⟨k.val, hk⟩ 0 3 96 rfl _ _ _ (fun l i => code_read arg7 f7 _ _ ⟨k.val, hk⟩ 0 (offL0 k).1 (offL0 k).2.1 (offL0 k).2.2 l i)
    (fun l => row_read arg8 arg12 f8 k ⟨k.val, hk⟩ (offS k).1 (offS k).2.1 (offS k).2.2 3 _ _ rfl rfl l) _ _ (offW19 k).1 (offW19 k).2 x

theorem pieceW4 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 0 slices_S128x256_o0_0_S32x256 (View.readAt (Elt Ideal) arg7.view (Rect.unit (s := S1x2816x1408) (k0_off20 k) S1x256x128.size (k0_off20_inb k)).toLoadRect f7)
        (trip_k0_t2.sl.v91 arg8 arg12 f8 k)) shapeCasts_S32x256_S32x256 x
      = GW (arg7.view.read (Elt Ideal) f7) (arg8.view.read (Elt Ideal) f8) ((Rect.unit (s := S1408x2816) (k0_off21 k) S32x256.size (k0_off21_inb k)).emb x) := by
  rw [shapeCast_self]
  have hk : k.val < 11 := trips2 ▸ k.isLt
  exact wide_piece _ _ hs ⟨k.val, hk⟩ 1 0 0 rfl _ _ _ (fun l i => code_read arg7 f7 _ _ ⟨k.val, hk⟩ 1 (offL1 k).1 (offL1 k).2.1 (offL1 k).2.2 l i)
    (fun l => row_read arg8 arg12 f8 k ⟨k.val, hk⟩ (offS k).1 (offS k).2.1 (offS k).2.2 4 _ _ rfl rfl l) _ _ (offW21 k).1 (offW21 k).2 x

theorem pieceW5 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 32 slices_S128x256_o32_0_S32x256 (View.readAt (Elt Ideal) arg7.view (Rect.unit (s := S1x2816x1408) (k0_off20 k) S1x256x128.size (k0_off20_inb k)).toLoadRect f7)
        (trip_k0_t2.sl.v101 arg8 arg12 f8 k)) shapeCasts_S32x256_S32x256 x
      = GW (arg7.view.read (Elt Ideal) f7) (arg8.view.read (Elt Ideal) f8) ((Rect.unit (s := S1408x2816) (k0_off22 k) S32x256.size (k0_off22_inb k)).emb x) := by
  rw [shapeCast_self]
  have hk : k.val < 11 := trips2 ▸ k.isLt
  exact wide_piece _ _ hs ⟨k.val, hk⟩ 1 1 32 rfl _ _ _ (fun l i => code_read arg7 f7 _ _ ⟨k.val, hk⟩ 1 (offL1 k).1 (offL1 k).2.1 (offL1 k).2.2 l i)
    (fun l => row_read arg8 arg12 f8 k ⟨k.val, hk⟩ (offS k).1 (offS k).2.1 (offS k).2.2 5 _ _ rfl rfl l) _ _ (offW22 k).1 (offW22 k).2 x

theorem pieceW6 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 64 slices_S128x256_o64_0_S32x256 (View.readAt (Elt Ideal) arg7.view (Rect.unit (s := S1x2816x1408) (k0_off20 k) S1x256x128.size (k0_off20_inb k)).toLoadRect f7)
        (trip_k0_t2.sl.v111 arg8 arg12 f8 k)) shapeCasts_S32x256_S32x256 x
      = GW (arg7.view.read (Elt Ideal) f7) (arg8.view.read (Elt Ideal) f8) ((Rect.unit (s := S1408x2816) (k0_off23 k) S32x256.size (k0_off23_inb k)).emb x) := by
  rw [shapeCast_self]
  have hk : k.val < 11 := trips2 ▸ k.isLt
  exact wide_piece _ _ hs ⟨k.val, hk⟩ 1 2 64 rfl _ _ _ (fun l i => code_read arg7 f7 _ _ ⟨k.val, hk⟩ 1 (offL1 k).1 (offL1 k).2.1 (offL1 k).2.2 l i)
    (fun l => row_read arg8 arg12 f8 k ⟨k.val, hk⟩ (offS k).1 (offS k).2.1 (offS k).2.2 6 _ _ rfl rfl l) _ _ (offW23 k).1 (offW23 k).2 x

theorem pieceW7 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 96 slices_S128x256_o96_0_S32x256 (View.readAt (Elt Ideal) arg7.view (Rect.unit (s := S1x2816x1408) (k0_off20 k) S1x256x128.size (k0_off20_inb k)).toLoadRect f7)
        (trip_k0_t2.sl.v121 arg8 arg12 f8 k)) shapeCasts_S32x256_S32x256 x
      = GW (arg7.view.read (Elt Ideal) f7) (arg8.view.read (Elt Ideal) f8) ((Rect.unit (s := S1408x2816) (k0_off24 k) S32x256.size (k0_off24_inb k)).emb x) := by
  rw [shapeCast_self]
  have hk : k.val < 11 := trips2 ▸ k.isLt
  exact wide_piece _ _ hs ⟨k.val, hk⟩ 1 3 96 rfl _ _ _ (fun l i => code_read arg7 f7 _ _ ⟨k.val, hk⟩ 1 (offL1 k).1 (offL1 k).2.1 (offL1 k).2.2 l i)
    (fun l => row_read arg8 arg12 f8 k ⟨k.val, hk⟩ (offS k).1 (offS k).2.1 (offS k).2.2 7 _ _ rfl rfl l) _ _ (offW24 k).1 (offW24 k).2 x

theorem pieceW8 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 0 slices_S128x256_o0_0_S32x256 (View.readAt (Elt Ideal) arg7.view (Rect.unit (s := S1x2816x1408) (k0_off25 k) S1x256x128.size (k0_off25_inb k)).toLoadRect f7)
        (trip_k0_t2.sl.v136 arg8 arg12 f8 k)) shapeCasts_S32x256_S32x256 x
      = GW (arg7.view.read (Elt Ideal) f7) (arg8.view.read (Elt Ideal) f8) ((Rect.unit (s := S1408x2816) (k0_off26 k) S32x256.size (k0_off26_inb k)).emb x) := by
  rw [shapeCast_self]
  have hk : k.val < 11 := trips2 ▸ k.isLt
  exact wide_piece _ _ hs ⟨k.val, hk⟩ 2 0 0 rfl _ _ _ (fun l i => code_read arg7 f7 _ _ ⟨k.val, hk⟩ 2 (offL2 k).1 (offL2 k).2.1 (offL2 k).2.2 l i)
    (fun l => row_read arg8 arg12 f8 k ⟨k.val, hk⟩ (offS k).1 (offS k).2.1 (offS k).2.2 8 _ _ rfl rfl l) _ _ (offW26 k).1 (offW26 k).2 x

theorem pieceW9 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 32 slices_S128x256_o32_0_S32x256 (View.readAt (Elt Ideal) arg7.view (Rect.unit (s := S1x2816x1408) (k0_off25 k) S1x256x128.size (k0_off25_inb k)).toLoadRect f7)
        (trip_k0_t2.sl.v146 arg8 arg12 f8 k)) shapeCasts_S32x256_S32x256 x
      = GW (arg7.view.read (Elt Ideal) f7) (arg8.view.read (Elt Ideal) f8) ((Rect.unit (s := S1408x2816) (k0_off27 k) S32x256.size (k0_off27_inb k)).emb x) := by
  rw [shapeCast_self]
  have hk : k.val < 11 := trips2 ▸ k.isLt
  exact wide_piece _ _ hs ⟨k.val, hk⟩ 2 1 32 rfl _ _ _ (fun l i => code_read arg7 f7 _ _ ⟨k.val, hk⟩ 2 (offL2 k).1 (offL2 k).2.1 (offL2 k).2.2 l i)
    (fun l => row_read arg8 arg12 f8 k ⟨k.val, hk⟩ (offS k).1 (offS k).2.1 (offS k).2.2 9 _ _ rfl rfl l) _ _ (offW27 k).1 (offW27 k).2 x

theorem pieceW10 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 64 slices_S128x256_o64_0_S32x256 (View.readAt (Elt Ideal) arg7.view (Rect.unit (s := S1x2816x1408) (k0_off25 k) S1x256x128.size (k0_off25_inb k)).toLoadRect f7)
        (trip_k0_t2.sl.v156 arg8 arg12 f8 k)) shapeCasts_S32x256_S32x256 x
      = GW (arg7.view.read (Elt Ideal) f7) (arg8.view.read (Elt Ideal) f8) ((Rect.unit (s := S1408x2816) (k0_off28 k) S32x256.size (k0_off28_inb k)).emb x) := by
  rw [shapeCast_self]
  have hk : k.val < 11 := trips2 ▸ k.isLt
  exact wide_piece _ _ hs ⟨k.val, hk⟩ 2 2 64 rfl _ _ _ (fun l i => code_read arg7 f7 _ _ ⟨k.val, hk⟩ 2 (offL2 k).1 (offL2 k).2.1 (offL2 k).2.2 l i)
    (fun l => row_read arg8 arg12 f8 k ⟨k.val, hk⟩ (offS k).1 (offS k).2.1 (offS k).2.2 10 _ _ rfl rfl l) _ _ (offW28 k).1 (offW28 k).2 x

theorem pieceW11 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 96 slices_S128x256_o96_0_S32x256 (View.readAt (Elt Ideal) arg7.view (Rect.unit (s := S1x2816x1408) (k0_off25 k) S1x256x128.size (k0_off25_inb k)).toLoadRect f7)
        (trip_k0_t2.sl.v166 arg8 arg12 f8 k)) shapeCasts_S32x256_S32x256 x
      = GW (arg7.view.read (Elt Ideal) f7) (arg8.view.read (Elt Ideal) f8) ((Rect.unit (s := S1408x2816) (k0_off29 k) S32x256.size (k0_off29_inb k)).emb x) := by
  rw [shapeCast_self]
  have hk : k.val < 11 := trips2 ▸ k.isLt
  exact wide_piece _ _ hs ⟨k.val, hk⟩ 2 3 96 rfl _ _ _ (fun l i => code_read arg7 f7 _ _ ⟨k.val, hk⟩ 2 (offL2 k).1 (offL2 k).2.1 (offL2 k).2.2 l i)
    (fun l => row_read arg8 arg12 f8 k ⟨k.val, hk⟩ (offS k).1 (offS k).2.1 (offS k).2.2 11 _ _ rfl rfl l) _ _ (offW29 k).1 (offW29 k).2 x

theorem pieceW12 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 0 slices_S128x256_o0_0_S32x256 (View.readAt (Elt Ideal) arg7.view (Rect.unit (s := S1x2816x1408) (k0_off30 k) S1x256x128.size (k0_off30_inb k)).toLoadRect f7)
        (trip_k0_t2.sl.v181 arg8 arg12 f8 k)) shapeCasts_S32x256_S32x256 x
      = GW (arg7.view.read (Elt Ideal) f7) (arg8.view.read (Elt Ideal) f8) ((Rect.unit (s := S1408x2816) (k0_off31 k) S32x256.size (k0_off31_inb k)).emb x) := by
  rw [shapeCast_self]
  have hk : k.val < 11 := trips2 ▸ k.isLt
  exact wide_piece _ _ hs ⟨k.val, hk⟩ 3 0 0 rfl _ _ _ (fun l i => code_read arg7 f7 _ _ ⟨k.val, hk⟩ 3 (offL3 k).1 (offL3 k).2.1 (offL3 k).2.2 l i)
    (fun l => row_read arg8 arg12 f8 k ⟨k.val, hk⟩ (offS k).1 (offS k).2.1 (offS k).2.2 12 _ _ rfl rfl l) _ _ (offW31 k).1 (offW31 k).2 x

theorem pieceW13 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 32 slices_S128x256_o32_0_S32x256 (View.readAt (Elt Ideal) arg7.view (Rect.unit (s := S1x2816x1408) (k0_off30 k) S1x256x128.size (k0_off30_inb k)).toLoadRect f7)
        (trip_k0_t2.sl.v191 arg8 arg12 f8 k)) shapeCasts_S32x256_S32x256 x
      = GW (arg7.view.read (Elt Ideal) f7) (arg8.view.read (Elt Ideal) f8) ((Rect.unit (s := S1408x2816) (k0_off32 k) S32x256.size (k0_off32_inb k)).emb x) := by
  rw [shapeCast_self]
  have hk : k.val < 11 := trips2 ▸ k.isLt
  exact wide_piece _ _ hs ⟨k.val, hk⟩ 3 1 32 rfl _ _ _ (fun l i => code_read arg7 f7 _ _ ⟨k.val, hk⟩ 3 (offL3 k).1 (offL3 k).2.1 (offL3 k).2.2 l i)
    (fun l => row_read arg8 arg12 f8 k ⟨k.val, hk⟩ (offS k).1 (offS k).2.1 (offS k).2.2 13 _ _ rfl rfl l) _ _ (offW32 k).1 (offW32 k).2 x

theorem pieceW14 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 64 slices_S128x256_o64_0_S32x256 (View.readAt (Elt Ideal) arg7.view (Rect.unit (s := S1x2816x1408) (k0_off30 k) S1x256x128.size (k0_off30_inb k)).toLoadRect f7)
        (trip_k0_t2.sl.v201 arg8 arg12 f8 k)) shapeCasts_S32x256_S32x256 x
      = GW (arg7.view.read (Elt Ideal) f7) (arg8.view.read (Elt Ideal) f8) ((Rect.unit (s := S1408x2816) (k0_off33 k) S32x256.size (k0_off33_inb k)).emb x) := by
  rw [shapeCast_self]
  have hk : k.val < 11 := trips2 ▸ k.isLt
  exact wide_piece _ _ hs ⟨k.val, hk⟩ 3 2 64 rfl _ _ _ (fun l i => code_read arg7 f7 _ _ ⟨k.val, hk⟩ 3 (offL3 k).1 (offL3 k).2.1 (offL3 k).2.2 l i)
    (fun l => row_read arg8 arg12 f8 k ⟨k.val, hk⟩ (offS k).1 (offS k).2.1 (offS k).2.2 14 _ _ rfl rfl l) _ _ (offW33 k).1 (offW33 k).2 x

theorem pieceW15 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 96 slices_S128x256_o96_0_S32x256 (View.readAt (Elt Ideal) arg7.view (Rect.unit (s := S1x2816x1408) (k0_off30 k) S1x256x128.size (k0_off30_inb k)).toLoadRect f7)
        (trip_k0_t2.sl.v211 arg8 arg12 f8 k)) shapeCasts_S32x256_S32x256 x
      = GW (arg7.view.read (Elt Ideal) f7) (arg8.view.read (Elt Ideal) f8) ((Rect.unit (s := S1408x2816) (k0_off34 k) S32x256.size (k0_off34_inb k)).emb x) := by
  rw [shapeCast_self]
  have hk : k.val < 11 := trips2 ▸ k.isLt
  exact wide_piece _ _ hs ⟨k.val, hk⟩ 3 3 96 rfl _ _ _ (fun l i => code_read arg7 f7 _ _ ⟨k.val, hk⟩ 3 (offL3 k).1 (offL3 k).2.1 (offL3 k).2.2 l i)
    (fun l => row_read arg8 arg12 f8 k ⟨k.val, hk⟩ (offS k).1 (offS k).2.1 (offS k).2.2 15 _ _ rfl rfl l) _ _ (offW34 k).1 (offW34 k).2 x

theorem pieceW16 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 0 slices_S128x256_o0_0_S32x256 (View.readAt (Elt Ideal) arg7.view (Rect.unit (s := S1x2816x1408) (k0_off35 k) S1x256x128.size (k0_off35_inb k)).toLoadRect f7)
        (trip_k0_t2.sl.v226 arg8 arg12 f8 k)) shapeCasts_S32x256_S32x256 x
      = GW (arg7.view.read (Elt Ideal) f7) (arg8.view.read (Elt Ideal) f8) ((Rect.unit (s := S1408x2816) (k0_off36 k) S32x256.size (k0_off36_inb k)).emb x) := by
  rw [shapeCast_self]
  have hk : k.val < 11 := trips2 ▸ k.isLt
  exact wide_piece _ _ hs ⟨k.val, hk⟩ 4 0 0 rfl _ _ _ (fun l i => code_read arg7 f7 _ _ ⟨k.val, hk⟩ 4 (offL4 k).1 (offL4 k).2.1 (offL4 k).2.2 l i)
    (fun l => row_read arg8 arg12 f8 k ⟨k.val, hk⟩ (offS k).1 (offS k).2.1 (offS k).2.2 16 _ _ rfl rfl l) _ _ (offW36 k).1 (offW36 k).2 x

theorem pieceW17 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 32 slices_S128x256_o32_0_S32x256 (View.readAt (Elt Ideal) arg7.view (Rect.unit (s := S1x2816x1408) (k0_off35 k) S1x256x128.size (k0_off35_inb k)).toLoadRect f7)
        (trip_k0_t2.sl.v236 arg8 arg12 f8 k)) shapeCasts_S32x256_S32x256 x
      = GW (arg7.view.read (Elt Ideal) f7) (arg8.view.read (Elt Ideal) f8) ((Rect.unit (s := S1408x2816) (k0_off37 k) S32x256.size (k0_off37_inb k)).emb x) := by
  rw [shapeCast_self]
  have hk : k.val < 11 := trips2 ▸ k.isLt
  exact wide_piece _ _ hs ⟨k.val, hk⟩ 4 1 32 rfl _ _ _ (fun l i => code_read arg7 f7 _ _ ⟨k.val, hk⟩ 4 (offL4 k).1 (offL4 k).2.1 (offL4 k).2.2 l i)
    (fun l => row_read arg8 arg12 f8 k ⟨k.val, hk⟩ (offS k).1 (offS k).2.1 (offS k).2.2 17 _ _ rfl rfl l) _ _ (offW37 k).1 (offW37 k).2 x

theorem pieceW18 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 64 slices_S128x256_o64_0_S32x256 (View.readAt (Elt Ideal) arg7.view (Rect.unit (s := S1x2816x1408) (k0_off35 k) S1x256x128.size (k0_off35_inb k)).toLoadRect f7)
        (trip_k0_t2.sl.v246 arg8 arg12 f8 k)) shapeCasts_S32x256_S32x256 x
      = GW (arg7.view.read (Elt Ideal) f7) (arg8.view.read (Elt Ideal) f8) ((Rect.unit (s := S1408x2816) (k0_off38 k) S32x256.size (k0_off38_inb k)).emb x) := by
  rw [shapeCast_self]
  have hk : k.val < 11 := trips2 ▸ k.isLt
  exact wide_piece _ _ hs ⟨k.val, hk⟩ 4 2 64 rfl _ _ _ (fun l i => code_read arg7 f7 _ _ ⟨k.val, hk⟩ 4 (offL4 k).1 (offL4 k).2.1 (offL4 k).2.2 l i)
    (fun l => row_read arg8 arg12 f8 k ⟨k.val, hk⟩ (offS k).1 (offS k).2.1 (offS k).2.2 18 _ _ rfl rfl l) _ _ (offW38 k).1 (offW38 k).2 x

theorem pieceW19 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 96 slices_S128x256_o96_0_S32x256 (View.readAt (Elt Ideal) arg7.view (Rect.unit (s := S1x2816x1408) (k0_off35 k) S1x256x128.size (k0_off35_inb k)).toLoadRect f7)
        (trip_k0_t2.sl.v256 arg8 arg12 f8 k)) shapeCasts_S32x256_S32x256 x
      = GW (arg7.view.read (Elt Ideal) f7) (arg8.view.read (Elt Ideal) f8) ((Rect.unit (s := S1408x2816) (k0_off39 k) S32x256.size (k0_off39_inb k)).emb x) := by
  rw [shapeCast_self]
  have hk : k.val < 11 := trips2 ▸ k.isLt
  exact wide_piece _ _ hs ⟨k.val, hk⟩ 4 3 96 rfl _ _ _ (fun l i => code_read arg7 f7 _ _ ⟨k.val, hk⟩ 4 (offL4 k).1 (offL4 k).2.1 (offL4 k).2.2 l i)
    (fun l => row_read arg8 arg12 f8 k ⟨k.val, hk⟩ (offS k).1 (offS k).2.1 (offS k).2.2 19 _ _ rfl rfl l) _ _ (offW39 k).1 (offW39 k).2 x

theorem pieceW20 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 0 slices_S128x256_o0_0_S32x256 (View.readAt (Elt Ideal) arg7.view (Rect.unit (s := S1x2816x1408) (k0_off40 k) S1x256x128.size (k0_off40_inb k)).toLoadRect f7)
        (trip_k0_t2.sl.v271 arg8 arg12 f8 k)) shapeCasts_S32x256_S32x256 x
      = GW (arg7.view.read (Elt Ideal) f7) (arg8.view.read (Elt Ideal) f8) ((Rect.unit (s := S1408x2816) (k0_off41 k) S32x256.size (k0_off41_inb k)).emb x) := by
  rw [shapeCast_self]
  have hk : k.val < 11 := trips2 ▸ k.isLt
  exact wide_piece _ _ hs ⟨k.val, hk⟩ 5 0 0 rfl _ _ _ (fun l i => code_read arg7 f7 _ _ ⟨k.val, hk⟩ 5 (offL5 k).1 (offL5 k).2.1 (offL5 k).2.2 l i)
    (fun l => row_read arg8 arg12 f8 k ⟨k.val, hk⟩ (offS k).1 (offS k).2.1 (offS k).2.2 20 _ _ rfl rfl l) _ _ (offW41 k).1 (offW41 k).2 x

theorem pieceW21 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 32 slices_S128x256_o32_0_S32x256 (View.readAt (Elt Ideal) arg7.view (Rect.unit (s := S1x2816x1408) (k0_off40 k) S1x256x128.size (k0_off40_inb k)).toLoadRect f7)
        (trip_k0_t2.sl.v281 arg8 arg12 f8 k)) shapeCasts_S32x256_S32x256 x
      = GW (arg7.view.read (Elt Ideal) f7) (arg8.view.read (Elt Ideal) f8) ((Rect.unit (s := S1408x2816) (k0_off42 k) S32x256.size (k0_off42_inb k)).emb x) := by
  rw [shapeCast_self]
  have hk : k.val < 11 := trips2 ▸ k.isLt
  exact wide_piece _ _ hs ⟨k.val, hk⟩ 5 1 32 rfl _ _ _ (fun l i => code_read arg7 f7 _ _ ⟨k.val, hk⟩ 5 (offL5 k).1 (offL5 k).2.1 (offL5 k).2.2 l i)
    (fun l => row_read arg8 arg12 f8 k ⟨k.val, hk⟩ (offS k).1 (offS k).2.1 (offS k).2.2 21 _ _ rfl rfl l) _ _ (offW42 k).1 (offW42 k).2 x

theorem pieceW22 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 64 slices_S128x256_o64_0_S32x256 (View.readAt (Elt Ideal) arg7.view (Rect.unit (s := S1x2816x1408) (k0_off40 k) S1x256x128.size (k0_off40_inb k)).toLoadRect f7)
        (trip_k0_t2.sl.v291 arg8 arg12 f8 k)) shapeCasts_S32x256_S32x256 x
      = GW (arg7.view.read (Elt Ideal) f7) (arg8.view.read (Elt Ideal) f8) ((Rect.unit (s := S1408x2816) (k0_off43 k) S32x256.size (k0_off43_inb k)).emb x) := by
  rw [shapeCast_self]
  have hk : k.val < 11 := trips2 ▸ k.isLt
  exact wide_piece _ _ hs ⟨k.val, hk⟩ 5 2 64 rfl _ _ _ (fun l i => code_read arg7 f7 _ _ ⟨k.val, hk⟩ 5 (offL5 k).1 (offL5 k).2.1 (offL5 k).2.2 l i)
    (fun l => row_read arg8 arg12 f8 k ⟨k.val, hk⟩ (offS k).1 (offS k).2.1 (offS k).2.2 22 _ _ rfl rfl l) _ _ (offW43 k).1 (offW43 k).2 x

theorem pieceW23 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 96 slices_S128x256_o96_0_S32x256 (View.readAt (Elt Ideal) arg7.view (Rect.unit (s := S1x2816x1408) (k0_off40 k) S1x256x128.size (k0_off40_inb k)).toLoadRect f7)
        (trip_k0_t2.sl.v301 arg8 arg12 f8 k)) shapeCasts_S32x256_S32x256 x
      = GW (arg7.view.read (Elt Ideal) f7) (arg8.view.read (Elt Ideal) f8) ((Rect.unit (s := S1408x2816) (k0_off44 k) S32x256.size (k0_off44_inb k)).emb x) := by
  rw [shapeCast_self]
  have hk : k.val < 11 := trips2 ▸ k.isLt
  exact wide_piece _ _ hs ⟨k.val, hk⟩ 5 3 96 rfl _ _ _ (fun l i => code_read arg7 f7 _ _ ⟨k.val, hk⟩ 5 (offL5 k).1 (offL5 k).2.1 (offL5 k).2.2 l i)
    (fun l => row_read arg8 arg12 f8 k ⟨k.val, hk⟩ (offS k).1 (offS k).2.1 (offS k).2.2 23 _ _ rfl rfl l) _ _ (offW44 k).1 (offW44 k).2 x

theorem pieceW24 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 0 slices_S128x256_o0_0_S32x256 (View.readAt (Elt Ideal) arg7.view (Rect.unit (s := S1x2816x1408) (k0_off45 k) S1x256x128.size (k0_off45_inb k)).toLoadRect f7)
        (trip_k0_t2.sl.v316 arg8 arg12 f8 k)) shapeCasts_S32x256_S32x256 x
      = GW (arg7.view.read (Elt Ideal) f7) (arg8.view.read (Elt Ideal) f8) ((Rect.unit (s := S1408x2816) (k0_off46 k) S32x256.size (k0_off46_inb k)).emb x) := by
  rw [shapeCast_self]
  have hk : k.val < 11 := trips2 ▸ k.isLt
  exact wide_piece _ _ hs ⟨k.val, hk⟩ 6 0 0 rfl _ _ _ (fun l i => code_read arg7 f7 _ _ ⟨k.val, hk⟩ 6 (offL6 k).1 (offL6 k).2.1 (offL6 k).2.2 l i)
    (fun l => row_read arg8 arg12 f8 k ⟨k.val, hk⟩ (offS k).1 (offS k).2.1 (offS k).2.2 24 _ _ rfl rfl l) _ _ (offW46 k).1 (offW46 k).2 x

theorem pieceW25 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 32 slices_S128x256_o32_0_S32x256 (View.readAt (Elt Ideal) arg7.view (Rect.unit (s := S1x2816x1408) (k0_off45 k) S1x256x128.size (k0_off45_inb k)).toLoadRect f7)
        (trip_k0_t2.sl.v326 arg8 arg12 f8 k)) shapeCasts_S32x256_S32x256 x
      = GW (arg7.view.read (Elt Ideal) f7) (arg8.view.read (Elt Ideal) f8) ((Rect.unit (s := S1408x2816) (k0_off47 k) S32x256.size (k0_off47_inb k)).emb x) := by
  rw [shapeCast_self]
  have hk : k.val < 11 := trips2 ▸ k.isLt
  exact wide_piece _ _ hs ⟨k.val, hk⟩ 6 1 32 rfl _ _ _ (fun l i => code_read arg7 f7 _ _ ⟨k.val, hk⟩ 6 (offL6 k).1 (offL6 k).2.1 (offL6 k).2.2 l i)
    (fun l => row_read arg8 arg12 f8 k ⟨k.val, hk⟩ (offS k).1 (offS k).2.1 (offS k).2.2 25 _ _ rfl rfl l) _ _ (offW47 k).1 (offW47 k).2 x

theorem pieceW26 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 64 slices_S128x256_o64_0_S32x256 (View.readAt (Elt Ideal) arg7.view (Rect.unit (s := S1x2816x1408) (k0_off45 k) S1x256x128.size (k0_off45_inb k)).toLoadRect f7)
        (trip_k0_t2.sl.v336 arg8 arg12 f8 k)) shapeCasts_S32x256_S32x256 x
      = GW (arg7.view.read (Elt Ideal) f7) (arg8.view.read (Elt Ideal) f8) ((Rect.unit (s := S1408x2816) (k0_off48 k) S32x256.size (k0_off48_inb k)).emb x) := by
  rw [shapeCast_self]
  have hk : k.val < 11 := trips2 ▸ k.isLt
  exact wide_piece _ _ hs ⟨k.val, hk⟩ 6 2 64 rfl _ _ _ (fun l i => code_read arg7 f7 _ _ ⟨k.val, hk⟩ 6 (offL6 k).1 (offL6 k).2.1 (offL6 k).2.2 l i)
    (fun l => row_read arg8 arg12 f8 k ⟨k.val, hk⟩ (offS k).1 (offS k).2.1 (offS k).2.2 26 _ _ rfl rfl l) _ _ (offW48 k).1 (offW48 k).2 x

theorem pieceW27 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 96 slices_S128x256_o96_0_S32x256 (View.readAt (Elt Ideal) arg7.view (Rect.unit (s := S1x2816x1408) (k0_off45 k) S1x256x128.size (k0_off45_inb k)).toLoadRect f7)
        (trip_k0_t2.sl.v346 arg8 arg12 f8 k)) shapeCasts_S32x256_S32x256 x
      = GW (arg7.view.read (Elt Ideal) f7) (arg8.view.read (Elt Ideal) f8) ((Rect.unit (s := S1408x2816) (k0_off49 k) S32x256.size (k0_off49_inb k)).emb x) := by
  rw [shapeCast_self]
  have hk : k.val < 11 := trips2 ▸ k.isLt
  exact wide_piece _ _ hs ⟨k.val, hk⟩ 6 3 96 rfl _ _ _ (fun l i => code_read arg7 f7 _ _ ⟨k.val, hk⟩ 6 (offL6 k).1 (offL6 k).2.1 (offL6 k).2.2 l i)
    (fun l => row_read arg8 arg12 f8 k ⟨k.val, hk⟩ (offS k).1 (offS k).2.1 (offS k).2.2 27 _ _ rfl rfl l) _ _ (offW49 k).1 (offW49 k).2 x

theorem pieceW28 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 0 slices_S128x256_o0_0_S32x256 (View.readAt (Elt Ideal) arg7.view (Rect.unit (s := S1x2816x1408) (k0_off50 k) S1x256x128.size (k0_off50_inb k)).toLoadRect f7)
        (trip_k0_t2.sl.v361 arg8 arg12 f8 k)) shapeCasts_S32x256_S32x256 x
      = GW (arg7.view.read (Elt Ideal) f7) (arg8.view.read (Elt Ideal) f8) ((Rect.unit (s := S1408x2816) (k0_off51 k) S32x256.size (k0_off51_inb k)).emb x) := by
  rw [shapeCast_self]
  have hk : k.val < 11 := trips2 ▸ k.isLt
  exact wide_piece _ _ hs ⟨k.val, hk⟩ 7 0 0 rfl _ _ _ (fun l i => code_read arg7 f7 _ _ ⟨k.val, hk⟩ 7 (offL7 k).1 (offL7 k).2.1 (offL7 k).2.2 l i)
    (fun l => row_read arg8 arg12 f8 k ⟨k.val, hk⟩ (offS k).1 (offS k).2.1 (offS k).2.2 28 _ _ rfl rfl l) _ _ (offW51 k).1 (offW51 k).2 x

theorem pieceW29 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 32 slices_S128x256_o32_0_S32x256 (View.readAt (Elt Ideal) arg7.view (Rect.unit (s := S1x2816x1408) (k0_off50 k) S1x256x128.size (k0_off50_inb k)).toLoadRect f7)
        (trip_k0_t2.sl.v371 arg8 arg12 f8 k)) shapeCasts_S32x256_S32x256 x
      = GW (arg7.view.read (Elt Ideal) f7) (arg8.view.read (Elt Ideal) f8) ((Rect.unit (s := S1408x2816) (k0_off52 k) S32x256.size (k0_off52_inb k)).emb x) := by
  rw [shapeCast_self]
  have hk : k.val < 11 := trips2 ▸ k.isLt
  exact wide_piece _ _ hs ⟨k.val, hk⟩ 7 1 32 rfl _ _ _ (fun l i => code_read arg7 f7 _ _ ⟨k.val, hk⟩ 7 (offL7 k).1 (offL7 k).2.1 (offL7 k).2.2 l i)
    (fun l => row_read arg8 arg12 f8 k ⟨k.val, hk⟩ (offS k).1 (offS k).2.1 (offS k).2.2 29 _ _ rfl rfl l) _ _ (offW52 k).1 (offW52 k).2 x

theorem pieceW30 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 64 slices_S128x256_o64_0_S32x256 (View.readAt (Elt Ideal) arg7.view (Rect.unit (s := S1x2816x1408) (k0_off50 k) S1x256x128.size (k0_off50_inb k)).toLoadRect f7)
        (trip_k0_t2.sl.v381 arg8 arg12 f8 k)) shapeCasts_S32x256_S32x256 x
      = GW (arg7.view.read (Elt Ideal) f7) (arg8.view.read (Elt Ideal) f8) ((Rect.unit (s := S1408x2816) (k0_off53 k) S32x256.size (k0_off53_inb k)).emb x) := by
  rw [shapeCast_self]
  have hk : k.val < 11 := trips2 ▸ k.isLt
  exact wide_piece _ _ hs ⟨k.val, hk⟩ 7 2 64 rfl _ _ _ (fun l i => code_read arg7 f7 _ _ ⟨k.val, hk⟩ 7 (offL7 k).1 (offL7 k).2.1 (offL7 k).2.2 l i)
    (fun l => row_read arg8 arg12 f8 k ⟨k.val, hk⟩ (offS k).1 (offS k).2.1 (offS k).2.2 30 _ _ rfl rfl l) _ _ (offW53 k).1 (offW53 k).2 x

theorem pieceW31 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 96 slices_S128x256_o96_0_S32x256 (View.readAt (Elt Ideal) arg7.view (Rect.unit (s := S1x2816x1408) (k0_off50 k) S1x256x128.size (k0_off50_inb k)).toLoadRect f7)
        (trip_k0_t2.sl.v391 arg8 arg12 f8 k)) shapeCasts_S32x256_S32x256 x
      = GW (arg7.view.read (Elt Ideal) f7) (arg8.view.read (Elt Ideal) f8) ((Rect.unit (s := S1408x2816) (k0_off54 k) S32x256.size (k0_off54_inb k)).emb x) := by
  rw [shapeCast_self]
  have hk : k.val < 11 := trips2 ▸ k.isLt
  exact wide_piece _ _ hs ⟨k.val, hk⟩ 7 3 96 rfl _ _ _ (fun l i => code_read arg7 f7 _ _ ⟨k.val, hk⟩ 7 (offL7 k).1 (offL7 k).2.1 (offL7 k).2.2 l i)
    (fun l => row_read arg8 arg12 f8 k ⟨k.val, hk⟩ (offS k).1 (offS k).2.1 (offS k).2.2 31 _ _ rfl rfl l) _ _ (offW54 k).1 (offW54 k).2 x

theorem pieceW32 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 0 slices_S128x256_o0_0_S32x256 (View.readAt (Elt Ideal) arg7.view (Rect.unit (s := S1x2816x1408) (k0_off55 k) S1x256x128.size (k0_off55_inb k)).toLoadRect f7)
        (trip_k0_t2.sl.v406 arg8 arg12 f8 k)) shapeCasts_S32x256_S32x256 x
      = GW (arg7.view.read (Elt Ideal) f7) (arg8.view.read (Elt Ideal) f8) ((Rect.unit (s := S1408x2816) (k0_off56 k) S32x256.size (k0_off56_inb k)).emb x) := by
  rw [shapeCast_self]
  have hk : k.val < 11 := trips2 ▸ k.isLt
  exact wide_piece _ _ hs ⟨k.val, hk⟩ 8 0 0 rfl _ _ _ (fun l i => code_read arg7 f7 _ _ ⟨k.val, hk⟩ 8 (offL8 k).1 (offL8 k).2.1 (offL8 k).2.2 l i)
    (fun l => row_read arg8 arg12 f8 k ⟨k.val, hk⟩ (offS k).1 (offS k).2.1 (offS k).2.2 32 _ _ rfl rfl l) _ _ (offW56 k).1 (offW56 k).2 x

theorem pieceW33 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 32 slices_S128x256_o32_0_S32x256 (View.readAt (Elt Ideal) arg7.view (Rect.unit (s := S1x2816x1408) (k0_off55 k) S1x256x128.size (k0_off55_inb k)).toLoadRect f7)
        (trip_k0_t2.sl.v416 arg8 arg12 f8 k)) shapeCasts_S32x256_S32x256 x
      = GW (arg7.view.read (Elt Ideal) f7) (arg8.view.read (Elt Ideal) f8) ((Rect.unit (s := S1408x2816) (k0_off57 k) S32x256.size (k0_off57_inb k)).emb x) := by
  rw [shapeCast_self]
  have hk : k.val < 11 := trips2 ▸ k.isLt
  exact wide_piece _ _ hs ⟨k.val, hk⟩ 8 1 32 rfl _ _ _ (fun l i => code_read arg7 f7 _ _ ⟨k.val, hk⟩ 8 (offL8 k).1 (offL8 k).2.1 (offL8 k).2.2 l i)
    (fun l => row_read arg8 arg12 f8 k ⟨k.val, hk⟩ (offS k).1 (offS k).2.1 (offS k).2.2 33 _ _ rfl rfl l) _ _ (offW57 k).1 (offW57 k).2 x

theorem pieceW34 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 64 slices_S128x256_o64_0_S32x256 (View.readAt (Elt Ideal) arg7.view (Rect.unit (s := S1x2816x1408) (k0_off55 k) S1x256x128.size (k0_off55_inb k)).toLoadRect f7)
        (trip_k0_t2.sl.v426 arg8 arg12 f8 k)) shapeCasts_S32x256_S32x256 x
      = GW (arg7.view.read (Elt Ideal) f7) (arg8.view.read (Elt Ideal) f8) ((Rect.unit (s := S1408x2816) (k0_off58 k) S32x256.size (k0_off58_inb k)).emb x) := by
  rw [shapeCast_self]
  have hk : k.val < 11 := trips2 ▸ k.isLt
  exact wide_piece _ _ hs ⟨k.val, hk⟩ 8 2 64 rfl _ _ _ (fun l i => code_read arg7 f7 _ _ ⟨k.val, hk⟩ 8 (offL8 k).1 (offL8 k).2.1 (offL8 k).2.2 l i)
    (fun l => row_read arg8 arg12 f8 k ⟨k.val, hk⟩ (offS k).1 (offS k).2.1 (offS k).2.2 34 _ _ rfl rfl l) _ _ (offW58 k).1 (offW58 k).2 x

theorem pieceW35 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 96 slices_S128x256_o96_0_S32x256 (View.readAt (Elt Ideal) arg7.view (Rect.unit (s := S1x2816x1408) (k0_off55 k) S1x256x128.size (k0_off55_inb k)).toLoadRect f7)
        (trip_k0_t2.sl.v436 arg8 arg12 f8 k)) shapeCasts_S32x256_S32x256 x
      = GW (arg7.view.read (Elt Ideal) f7) (arg8.view.read (Elt Ideal) f8) ((Rect.unit (s := S1408x2816) (k0_off59 k) S32x256.size (k0_off59_inb k)).emb x) := by
  rw [shapeCast_self]
  have hk : k.val < 11 := trips2 ▸ k.isLt
  exact wide_piece _ _ hs ⟨k.val, hk⟩ 8 3 96 rfl _ _ _ (fun l i => code_read arg7 f7 _ _ ⟨k.val, hk⟩ 8 (offL8 k).1 (offL8 k).2.1 (offL8 k).2.2 l i)
    (fun l => row_read arg8 arg12 f8 k ⟨k.val, hk⟩ (offS k).1 (offS k).2.1 (offS k).2.2 35 _ _ rfl rfl l) _ _ (offW59 k).1 (offW59 k).2 x

theorem pieceW36 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 0 slices_S128x256_o0_0_S32x256 (View.readAt (Elt Ideal) arg7.view (Rect.unit (s := S1x2816x1408) (k0_off60 k) S1x256x128.size (k0_off60_inb k)).toLoadRect f7)
        (trip_k0_t2.sl.v451 arg8 arg12 f8 k)) shapeCasts_S32x256_S32x256 x
      = GW (arg7.view.read (Elt Ideal) f7) (arg8.view.read (Elt Ideal) f8) ((Rect.unit (s := S1408x2816) (k0_off61 k) S32x256.size (k0_off61_inb k)).emb x) := by
  rw [shapeCast_self]
  have hk : k.val < 11 := trips2 ▸ k.isLt
  exact wide_piece _ _ hs ⟨k.val, hk⟩ 9 0 0 rfl _ _ _ (fun l i => code_read arg7 f7 _ _ ⟨k.val, hk⟩ 9 (offL9 k).1 (offL9 k).2.1 (offL9 k).2.2 l i)
    (fun l => row_read arg8 arg12 f8 k ⟨k.val, hk⟩ (offS k).1 (offS k).2.1 (offS k).2.2 36 _ _ rfl rfl l) _ _ (offW61 k).1 (offW61 k).2 x

theorem pieceW37 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 32 slices_S128x256_o32_0_S32x256 (View.readAt (Elt Ideal) arg7.view (Rect.unit (s := S1x2816x1408) (k0_off60 k) S1x256x128.size (k0_off60_inb k)).toLoadRect f7)
        (trip_k0_t2.sl.v461 arg8 arg12 f8 k)) shapeCasts_S32x256_S32x256 x
      = GW (arg7.view.read (Elt Ideal) f7) (arg8.view.read (Elt Ideal) f8) ((Rect.unit (s := S1408x2816) (k0_off62 k) S32x256.size (k0_off62_inb k)).emb x) := by
  rw [shapeCast_self]
  have hk : k.val < 11 := trips2 ▸ k.isLt
  exact wide_piece _ _ hs ⟨k.val, hk⟩ 9 1 32 rfl _ _ _ (fun l i => code_read arg7 f7 _ _ ⟨k.val, hk⟩ 9 (offL9 k).1 (offL9 k).2.1 (offL9 k).2.2 l i)
    (fun l => row_read arg8 arg12 f8 k ⟨k.val, hk⟩ (offS k).1 (offS k).2.1 (offS k).2.2 37 _ _ rfl rfl l) _ _ (offW62 k).1 (offW62 k).2 x

theorem pieceW38 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 64 slices_S128x256_o64_0_S32x256 (View.readAt (Elt Ideal) arg7.view (Rect.unit (s := S1x2816x1408) (k0_off60 k) S1x256x128.size (k0_off60_inb k)).toLoadRect f7)
        (trip_k0_t2.sl.v471 arg8 arg12 f8 k)) shapeCasts_S32x256_S32x256 x
      = GW (arg7.view.read (Elt Ideal) f7) (arg8.view.read (Elt Ideal) f8) ((Rect.unit (s := S1408x2816) (k0_off63 k) S32x256.size (k0_off63_inb k)).emb x) := by
  rw [shapeCast_self]
  have hk : k.val < 11 := trips2 ▸ k.isLt
  exact wide_piece _ _ hs ⟨k.val, hk⟩ 9 2 64 rfl _ _ _ (fun l i => code_read arg7 f7 _ _ ⟨k.val, hk⟩ 9 (offL9 k).1 (offL9 k).2.1 (offL9 k).2.2 l i)
    (fun l => row_read arg8 arg12 f8 k ⟨k.val, hk⟩ (offS k).1 (offS k).2.1 (offS k).2.2 38 _ _ rfl rfl l) _ _ (offW63 k).1 (offW63 k).2 x

theorem pieceW39 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 96 slices_S128x256_o96_0_S32x256 (View.readAt (Elt Ideal) arg7.view (Rect.unit (s := S1x2816x1408) (k0_off60 k) S1x256x128.size (k0_off60_inb k)).toLoadRect f7)
        (trip_k0_t2.sl.v481 arg8 arg12 f8 k)) shapeCasts_S32x256_S32x256 x
      = GW (arg7.view.read (Elt Ideal) f7) (arg8.view.read (Elt Ideal) f8) ((Rect.unit (s := S1408x2816) (k0_off64 k) S32x256.size (k0_off64_inb k)).emb x) := by
  rw [shapeCast_self]
  have hk : k.val < 11 := trips2 ▸ k.isLt
  exact wide_piece _ _ hs ⟨k.val, hk⟩ 9 3 96 rfl _ _ _ (fun l i => code_read arg7 f7 _ _ ⟨k.val, hk⟩ 9 (offL9 k).1 (offL9 k).2.1 (offL9 k).2.2 l i)
    (fun l => row_read arg8 arg12 f8 k ⟨k.val, hk⟩ (offS k).1 (offS k).2.1 (offS k).2.2 39 _ _ rfl rfl l) _ _ (offW64 k).1 (offW64 k).2 x

theorem pieceW40 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 0 slices_S128x256_o0_0_S32x256 (View.readAt (Elt Ideal) arg7.view (Rect.unit (s := S1x2816x1408) (k0_off65 k) S1x256x128.size (k0_off65_inb k)).toLoadRect f7)
        (trip_k0_t2.sl.v496 arg8 arg12 f8 k)) shapeCasts_S32x256_S32x256 x
      = GW (arg7.view.read (Elt Ideal) f7) (arg8.view.read (Elt Ideal) f8) ((Rect.unit (s := S1408x2816) (k0_off66 k) S32x256.size (k0_off66_inb k)).emb x) := by
  rw [shapeCast_self]
  have hk : k.val < 11 := trips2 ▸ k.isLt
  exact wide_piece _ _ hs ⟨k.val, hk⟩ 10 0 0 rfl _ _ _ (fun l i => code_read arg7 f7 _ _ ⟨k.val, hk⟩ 10 (offL10 k).1 (offL10 k).2.1 (offL10 k).2.2 l i)
    (fun l => row_read arg8 arg12 f8 k ⟨k.val, hk⟩ (offS k).1 (offS k).2.1 (offS k).2.2 40 _ _ rfl rfl l) _ _ (offW66 k).1 (offW66 k).2 x

theorem pieceW41 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 32 slices_S128x256_o32_0_S32x256 (View.readAt (Elt Ideal) arg7.view (Rect.unit (s := S1x2816x1408) (k0_off65 k) S1x256x128.size (k0_off65_inb k)).toLoadRect f7)
        (trip_k0_t2.sl.v506 arg8 arg12 f8 k)) shapeCasts_S32x256_S32x256 x
      = GW (arg7.view.read (Elt Ideal) f7) (arg8.view.read (Elt Ideal) f8) ((Rect.unit (s := S1408x2816) (k0_off67 k) S32x256.size (k0_off67_inb k)).emb x) := by
  rw [shapeCast_self]
  have hk : k.val < 11 := trips2 ▸ k.isLt
  exact wide_piece _ _ hs ⟨k.val, hk⟩ 10 1 32 rfl _ _ _ (fun l i => code_read arg7 f7 _ _ ⟨k.val, hk⟩ 10 (offL10 k).1 (offL10 k).2.1 (offL10 k).2.2 l i)
    (fun l => row_read arg8 arg12 f8 k ⟨k.val, hk⟩ (offS k).1 (offS k).2.1 (offS k).2.2 41 _ _ rfl rfl l) _ _ (offW67 k).1 (offW67 k).2 x

theorem pieceW42 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 64 slices_S128x256_o64_0_S32x256 (View.readAt (Elt Ideal) arg7.view (Rect.unit (s := S1x2816x1408) (k0_off65 k) S1x256x128.size (k0_off65_inb k)).toLoadRect f7)
        (trip_k0_t2.sl.v516 arg8 arg12 f8 k)) shapeCasts_S32x256_S32x256 x
      = GW (arg7.view.read (Elt Ideal) f7) (arg8.view.read (Elt Ideal) f8) ((Rect.unit (s := S1408x2816) (k0_off68 k) S32x256.size (k0_off68_inb k)).emb x) := by
  rw [shapeCast_self]
  have hk : k.val < 11 := trips2 ▸ k.isLt
  exact wide_piece _ _ hs ⟨k.val, hk⟩ 10 2 64 rfl _ _ _ (fun l i => code_read arg7 f7 _ _ ⟨k.val, hk⟩ 10 (offL10 k).1 (offL10 k).2.1 (offL10 k).2.2 l i)
    (fun l => row_read arg8 arg12 f8 k ⟨k.val, hk⟩ (offS k).1 (offS k).2.1 (offS k).2.2 42 _ _ rfl rfl l) _ _ (offW68 k).1 (offW68 k).2 x

theorem pieceW43 (arg7 : Memref sig .tc .vmem S1x2816x1408 .fp8e4m3) (arg8 : Memref sig .tc .vmem S1x2816x44 .i8) (arg12 : Memref sig .tc .vmem S44x256 .i32)
    (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips) (x : S32x256.Idx) :
    shapeCast S32x256 (wide 96 slices_S128x256_o96_0_S32x256 (View.readAt (Elt Ideal) arg7.view (Rect.unit (s := S1x2816x1408) (k0_off65 k) S1x256x128.size (k0_off65_inb k)).toLoadRect f7)
        (trip_k0_t2.sl.v526 arg8 arg12 f8 k)) shapeCasts_S32x256_S32x256 x
      = GW (arg7.view.read (Elt Ideal) f7) (arg8.view.read (Elt Ideal) f8) ((Rect.unit (s := S1408x2816) (k0_off69 k) S32x256.size (k0_off69_inb k)).emb x) := by
  rw [shapeCast_self]
  have hk : k.val < 11 := trips2 ▸ k.isLt
  exact wide_piece _ _ hs ⟨k.val, hk⟩ 10 3 96 rfl _ _ _ (fun l i => code_read arg7 f7 _ _ ⟨k.val, hk⟩ 10 (offL10 k).1 (offL10 k).2.1 (offL10 k).2.2 l i)
    (fun l => row_read arg8 arg12 f8 k ⟨k.val, hk⟩ (offS k).1 (offS k).2.1 (offS k).2.2 43 _ _ rfl rfl l) _ _ (offW69 k).1 (offW69 k).2 x

set_option maxHeartbeats 4000000 in
theorem trip2 (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254) (k : Fin k0_t2_loop.trips)
    (f11 : BufTy.Contents (Elt Ideal) arg11.view.ty) (f12 : BufTy.Contents (Elt Ideal) arg12.view.ty) :
    (∀ p ∈ (tripL_k0_t2 (F := Ideal) Variants.none c none i arg1 harg1 arg2 harg2 arg3 harg3 arg4 harg4 arg5 harg5 arg6 harg6 arg7 harg7 arg8 harg8 arg9 harg9 arg10 harg10 arg11 harg11 arg12 harg12 f7 f8 k f11 f12).1, ∀ x : p.1.shape.Idx, p.2 x = GW (arg7.view.read (Elt Ideal) f7) (arg8.view.read (Elt Ideal) f8) (p.1.emb x))
    ∧ (∀ y : S1408x2816.Idx, 256 * k.val ≤ (y 1).val → (y 1).val < 256 * k.val + 256 →
        ∃ p ∈ (tripL_k0_t2 (F := Ideal) Variants.none c none i arg1 harg1 arg2 harg2 arg3 harg3 arg4 harg4 arg5 harg5 arg6 harg6 arg7 harg7 arg8 harg8 arg9 harg9 arg10 harg10 arg11 harg11 arg12 harg12 f7 f8 k f11 f12).1, y ∈ p.1.set) := by
  unfold tripL_k0_t2
  unfold trip_k0_t2
  dsimp only
  constructor
  · simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> intro x
    · exact pieceW43 arg7 arg8 arg12 f7 f8 hs k x
    · exact pieceW42 arg7 arg8 arg12 f7 f8 hs k x
    · exact pieceW41 arg7 arg8 arg12 f7 f8 hs k x
    · exact pieceW40 arg7 arg8 arg12 f7 f8 hs k x
    · exact pieceW39 arg7 arg8 arg12 f7 f8 hs k x
    · exact pieceW38 arg7 arg8 arg12 f7 f8 hs k x
    · exact pieceW37 arg7 arg8 arg12 f7 f8 hs k x
    · exact pieceW36 arg7 arg8 arg12 f7 f8 hs k x
    · exact pieceW35 arg7 arg8 arg12 f7 f8 hs k x
    · exact pieceW34 arg7 arg8 arg12 f7 f8 hs k x
    · exact pieceW33 arg7 arg8 arg12 f7 f8 hs k x
    · exact pieceW32 arg7 arg8 arg12 f7 f8 hs k x
    · exact pieceW31 arg7 arg8 arg12 f7 f8 hs k x
    · exact pieceW30 arg7 arg8 arg12 f7 f8 hs k x
    · exact pieceW29 arg7 arg8 arg12 f7 f8 hs k x
    · exact pieceW28 arg7 arg8 arg12 f7 f8 hs k x
    · exact pieceW27 arg7 arg8 arg12 f7 f8 hs k x
    · exact pieceW26 arg7 arg8 arg12 f7 f8 hs k x
    · exact pieceW25 arg7 arg8 arg12 f7 f8 hs k x
    · exact pieceW24 arg7 arg8 arg12 f7 f8 hs k x
    · exact pieceW23 arg7 arg8 arg12 f7 f8 hs k x
    · exact pieceW22 arg7 arg8 arg12 f7 f8 hs k x
    · exact pieceW21 arg7 arg8 arg12 f7 f8 hs k x
    · exact pieceW20 arg7 arg8 arg12 f7 f8 hs k x
    · exact pieceW19 arg7 arg8 arg12 f7 f8 hs k x
    · exact pieceW18 arg7 arg8 arg12 f7 f8 hs k x
    · exact pieceW17 arg7 arg8 arg12 f7 f8 hs k x
    · exact pieceW16 arg7 arg8 arg12 f7 f8 hs k x
    · exact pieceW15 arg7 arg8 arg12 f7 f8 hs k x
    · exact pieceW14 arg7 arg8 arg12 f7 f8 hs k x
    · exact pieceW13 arg7 arg8 arg12 f7 f8 hs k x
    · exact pieceW12 arg7 arg8 arg12 f7 f8 hs k x
    · exact pieceW11 arg7 arg8 arg12 f7 f8 hs k x
    · exact pieceW10 arg7 arg8 arg12 f7 f8 hs k x
    · exact pieceW9 arg7 arg8 arg12 f7 f8 hs k x
    · exact pieceW8 arg7 arg8 arg12 f7 f8 hs k x
    · exact pieceW7 arg7 arg8 arg12 f7 f8 hs k x
    · exact pieceW6 arg7 arg8 arg12 f7 f8 hs k x
    · exact pieceW5 arg7 arg8 arg12 f7 f8 hs k x
    · exact pieceW4 arg7 arg8 arg12 f7 f8 hs k x
    · exact pieceW3 arg7 arg8 arg12 f7 f8 hs k x
    · exact pieceW2 arg7 arg8 arg12 f7 f8 hs k x
    · exact pieceW1 arg7 arg8 arg12 f7 f8 hs k x
    · exact pieceW0 arg7 arg8 arg12 f7 f8 hs k x
  · intro y h0 h1
    have hy : (y 0).val < 1408 := (y 0).isLt
    simp only [List.exists_mem_cons_iff, List.not_mem_nil, false_and, exists_false, or_false, Rect.mem_set_unit, Fin.forall_fin_two]
    simp only [(offW16 k).1, (offW16 k).2, (offW17 k).1, (offW17 k).2, (offW18 k).1, (offW18 k).2, (offW19 k).1, (offW19 k).2, (offW21 k).1, (offW21 k).2, (offW22 k).1, (offW22 k).2, (offW23 k).1, (offW23 k).2, (offW24 k).1, (offW24 k).2, (offW26 k).1, (offW26 k).2, (offW27 k).1, (offW27 k).2, (offW28 k).1, (offW28 k).2, (offW29 k).1, (offW29 k).2, (offW31 k).1, (offW31 k).2, (offW32 k).1, (offW32 k).2, (offW33 k).1, (offW33 k).2, (offW34 k).1, (offW34 k).2, (offW36 k).1, (offW36 k).2, (offW37 k).1, (offW37 k).2, (offW38 k).1, (offW38 k).2, (offW39 k).1, (offW39 k).2, (offW41 k).1, (offW41 k).2, (offW42 k).1, (offW42 k).2, (offW43 k).1, (offW43 k).2, (offW44 k).1, (offW44 k).2, (offW46 k).1, (offW46 k).2, (offW47 k).1, (offW47 k).2, (offW48 k).1, (offW48 k).2, (offW49 k).1, (offW49 k).2, (offW51 k).1, (offW51 k).2, (offW52 k).1, (offW52 k).2, (offW53 k).1, (offW53 k).2, (offW54 k).1, (offW54 k).2, (offW56 k).1, (offW56 k).2, (offW57 k).1, (offW57 k).2, (offW58 k).1, (offW58 k).2, (offW59 k).1, (offW59 k).2, (offW61 k).1, (offW61 k).2, (offW62 k).1, (offW62 k).2, (offW63 k).1, (offW63 k).2, (offW64 k).1, (offW64 k).2, (offW66 k).1, (offW66 k).2, (offW67 k).1, (offW67 k).2, (offW68 k).1, (offW68 k).2, (offW69 k).1, (offW69 k).2]
    simp only [Matrix.cons_val_zero, Matrix.cons_val_one]
    omega

theorem loop2 (c : Dev nD) (i : grid0.Coords) (arg1 : Memref sig .tc .smem S191 .i32) (harg1 : arg1.IsWhole) (arg2 : Memref sig .tc .smem S191 .i32) (harg2 : arg2.IsWhole) (arg3 : Memref sig .tc .smem S191 .i32) (harg3 : arg3.IsWhole) (arg4 : Memref sig .tc .smem S191 .i32) (harg4 : arg4.IsWhole) (arg5 : Memref sig .tc .smem S191 .i32) (harg5 : arg5.IsWhole) (arg6 : Memref sig .tc .vmem S256x1408 .bf16) (harg6 : arg6.IsWhole) (arg7 : Memref sig .tc .vmem S1x2816x1408 .fp8e4m3) (harg7 : arg7.IsWhole) (arg8 : Memref sig .tc .vmem S1x2816x44 .i8) (harg8 : arg8.IsWhole) (arg9 : Memref sig .tc .vmem S256x2816 .bf16) (harg9 : arg9.IsWhole) (arg10 : Memref sig .tc .vmem S256x1408 .bf16) (harg10 : arg10.IsWhole) (arg11 : Memref sig .tc .vmem S1408x2816 .bf16) (harg11 : arg11.IsWhole) (arg12 : Memref sig .tc .vmem S44x256 .i32) (harg12 : arg12.IsWhole) (f7 : BufTy.Contents (Elt Ideal) arg7.view.ty) (f8 : BufTy.Contents (Elt Ideal) arg8.view.ty)
    (hs : ∀ p, 1 ≤ (arg8.view.read (Elt Ideal) f8 p).toNat ∧ (arg8.view.read (Elt Ideal) f8 p).toNat ≤ 254)
    (f11 : BufTy.Contents (Elt Ideal) arg11.view.ty) (f12 : BufTy.Contents (Elt Ideal) arg12.view.ty) :
    ∀ n ≤ k0_t2_loop.trips,
      (∀ p ∈ (pb_k0_t2 (F := Ideal) Variants.none c none i arg1 harg1 arg2 harg2 arg3 harg3 arg4 harg4 arg5 harg5 arg6 harg6 arg7 harg7 arg8 harg8 arg9 harg9 arg10 harg10 arg11 harg11 arg12 harg12 f7 f8 f11 f12 n).1, ∀ x : p.1.shape.Idx, p.2 x = GW (arg7.view.read (Elt Ideal) f7) (arg8.view.read (Elt Ideal) f8) (p.1.emb x))
      ∧ (∀ y : S1408x2816.Idx, (y 1).val < 256 * n → ∃ p ∈ (pb_k0_t2 (F := Ideal) Variants.none c none i arg1 harg1 arg2 harg2 arg3 harg3 arg4 harg4 arg5 harg5 arg6 harg6 arg7 harg7 arg8 harg8 arg9 harg9 arg10 harg10 arg11 harg11 arg12 harg12 f7 f8 f11 f12 n).1, y ∈ p.1.set)
  | 0, _ => ⟨fun p hp => absurd hp List.not_mem_nil, fun y hy => absurd hy (by omega)⟩
  | n + 1, hn => by
    obtain ⟨a, b⟩ := loop2 c i arg1 harg1 arg2 harg2 arg3 harg3 arg4 harg4 arg5 harg5 arg6 harg6 arg7 harg7 arg8 harg8 arg9 harg9 arg10 harg10 arg11 harg11 arg12 harg12 f7 f8 hs f11 f12 n (by omega)
    rw [pb_k0_t2_succ Variants.none c none i arg1 harg1 arg2 harg2 arg3 harg3 arg4 harg4 arg5 harg5 arg6 harg6 arg7 harg7 arg8 harg8 arg9 harg9 arg10 harg10 arg11 harg11 arg12 harg12 f7 f8 f11 f12 ⟨n, by omega⟩]
    obtain ⟨a', b'⟩ := trip2 c i arg1 harg1 arg2 harg2 arg3 harg3 arg4 harg4 arg5 harg5 arg6 harg6 arg7 harg7 arg8 harg8 arg9 harg9 arg10 harg10 arg11 harg11 arg12 harg12 f7 f8 hs ⟨n, by omega⟩ (arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 f7 f8 f11 f12 n).1)
      (arg12.view.writes (Elt Ideal) f12 (pb_k0_t2 (F := Ideal) Variants.none c none i arg1 harg1 arg2 harg2 arg3 harg3 arg4 harg4 arg5 harg5 arg6 harg6 arg7 harg7 arg8 harg8 arg9 harg9 arg10 harg10 arg11 harg11 arg12 harg12 f7 f8 f11 f12 n).2)
    refine ⟨fun p hp => ?_, fun y hy => ?_⟩
    · rcases List.mem_append.1 hp with q | q
      · exact a' p q
      · exact a p q
    · by_cases q : (y 1).val < 256 * n
      · obtain ⟨p, hp, hy⟩ := b y q
        exact ⟨p, List.mem_append.2 (Or.inr hp), hy⟩
      · obtain ⟨p, hp, hy⟩ := b' y (by simpa using q) (by simp only; omega)
        exact ⟨p, List.mem_append.2 (Or.inl hp), hy⟩

/-- The second loop leaves the codes times their scales. -/
theorem wOk : WOk (F := Ideal) WQ := by
  unfold WOk
  intro c i arg1 harg1 arg2 harg2 arg3 harg3 arg4 harg4 arg5 harg5 arg6 harg6 arg7 harg7 arg8 harg8 arg9 harg9 arg10 harg10 arg11 harg11 arg12 harg12 f7 f8 f11 f12 hs y
  obtain ⟨a, b⟩ := loop2 c i arg1 harg1 arg2 harg2 arg3 harg3 arg4 harg4 arg5 harg5 arg6 harg6 arg7 harg7 arg8 harg8 arg9 harg9 arg10 harg10 arg11 harg11 arg12 harg12 f7 f8 hs f11 f12 (Scf.trips k0_t2_loop.lb k0_t2_loop.ub k0_t2_loop.st) (le_refl k0_t2_loop.trips)
  refine View.read_writes_apply_of_pieces _ _ _ _ a y (b y ?_)
  have hy : (y 1).val < 2816 := (y 1).isLt
  have : Scf.trips k0_t2_loop.lb k0_t2_loop.ub k0_t2_loop.st = 11 := trips2
  omega

end Cert.KernelIdeal.Gen

end
-- ==== Proof.Final.lean ====
/- What the launch leaves in the result array. -/
module

public import proofs.«01_k».proof.Proof.StepValue
public import proofs.«01_k».proof.Proof.ValueX
public import proofs.«01_k».proof.Proof.ValueW
public import Idealize.ShloMosaic.Lib.Pipeline.TableIdle

@[expose] public section

set_option maxRecDepth 16384

noncomputable section

namespace Cert.KernelIdeal.Gen

open Idealize.ShloMosaic Idealize.ShloMosaic.TcCoe Idealize.SL.Sem Cert.KernelIdeal

variable [Facts]
variable (m : (ℓ : Loc nD τ sig) → Buf (Elt Ideal) ℓ) (ρ : Dev nD → PrngReg)

/-- A row of the tokens against a row of an expert's weights. -/
def Res (x : Vec Ideal S32768x1408 .bf16) (w : Vec Ideal S64x2816x1408 .fp8e4m3) (s : Vec Ideal S64x2816x44 .i8) (r : Fin 32768) (e : Fin 64) (q : Fin 2816) : EReal :=
  (∑ k : Fin 1408, (show EReal from x (ValueIdx.ix2 r k)) * ((show EReal from w (ValueIdx.ix3 e q k))
    * (((2 : ℝ) ^ (((s (ValueIdx.ix3 e q ⟨k.val / 32, by omega⟩)).toNat : ℤ) - 127) : ℝ) : EReal)) : EReal)

/-- The row `r` belongs to the expert `e`. -/
def Own (n : ℕ → ℕ) (e r : ℕ) : Prop := WorkList.S n e ≤ r ∧ r < WorkList.S n (e + 1)

variable {n : Nat → Nat} (hg : Sizes (m (0, main_arg1)) n) (hn : WorkList.S n 64 = 32768)
  (hx : Small .bf16 (show Vec Ideal S32768x1408 .bf16 from m (0, main_arg0)))
  (hs : ∀ p, 1 ≤ ((show Vec Ideal S64x2816x44 .i8 from m (0, main_arg3)) p).toNat ∧ ((show Vec Ideal S64x2816x44 .i8 from m (0, main_arg3)) p).toNat ≤ 254)

include hg hn

theorem wT_nat (t : Fin grid0.N) : (wT m 0 t).toNat = WorkList.T n (vis n t) := by
  have h1 := WorkList.T_lt n hn (visit_lt hg hn t.val)
  rw [wT_eq m hg hn t, BitVec.toNat_ofNat]
  exact Nat.mod_eq_of_lt (lt_trans h1 (by decide))

theorem wE_nat (t : Fin grid0.N) : (wE m 0 t).toNat = WorkList.E n (vis n t) := by
  have h1 := WorkList.E_lt (visit_lt hg hn t.val)
  rw [wE_eq m hg hn t, BitVec.toNat_ofNat]
  exact Nat.mod_eq_of_lt (lt_trans h1 (by decide))

theorem idx0 (hO : Ok m) (t : Fin (cfgM m hO).N) : ((cfgM m hO).win 3).index t (0 : Fin 2) = WorkList.T n (vis n t) :=
  (ix_tile (tbl m) (grid0.coords t) 3 (.inr rfl) (0 : Fin 2)).trans (wT_nat m hg hn t)

/-- A block is written back at the last point and where the row block changes. -/
theorem flush_iff (hO : Ok m) (t : Fin (cfgM m hO).N) : ((cfgM m hO).win 3).flush t = true
    ↔ (t.val + 1 = grid0.N ∨ ∃ h : t.val + 1 < grid0.N, WorkList.T n (vis n ⟨t.val + 1, h⟩) ≠ WorkList.T n (vis n t)) := by
  rw [Pipeline.Window.flush_eq_flushF]
  unfold Pipeline.Window.flushF
  have ho : ((cfgM m hO).win 3).isOut = true := rfl
  rw [ho, Bool.true_and, Bool.or_eq_true, decide_eq_true_iff, decide_eq_true_iff]
  refine or_congr Iff.rfl (exists_congr fun h => ⟨fun ⟨a, ha⟩ hc => ha ?_, fun hc => ⟨(0 : Fin 2), fun hi => hc ?_⟩⟩)
  · exact congrFun (idxT m hO 3 (.inr rfl) ⟨t.val + 1, h⟩ t (BitVec.eq_of_toNat_eq (by rw [wT_nat m hg hn, wT_nat m hg hn]; exact hc))) a
  · exact (idx0 m hg hn hO ⟨t.val + 1, h⟩).symm.trans (hi.trans (idx0 m hg hn hO t))

omit hg hn in
theorem fetch3 (hO : Ok m) (t : Fin (cfgM m hO).N) : ((cfgM m hO).win 3).fetch t = false := by
  rw [Pipeline.Window.fetch_eq_fetchF]
  unfold Pipeline.Window.fetchF
  have ho : ((cfgM m hO).win 3).isOut = true := rfl
  rw [ho]; rfl

variable {QX : Vec Ideal S256x1408 .bf16 → Vec Ideal S256x1408 .bf16 → Prop}
  {QW : Vec Ideal S1x2816x1408 .fp8e4m3 → Vec Ideal S1x2816x44 .i8 → Vec Ideal S1408x2816 .bf16 → Prop}

/-- Between two points of one row block the result block stays in place. -/
theorem prev_leaves (hO : Ok m) (t : Fin (cfgM m hO).N) (ht : t.val ≠ 0)
    (hT : WorkList.T n (vis n t) = WorkList.T n (vis n ⟨t.val - 1, Nat.lt_of_le_of_lt (Nat.sub_le _ _) t.isLt⟩)) (Y : Vec Ideal S256x2816 .bf16)
    (h : (rdat m QX QW hO 0).Finds 3 t Y) : (rdat m QX QW hO 0).Leaves 3 ⟨t.val - 1, Nat.lt_of_le_of_lt (Nat.sub_le _ _) t.isLt⟩ Y := by
  refine (((rdat m QX QW hO 0).finds_of_pos (fetch3 m hO t) ht Y).1 h).resolve_left fun hf => ?_
  have hlt : t.val < grid0.N := t.isLt
  have e : (⟨t.val - 1 + 1, by omega⟩ : Fin grid0.N) = t := Fin.ext (by show t.val - 1 + 1 = t.val; omega)
  rcases (flush_iff m hg hn hO _).1 hf with h1 | ⟨h1, h2⟩
  · have h3 : t.val - 1 + 1 = grid0.N := h1
    have h4 : t.val < grid0.N := t.isLt
    omega
  · exact h2 ((congrArg (fun u => WorkList.T n (vis n u)) e).trans hT)

/-- A block written back, read at a row of its own. -/
theorem write_in (hO : Ok m) (t : Fin (cfgM m hO).N) (G₀ : Vec Ideal S32768x2816 .bf16) (X : Vec Ideal S256x2816 .bf16) (l : Fin 256) (q : Fin 2816) (r : Fin 32768)
    (hr : r.val = WorkList.T n (vis n t) * 256 + l.val) :
    (show Vec Ideal S32768x2816 .bf16 from (((cfgM m hO).win 3).blk t).view.write (Elt Ideal) G₀ (((cfgM m hO).win 3).cut ((cfgM m hO).grid.coords t) X) Finset.univ) (ValueIdx.ix2 r q) = X (ValueIdx.ix2 l q) := by
  have he3 := emb3 m hO t l q
  rw [wT_nat m hg hn t] at he3
  have hemb : (((cfgM m hO).win 3).blk t).view.emb (ValueIdx.ix2 l q) = ValueIdx.ix2 r q := by
    refine funext fun a => Fin.ext ?_
    revert a; intro (a : Fin 2)
    match a with
    | ⟨0, _⟩ => exact he3.1.trans hr.symm
    | ⟨1, _⟩ => exact he3.2
  have hw := View.write_emb_of_mem (v := (((cfgM m hO).win 3).blk t).view) (Val := Elt Ideal) G₀ (((cfgM m hO).win 3).cut ((cfgM m hO).grid.coords t) X) (Finset.mem_univ (ValueIdx.ix2 l q))
  exact (congrArg (fun i => (((cfgM m hO).win 3).blk t).view.write (Elt Ideal) G₀ (((cfgM m hO).win 3).cut ((cfgM m hO).grid.coords t) X) Finset.univ i) hemb).symm.trans hw

/-- A block written back leaves the other rows. -/
theorem write_out (hO : Ok m) (t : Fin (cfgM m hO).N) (G₀ : Vec Ideal S32768x2816 .bf16) (X : Vec Ideal S256x2816 .bf16) (q : Fin 2816) (r : Fin 32768)
    (hr : r.val / 256 ≠ WorkList.T n (vis n t)) :
    (show Vec Ideal S32768x2816 .bf16 from (((cfgM m hO).win 3).blk t).view.write (Elt Ideal) G₀ (((cfgM m hO).win 3).cut ((cfgM m hO).grid.coords t) X) Finset.univ) (ValueIdx.ix2 r q) = G₀ (ValueIdx.ix2 r q) := by
  refine View.write_of_not_mem (v := (((cfgM m hO).win 3).blk t).view) (Val := Elt Ideal) G₀ (((cfgM m hO).win 3).cut ((cfgM m hO).grid.coords t) X) Finset.univ (i := ValueIdx.ix2 r q) ?_
  intro hc
  obtain ⟨y, -, hy⟩ := Finset.mem_map.1 hc
  have h7 := congrArg Fin.val (congrFun hy (0 : Fin 2))
  have h5 : r.val = WorkList.T n (vis n t) * 256 + (y (0 : Fin 2)).val :=
    h7.symm.trans ((Pipeline.Window.rect_emb_val ((cfgM m hO).win 3) t y (0 : Fin 2) rfl).trans (congrArg (fun z => z * 256 + (y (0 : Fin 2)).val) (idx0 m hg hn hO t)))
  have h6 : (y (0 : Fin 2)).val < 256 := (y (0 : Fin 2)).isLt
  omega

include hx hs

/-- A visit's product, in a row its expert owns. -/
theorem dot_res (hO : Ok m) (t : Fin (cfgM m hO).N) (g10 : Vec Ideal S256x1408 .bf16) (g11 : Vec Ideal S1408x2816 .bf16)
    (hH : Held m XQ WQ hO 0 t g10 g11) (l : Fin 256) (q : Fin 2816) (r : Fin 32768) (e : Fin 64)
    (hr : r.val = WorkList.T n (vis n t) * 256 + l.val) (he : e.val = WorkList.E n (vis n t)) :
    (∑ k : Fin 1408, (show EReal from g10 (ValueIdx.ix2 l k)) * (show EReal from g11 (ValueIdx.ix2 k q)) : EReal)
      = Res (m (0, main_arg0)) (m (0, main_arg2)) (m (0, main_arg3)) r e q := by
  obtain ⟨v0, -, v2, v3⟩ := V_args m 0
  rw [← wT_nat m hg hn t] at hr
  rw [← wE_nat m hg hn t] at he
  have hT : (wT m 0 t).toNat < 128 := by rw [wT_nat m hg hn t]; exact WorkList.T_lt n hn (visit_lt hg hn t.val)
  have hX : g10 = xBlk m hO 0 t := hH.1 fun j => by
    obtain ⟨y, hy, hb⟩ := hx (ValueIdx.ix2 (⟨(wT m 0 t).toNat * 256 + (j 0).val, by have : (j 0).val < 256 := (j 0).isLt; omega⟩ : Fin 32768) (j 1))
    refine ⟨y, ?_, hb⟩
    have hj : j = ValueIdx.ix2 (j 0) (j 1) := by
      funext a; match a with
      | ⟨0, _⟩ => rfl
      | ⟨1, _⟩ => rfl
    rw [hj]
    exact (xBlk_apply m hO t (j 0) (j 1) _ rfl).trans ((congrFun v0 _).trans hy)
  have hW : ∀ y, g11 y = GW (wBlk m hO 0 t) (sBlk m hO 0 t) y := hH.2 fun p => by
    have hp : p = ValueIdx.ix3 0 (p 1) (p 2) := by
      funext a; match a with
      | ⟨0, _⟩ => exact Subsingleton.elim (α := Fin 1) _ _
      | ⟨1, _⟩ => rfl
      | ⟨2, _⟩ => rfl
    have h := (congrArg (sBlk m hO 0 t) hp).trans ((sBlk_apply m hO t (p 1) (p 2) e he).trans (congrFun v3 _))
    rw [h]
    exact hs _
  unfold Res
  refine Finset.sum_congr rfl fun k _ => ?_
  rw [hX, hW]
  unfold GW
  refine congrArg₂ (· * ·) ((xBlk_apply m hO t l k r hr).trans (congrFun v0 _)) (congrArg₂ (· * ·) ((wBlk_apply m hO t q k e he).trans (congrFun v2 _)) ?_)
  refine congrArg (fun b : BitVec 8 => (((2 : ℝ) ^ ((b.toNat : ℤ) - 127) : ℝ) : EReal)) ?_
  exact (sBlk_apply m hO t q ⟨k.val / 32, by omega⟩ e he).trans (congrFun v3 _)

/-- After a point the result block holds the product in every row owned by the visits so far of its row block. -/
theorem leaves_ok (hO : Ok m) : ∀ (k : ℕ) (hk : k < (cfgM m hO).N) (X : Vec Ideal S256x2816 .bf16), (rdat m XQ WQ hO 0).Leaves 3 ⟨k, hk⟩ X →
    ∀ i, i ≤ vis n ⟨k, hk⟩ → WorkList.T n i = WorkList.T n (vis n ⟨k, hk⟩) → ∀ (l : Fin 256) (q : Fin 2816) (r : Fin 32768) (e : Fin 64),
      r.val = WorkList.T n (vis n ⟨k, hk⟩) * 256 + l.val → e.val = WorkList.E n i → Own n e.val r.val →
      (show EReal from X (ValueIdx.ix2 l q)) = Res (m (0, main_arg0)) (m (0, main_arg2)) (m (0, main_arg3)) r e q := by
  have hC := WorkList.C_gt hn
  intro k
  induction k with
  | zero =>
    intro hk X hX i hi hT l q r e hr he ho
    obtain ⟨Y, -, g10, g11, hH, hXe⟩ := hX
    have hv : vis n ⟨0, hk⟩ = 0 := Nat.zero_min _
    have hi0 : i = vis n ⟨0, hk⟩ := by omega
    have hTl : WorkList.T n (vis n ⟨0, hk⟩) < 128 := WorkList.T_lt n hn (visit_lt hg hn 0)
    have hE1 : WorkList.E n (vis n ⟨0, hk⟩) + 1 ≤ 64 := WorkList.E_lt (visit_lt hg hn 0)
    rw [hXe, wLive_eq m hg hn, if_pos hC, wT_eq m hg hn, wLo_eq m hg hn, wHi_eq m hg hn]
    refine (stepOut_live (WorkList.S_le hn (by omega)) (WorkList.S_le hn hE1) hTl g10 g11 Y l q).trans ?_
    rw [if_pos (by rw [← hr, ← hi0, ← he]; exact ho)]
    exact dot_res m hg hn hx hs hO ⟨0, hk⟩ g10 g11 hH l q r e hr (he.trans (congrArg _ hi0))
  | succ k ih =>
    intro hk X hX i hi hT l q r e hr he ho
    obtain ⟨Y, hF, g10, g11, hH, hXe⟩ := hX
    have hk' : k < (cfgM m hO).N := Nat.lt_of_succ_lt hk
    by_cases hl : k + 1 < WorkList.C n 64
    · have hv : vis n ⟨k + 1, hk⟩ = k + 1 := Nat.min_eq_left (by show k + 1 ≤ _; omega)
      have hv' : vis n ⟨k, hk'⟩ = k := Nat.min_eq_left (by show k ≤ _; omega)
      have hTl : WorkList.T n (vis n ⟨k + 1, hk⟩) < 128 := WorkList.T_lt n hn (visit_lt hg hn (k + 1))
      have hE1 : WorkList.E n (vis n ⟨k + 1, hk⟩) + 1 ≤ 64 := WorkList.E_lt (visit_lt hg hn (k + 1))
      rw [hXe, wLive_eq m hg hn, if_pos hl, wT_eq m hg hn, wLo_eq m hg hn, wHi_eq m hg hn]
      refine (stepOut_live (WorkList.S_le hn (by omega)) (WorkList.S_le hn hE1) hTl g10 g11 Y l q).trans ?_
      by_cases hown : Own n (WorkList.E n (vis n ⟨k + 1, hk⟩)) r.val
      · rw [if_pos (by rw [← hr]; exact hown)]
        exact dot_res m hg hn hx hs hO ⟨k + 1, hk⟩ g10 g11 hH l q r e hr (WorkList.owner_unique n ho.1 ho.2 hown.1 hown.2)
      · rw [if_neg (by rw [← hr]; exact hown)]
        have hik : i ≤ k := by
          by_contra hc
          have : i = vis n ⟨k + 1, hk⟩ := by omega
          exact hown (by rw [← this, ← he]; exact ho)
        have h1 := WorkList.T_mono n hik (show k < WorkList.C n 64 by omega)
        have h2 := WorkList.T_mono n (Nat.le_succ k) hl
        have hTk : WorkList.T n (vis n ⟨k + 1, hk⟩) = WorkList.T n (vis n ⟨k, hk'⟩) := by
          rw [hv] at hT ⊢; rw [hv']; exact le_antisymm (hT ▸ h1) h2
        have hL := prev_leaves m hg hn hO ⟨k + 1, hk⟩ (Nat.succ_ne_zero k) hTk Y hF
        exact ih hk' Y hL i (by rw [hv']; exact hik) (hT.trans hTk) l q r e (by rw [← hTk]; exact hr) he ho
    · have hv : vis n ⟨k + 1, hk⟩ = vis n ⟨k, hk'⟩ := (Nat.min_eq_right (show WorkList.C n 64 - 1 ≤ k + 1 by omega)).trans (Nat.min_eq_right (show WorkList.C n 64 - 1 ≤ k by omega)).symm
      have hTk : WorkList.T n (vis n ⟨k + 1, hk⟩) = WorkList.T n (vis n ⟨k, hk'⟩) := congrArg _ hv
      have hL := prev_leaves m hg hn hO ⟨k + 1, hk⟩ (Nat.succ_ne_zero k) hTk Y hF
      rw [hXe, wLive_eq m hg hn, if_neg hl]
      refine Eq.trans (congrFun (stepOut_dead _ _ _ g10 g11 Y) _) ?_
      exact ih hk' Y hL i (by rw [← hv]; exact hi) (hT.trans hTk) l q r e (by rw [← hTk]; exact hr) he ho

set_option maxHeartbeats 1000000 in
/-- The array after the first points: right in every row of a row block already written back. -/
theorem arr_ok (hO : Ok m) : ∀ (k : ℕ) (G : Vec Ideal S32768x2816 .bf16), (rdat m XQ WQ hO 0).ArrAt 3 k G →
    ∀ i, i < WorkList.C n 64 → (∃ u : Fin (cfgM m hO).N, u.val < k ∧ ((cfgM m hO).win 3).flush u = true ∧ WorkList.T n (vis n u) = WorkList.T n i) →
      ∀ (q : Fin 2816) (r : Fin 32768) (e : Fin 64), r.val / 256 = WorkList.T n i → e.val = WorkList.E n i → Own n e.val r.val →
      (show EReal from G (ValueIdx.ix2 r q)) = Res (m (0, main_arg0)) (m (0, main_arg2)) (m (0, main_arg3)) r e q := by
  intro k
  induction k with
  | zero => rintro G - i - ⟨u, hu, -⟩; exact absurd hu (Nat.not_lt_zero _)
  | succ k ih =>
    intro G hG i hi hu q r e hr he ho
    have hprev : ∀ G', (rdat m XQ WQ hO 0).ArrAt 3 k G' → (∀ hk : k < (cfgM m hO).N, ((cfgM m hO).win 3).flush ⟨k, hk⟩ = true → WorkList.T n (vis n ⟨k, hk⟩) ≠ WorkList.T n i) →
        (show EReal from (show Vec Ideal S32768x2816 .bf16 from G') (ValueIdx.ix2 r q)) = Res (m (0, main_arg0)) (m (0, main_arg2)) (m (0, main_arg3)) r e q := by
      intro G' hG' hne
      obtain ⟨u, h1, h2, h3⟩ := hu
      refine ih G' hG' i hi ⟨u, ?_, h2, h3⟩ q r e hr he ho
      by_contra hc
      have hk : u.val = k := by omega
      exact hne (hk ▸ u.isLt) (by subst hk; exact h2) (by subst hk; exact h3)
    by_cases hk : k < (cfgM m hO).N
    · have hG2 : if ((cfgM m hO).win 3).flush ⟨k, hk⟩ = true then (rdat m XQ WQ hO 0).ArrStep 3 ⟨k, hk⟩ ((rdat m XQ WQ hO 0).ArrAt 3 k) G else (rdat m XQ WQ hO 0).ArrAt 3 k G := by
        have h := hG
        unfold Pipeline.RDat.ArrAt at h
        simp only [dif_pos hk] at h
        by_cases hf : ((cfgM m hO).win 3).flush ⟨k, hk⟩ = true
        · rw [if_pos hf]; rw [if_pos hf] at h; exact h
        · rw [if_neg hf]; rw [if_neg hf] at h; exact h
      by_cases hf : ((cfgM m hO).win 3).flush ⟨k, hk⟩ = true
      · rw [if_pos hf] at hG2
        obtain ⟨G₀, X, hG₀, hL, rfl⟩ := hG2
        by_cases hT : WorkList.T n (vis n ⟨k, hk⟩) = WorkList.T n i
        · have hik : i ≤ vis n ⟨k, hk⟩ := by
            by_contra hc
            have hv : vis n ⟨k, hk⟩ = min k (WorkList.C n 64 - 1) := rfl
            have hle := WorkList.C_le hn
            have hN : grid0.N = 191 := N_eq
            rcases (flush_iff m hg hn hO _).1 hf with h1 | ⟨h1, h2⟩
            · have h3 : k + 1 = grid0.N := h1
              omega
            · have hv2 : vis n ⟨k + 1, h1⟩ = min (k + 1) (WorkList.C n 64 - 1) := rfl
              have e1 : vis n ⟨k, hk⟩ = k := by omega
              have e2 : vis n ⟨k + 1, h1⟩ = k + 1 := by omega
              have a1 := WorkList.T_mono n (Nat.le_succ k) (show k + 1 < WorkList.C n 64 by omega)
              have a2 := WorkList.T_mono n (show k + 1 ≤ i by omega) hi
              rw [e1] at hT
              refine h2 ?_
              show WorkList.T n (vis n ⟨k + 1, h1⟩) = WorkList.T n (vis n ⟨k, hk⟩)
              rw [e1, e2]
              exact le_antisymm (hT ▸ a2) a1
          have hl : r.val % 256 < 256 := Nat.mod_lt _ (by decide)
          have hr' : r.val = WorkList.T n (vis n ⟨k, hk⟩) * 256 + (⟨r.val % 256, hl⟩ : Fin 256).val := by rw [hT, ← hr]; show r.val = r.val / 256 * 256 + r.val % 256; omega
          exact (write_in m hg hn hO ⟨k, hk⟩ G₀ X ⟨r.val % 256, hl⟩ q r hr').trans (leaves_ok m hg hn hx hs hO k hk X hL i hik hT.symm ⟨r.val % 256, hl⟩ q r e hr' he ho)
        · exact (write_out m hg hn hO ⟨k, hk⟩ G₀ X q r (fun hc => hT (hc.symm.trans hr))).trans (hprev G₀ hG₀ fun _ _ => hT)
      · rw [if_neg hf] at hG2
        exact hprev G hG2 fun hk' hf' => absurd hf' hf
    · have h := hG
      unfold Pipeline.RDat.ArrAt at h
      simp only [dif_neg hk] at h
      exact hprev G h fun hk' _ => absurd hk' hk

omit hx hs in
/-- Every visit's row block is written back at some point. -/
theorem flushed (hO : Ok m) (i : ℕ) (hi : i < WorkList.C n 64) :
    ∃ u : Fin (cfgM m hO).N, ((cfgM m hO).win 3).flush u = true ∧ WorkList.T n (vis n u) = WorkList.T n i := by
  have hN : grid0.N = 191 := N_eq
  have key : ∀ d (u : Fin grid0.N), u.val + d + 1 = grid0.N → ∃ u' : Fin (cfgM m hO).N, ((cfgM m hO).win 3).flush u' = true ∧ WorkList.T n (vis n u') = WorkList.T n (vis n u) := by
    intro d
    induction d with
    | zero => intro u hu; exact ⟨u, (flush_iff m hg hn hO u).2 (.inl hu), rfl⟩
    | succ d ih =>
      intro u hu
      by_cases hf : ((cfgM m hO).win 3).flush u = true
      · exact ⟨u, hf, rfl⟩
      · have h1 : u.val + 1 < grid0.N := by omega
        have h2 : WorkList.T n (vis n ⟨u.val + 1, h1⟩) = WorkList.T n (vis n u) := by
          by_contra hc
          exact hf ((flush_iff m hg hn hO u).2 (.inr ⟨h1, hc⟩))
        obtain ⟨u', a, b⟩ := ih ⟨u.val + 1, h1⟩ (by show u.val + 1 + d + 1 = _; omega)
        exact ⟨u', a, b.trans h2⟩
  have hle := WorkList.C_le hn
  obtain ⟨u, a, b⟩ := key (190 - i) ⟨i, by omega⟩ (by show i + (190 - i) + 1 = _; omega)
  exact ⟨u, a, b.trans (congrArg _ (Nat.min_eq_left (by show i ≤ _; omega)))⟩

/-- Every run ends with each row the product against its owner's weights, the arguments unchanged. -/
theorem run_value : θ_run defs (onTc (τ := τ) (main (F := Ideal))) ⟨m, fun _ => 0, ρ⟩ (fun r =>
      (∀ (r' : Fin 32768) (q : Fin 2816) (e : Fin 64), Own n e.val r'.val →
        (show EReal from (show Vec Ideal S32768x2816 .bf16 from r.2.mem (((0 : Dev nD).tc : Thread nD τ).loc main_v65)) (ValueIdx.ix2 r' q)) = Res (m (0, main_arg0)) (m (0, main_arg2)) (m (0, main_arg3)) r' e q)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hO := ok m hg hn
  refine (θ_run defs _ _).mono (fun r h => ⟨?_, frame_of m hO h.1⟩) (run m ρ (QX := XQ) (QW := WQ) xOk wOk hO)
  intro r' q e ho
  obtain ⟨j, hj, hE, hT⟩ := WorkList.cover n e.isLt ho.1 ho.2
  obtain ⟨u, a, b⟩ := flushed m hg hn hO j hj
  exact arr_ok m hg hn hx hs hO (cfgM m hO).N _ ((h.1 0).1 3) j hj ⟨u, u.isLt, a, b⟩ q r' e hT.symm hE.symm ho

end Cert.KernelIdeal.Gen
-- ==== Proof.Bound.lean ====
/- The bound on the tokens that the precondition gives. -/
module

public import proofs.«01_k».proof.Proof.Pre
public import proofs.«01_k».proof.Proof.FloatWords

@[expose] public section

set_option maxRecDepth 16384

noncomputable section

namespace Cert.Pre_valid

open Idealize.ShloMosaic Idealize.ShloMosaic.Routing Idealize.ShloMosaic.ValueIdx

/-- The magnitude the precondition allows: the greatest finite value of the tokens' format. -/
theorem top_word : (Ideal.ofBits .f32 0x7F7F0000#32 : EReal) = ((255 / 128 * (2 : ℝ) ^ (127 : ℤ) : ℝ) : EReal) := by
  have a : (BitVec.extractLsb' 31 1 (0x7F7F0000#32) == 1#1) = false := by decide
  have b : (BitVec.extractLsb' 23 8 (0x7F7F0000#32)).toNat = 254 := by decide
  have c : (BitVec.extractLsb' 0 23 (0x7F7F0000#32)).toNat = 8323072 := by decide
  show Ideal.ieee 8 23 (0x7F7F0000#32) = _
  unfold Ideal.ieee
  simp only [a, b, c]
  rw [if_neg (by omega), if_neg (by omega)]
  congr 1
  norm_num

/-- Accepted tokens are reals of bounded magnitude. -/
theorem small (x : FVec Ideal S32768x1408 .bf16)
    (h : ∀ i, FloatOps.cmpf .ole (Host.absf (extf .f32 x (by decide)) i) (constant (F := Ideal) S_ .f32 0x7F7F0000#32 ix0) = 1#1) :
    ∀ i, ∃ y : ℝ, (show EReal from x i) = (y : EReal) ∧ |y| < 7 / 4 * (2 : ℝ) ^ (128 : ℤ) := by
  intro i
  have h1 := h i
  generalize hv : (show EReal from x i) = v
  have h2 : max v (-v) ≤ ((255 / 128 * (2 : ℝ) ^ (127 : ℤ) : ℝ) : EReal) := by
    rw [← top_word, ← hv]
    by_contra hc
    have h3 : FloatOps.cmpf .ole (Host.absf (extf .f32 x (by decide)) i) (constant (F := Ideal) S_ .f32 0x7F7F0000#32 ix0) = 0#1 := congrArg BitVec.ofBool (decide_eq_false hc)
    rw [h3] at h1
    exact absurd h1 (by decide)
  induction v using EReal.rec with
  | bot => exact absurd (le_trans (le_max_right _ _) h2) (by rw [EReal.neg_bot]; exact not_le.2 (EReal.coe_lt_top _))
  | top => exact absurd (le_trans (le_max_left _ _) h2) (not_le.2 (EReal.coe_lt_top _))
  | coe y =>
    refine ⟨y, rfl, ?_⟩
    rw [← EReal.coe_neg] at h2
    have a : y ≤ 255 / 128 * (2 : ℝ) ^ (127 : ℤ) := EReal.coe_le_coe_iff.1 (le_trans (le_max_left _ _) h2)
    have b : -y ≤ 255 / 128 * (2 : ℝ) ^ (127 : ℤ) := EReal.coe_le_coe_iff.1 (le_trans (le_max_right _ _) h2)
    have c : (255 / 128 * (2 : ℝ) ^ (127 : ℤ)) < 7 / 4 * (2 : ℝ) ^ (128 : ℤ) := by norm_num
    exact lt_of_le_of_lt (abs_le.2 ⟨by linarith, a⟩) c

end Cert.Pre_valid
-- ==== Proof.RefQuant.lean ====
/- The reference's own arithmetic on one number: its codes times their scale are the number. -/
module

public import proofs.«01_k».proof.Proof.Gen.ReferenceIdeal.Value
public import proofs.«01_k».proof.Proof.FloatWords
public import Idealize.ShloMosaic.Lib.Pointwise
public import Idealize.ShloMosaic.Lib.WordSum

@[expose] public section

noncomputable section

namespace Cert.ReferenceIdeal.Gen

open Idealize.ShloMosaic Idealize.ShloMosaic.TcCoe Idealize.SL.Sem Cert.ReferenceIdeal Cert.FloatWords

/-- How many of the powers of two from 2⁻¹²⁶ to 2¹²⁷ a number reaches. -/
def reach (q : ℝ) : ℕ := ∑ i : Fin 254, if (2 : ℝ) ^ ((i.val : ℤ) - 126) ≤ q then 1 else 0

theorem reach_le (q : ℝ) : reach q ≤ 254 := by
  unfold reach
  calc _ ≤ ∑ i : Fin 254, 1 := Finset.sum_le_sum fun i _ => by split <;> omega
    _ = 254 := by simp

theorem lt_of_reach (q : ℝ) (h : reach q < 254) : q < (2 : ℝ) ^ ((reach q : ℤ) - 126) := by
  by_contra hc
  rw [not_lt] at hc
  have h1 : ∑ i : Fin 254, (if i.val ≤ reach q then 1 else 0) ≤ reach q := by
    conv_rhs => unfold reach
    refine Finset.sum_le_sum fun i _ => ?_
    by_cases hi : i.val ≤ reach q
    · rw [if_pos hi, if_pos (le_trans (zpow_le_zpow_right₀ (by norm_num) (by omega)) hc)]
    · rw [if_neg hi]; omega
  rw [Finset.sum_boole] at h1
  have h2 : (Finset.univ.filter fun i : Fin 254 => i.val ≤ reach q).card = reach q + 1 := by
    have : (Finset.univ.filter fun i : Fin 254 => i.val ≤ reach q) = Finset.Iic (⟨reach q, h⟩ : Fin 254) := by
      ext i; simp [Fin.le_def]
    rw [this, Fin.card_Iic]
  simp only [Nat.cast_id] at h1
  omega

theorem word_back : ∀ i : Fin 255, (BitVec.ofInt 32 ((i.val : ℤ) - 126)).toInt = (i.val : ℤ) - 126
    ∧ (IntOp.subi (BitVec.setWidth 32 (BitVec.setWidth 8 (IntOp.addi (BitVec.ofInt 32 ((i.val : ℤ) - 126)) 127#32))) 127#32).toInt = (i.val : ℤ) - 126 := by
  decide +kernel

theorem word_count : ∀ i : Fin 255, IntOp.subi (BitVec.ofNat 32 i.val) 126#32 = BitVec.ofInt 32 ((i.val : ℤ) - 126) := by decide +kernel

theorem exp2_int (z : ℤ) : FloatOps.exp2 (F := Ideal) (φ := .f32) (((z : ℝ) : EReal) : Ideal .f32) = (((2 : ℝ) ^ z : ℝ) : EReal) := by
  show Ideal.exp2 ((z : ℝ) : EReal) = _
  rw [Ideal.exp2_coe, Real.rpow_eq_pow, Real.rpow_intCast]

theorem exp2_word (w : BitVec 32) : FloatOps.exp2 (F := Ideal) (φ := .f32) (FloatOps.sitofp .f32 w) = (((2 : ℝ) ^ w.toInt : ℝ) : EReal) := exp2_int _

theorem exp2_neg (w : BitVec 32) : FloatOps.exp2 (F := Ideal) (φ := .f32) ((0 : EReal) - (show EReal from FloatOps.sitofp (F := Ideal) .f32 w) : EReal) = (((2 : ℝ) ^ (-w.toInt) : ℝ) : EReal) := by
  rw [← exp2_int, Int.cast_neg, EReal.coe_neg, zero_sub]
  rfl

theorem f32_126 : Ideal.ofBits .f32 0x42FC0000#32 = ((126 : ℝ) : EReal) := by
  have a : (BitVec.extractLsb' 31 1 (0x42FC0000#32) == 1#1) = false := by decide
  have b : (BitVec.extractLsb' 23 8 (0x42FC0000#32)).toNat = 133 := by decide
  have c : (BitVec.extractLsb' 0 23 (0x42FC0000#32)).toNat = 8126464 := by decide
  show Ideal.ieee 8 23 (0x42FC0000#32) = _
  unfold Ideal.ieee
  simp only [a, b, c]
  rw [if_neg (by omega), if_neg (by omega)]
  congr 1
  norm_num

theorem f32_recip : Ideal.ofBits .f32 0x3B124925#32 = ((9586981 / 2 ^ 32 : ℝ) : EReal) := by
  have a : (BitVec.extractLsb' 31 1 (0x3B124925#32) == 1#1) = false := by decide
  have b : (BitVec.extractLsb' 23 8 (0x3B124925#32)).toNat = 118 := by decide
  have c : (BitVec.extractLsb' 0 23 (0x3B124925#32)).toNat = 1198373 := by decide
  show Ideal.ieee 8 23 (0x3B124925#32) = _
  unfold Ideal.ieee
  simp only [a, b, c]
  rw [if_neg (by omega), if_neg (by omega)]
  congr 1
  norm_num

theorem f32_bot : Ideal.ofBits FTy.f32 4286578688#32 = (⊥ : EReal) := by
  have a : (BitVec.extractLsb' 31 1 (4286578688#32) == 1#1) = true := by decide
  have b : (BitVec.extractLsb' 23 8 (4286578688#32)).toNat = 255 := by decide
  have c : (BitVec.extractLsb' 0 23 (4286578688#32)).toNat = 0 := by decide
  show Ideal.ieee 8 23 (4286578688#32) = _
  unfold Ideal.ieee
  simp only [a, b, c]
  rw [if_pos (by norm_num)]
  simp

/-- Clipping changes nothing when the scale is large enough, and the scale undoes itself. -/
theorem undo (y : ℝ) (i : Fin 255) (h : |y| ≤ 448 * (2 : ℝ) ^ ((i.val : ℤ) - 126)) (w : BitVec 32) (hw : w = BitVec.ofInt 32 ((i.val : ℤ) - 126)) :
    (min (Ideal.ofBits FTy.f32 1138753536#32) (max (Ideal.ofBits FTy.f32 3286237184#32)
        ((y : EReal) * (show EReal from FloatOps.exp2 (F := Ideal) (φ := .f32) ((0 : EReal) - (show EReal from FloatOps.sitofp (F := Ideal) .f32 w) : EReal)))) : EReal)
      * (show EReal from FloatOps.exp2 (F := Ideal) (φ := .f32) (FloatOps.sitofp .f32 (IntOp.subi (BitVec.setWidth 32 (BitVec.setWidth 8 (IntOp.addi w 127#32))) 127#32)))
    = (y : EReal) := by
  rw [exp2_neg, exp2_word, hw, (word_back i).1, (word_back i).2, f32_448, f32_neg448]
  dsimp only
  have hp : (0 : ℝ) < (2 : ℝ) ^ ((i.val : ℤ) - 126) := by positivity
  have hb : |y * (2 : ℝ) ^ (-((i.val : ℤ) - 126))| ≤ 448 := by
    rw [abs_mul, zpow_neg, abs_of_pos (inv_pos.2 hp), ← div_eq_mul_inv, div_le_iff₀ hp]; exact h
  have hb' := abs_le.1 hb
  rw [show ((y : EReal) * (((2 : ℝ) ^ (-((i.val : ℤ) - 126)) : ℝ) : EReal)) = ((y * (2 : ℝ) ^ (-((i.val : ℤ) - 126)) : ℝ) : EReal) from (EReal.coe_mul _ _).symm]
  rw [max_eq_right (EReal.coe_le_coe_iff.2 hb'.1), min_eq_right (EReal.coe_le_coe_iff.2 hb'.2)]
  refine (EReal.coe_mul _ _).symm.trans ?_
  rw [mul_assoc, ← zpow_add₀ (by norm_num : (2 : ℝ) ≠ 0), neg_add_cancel, zpow_zero, mul_one]

/-- The bound the count of powers gives. -/
theorem reach_bound (A c : ℝ) (hc : 1 ≤ 448 * c) (h0 : 0 ≤ A) (hA : A < 7 / 4 * (2 : ℝ) ^ (128 : ℤ)) :
    A ≤ 448 * (2 : ℝ) ^ ((reach (A * c) : ℤ) - 126) := by
  by_cases hr : reach (A * c) < 254
  · have h1 := lt_of_reach _ hr
    have e : A ≤ 448 * (A * c) := by
      calc A = 1 * A := (one_mul A).symm
        _ ≤ (448 * c) * A := mul_le_mul_of_nonneg_right hc h0
        _ = _ := by ring
    exact e.trans (mul_le_mul_of_nonneg_left h1.le (by norm_num))
  · have e : reach (A * c) = 254 := le_antisymm (reach_le _) (not_lt.1 hr)
    rw [e]
    have e2 : (((254 : ℕ) : ℤ) - 126) = 128 := by norm_num
    rw [e2]
    refine hA.le.trans (mul_le_mul_of_nonneg_right (by norm_num) (by positivity))

variable [Facts]

theorem peak_read (X : FVec Ideal S32768x44x32 .f32) (r : Fin 32768) (g : Fin 44) :
    multiReduction .maximumf [2] S32768x44 X 0xFF800000#32 reduces_S32768x44x32_S32768x44 (.inl rfl) rfl (ValueIdx.ix2 r g)
      = (Finset.univ : Finset (Fin 32)).fold (max : EReal → EReal → EReal) (Ideal.ofBits FTy.f32 4286578688#32) fun x => X (ValueIdx.ix3 r g x) := by
  pointwise
  rfl

theorem count_read (X : IVec S32768x44x254 32) (hX : ∀ i, (X i).toNat ≤ 1) (r : Fin 32768) (g : Fin 44) :
    (multiReductionI .add [2] S32768x44 X 0#32 reduces_S32768x44x254_S32768x44 rfl (ValueIdx.ix2 r g)).toNat
      = ∑ i : Fin 254, (X (ValueIdx.ix3 r g i)).toNat := by
  have e : ∑ i ∈ Finset.univ.filter (fun i => reduces_S32768x44x254_S32768x44.drop i = ValueIdx.ix2 r g), (X i).toNat = ∑ i : Fin 254, (X (ValueIdx.ix3 r g i)).toNat := by
    symm
    refine Finset.sum_bij (fun i _ => ValueIdx.ix3 r g i) ?_ ?_ ?_ ?_
    · intro i _
      rw [Finset.mem_filter]
      refine ⟨Finset.mem_univ _, ?_⟩
      funext a; apply Fin.ext
      match a with
      | ⟨0, _⟩ => exact reduces_S32768x44x254_S32768x44.drop_apply_val_of_eq _ 0 0
      | ⟨1, _⟩ => exact reduces_S32768x44x254_S32768x44.drop_apply_val_of_eq _ 1 1
    · intro i _ j _ h; exact congrFun h 2
    · intro y hy
      rw [Finset.mem_filter] at hy
      refine ⟨y 2, Finset.mem_univ _, ?_⟩
      have h0 : (y 0).val = r.val := (reduces_S32768x44x254_S32768x44.drop_apply_val_of_eq y 0 0).symm.trans (congrArg Fin.val (congrFun hy.2 0))
      have h1 : (y 1).val = g.val := (reduces_S32768x44x254_S32768x44.drop_apply_val_of_eq y 1 1).symm.trans (congrArg Fin.val (congrFun hy.2 1))
      funext a; apply Fin.ext
      match a with
      | ⟨0, _⟩ => exact h0.symm
      | ⟨1, _⟩ => exact h1.symm
      | ⟨2, _⟩ => rfl
    · intro i _; rfl
  rw [← e]
  refine WordSum.toNat_multiReductionI_add X _ _ _ ?_
  rw [e]
  calc _ ≤ ∑ i : Fin 254, 1 := Finset.sum_le_sum fun i _ => hX _
    _ < 2 ^ 32 := by simp

theorem test_read (A : FVec Ideal S32768x44 .f32) (r : Fin 32768) (g : Fin 44) (i : Fin 254) :
   extui 32 (cmpf .oge (broadcastTo S32768x44x254 (shapeCast S32768x44x1 (mulf A (broadcast S32768x44 (Scalar.ofBits .f32 0x3B124925#32))) shapeCasts_S32768x44_S32768x44x1) broadcasts_S32768x44x1_S32768x44x254) (exp2 (subf (sitofp .f32 (iota .tc S32768x44x254 32 [2] iota_S32768x44x254_d2_w32)) (broadcast S32768x44x254 (Scalar.ofBits .f32 0x42FC0000#32))))) natLt_1_32 (ValueIdx.ix3 r g i)
    = BitVec.setWidth 32 (BitVec.ofBool (decide ((show EReal from FloatOps.exp2 (F := Ideal) (φ := .f32) ((show EReal from FloatOps.sitofp (F := Ideal) .f32 (BitVec.ofNat 32 i.val)) - Ideal.ofBits FTy.f32 1123811328#32 : EReal)) ≤ (show EReal from A (ValueIdx.ix2 r g)) * Ideal.ofBits FTy.f32 991054117#32))) := by
  pointwise
  rfl

end Cert.ReferenceIdeal.Gen
-- ==== Proof.RefPoint.lean ====
/- What the reference's body computes, read at an index. -/
module

public import proofs.«01_k».proof.Proof.RefQuant
public import proofs.«01_k».proof.Proof.WorkList
public import Idealize.ShloMosaic.Lib.Routing.Words

@[expose] public section

noncomputable section

namespace Cert.ReferenceIdeal.Gen

open Idealize.ShloMosaic Idealize.ShloMosaic.TcCoe Idealize.SL.Sem Cert.ReferenceIdeal Cert.FloatWords

variable [Facts]

/-- The greatest magnitude of each group. -/
def peak (v0 : Vec Ideal S32768x1408 .bf16) : FVec Ideal S32768x44 .f32 :=
  multiReduction .maximumf [2] S32768x44 (absf (k0_pay2 v0)) 0xFF800000#32 reduces_S32768x44x32_S32768x44 (.inl rfl) rfl

/-- Which powers of two each group reaches. -/
def tests (A : FVec Ideal S32768x44 .f32) : IVec S32768x44x254 32 :=
  extui 32 (cmpf .oge (broadcastTo S32768x44x254 (shapeCast S32768x44x1 (mulf A (broadcast S32768x44 (Scalar.ofBits .f32 0x3B124925#32))) shapeCasts_S32768x44_S32768x44x1) broadcasts_S32768x44x1_S32768x44x254) (exp2 (subf (sitofp .f32 (iota .tc S32768x44x254 32 [2] iota_S32768x44x254_d2_w32)) (broadcast S32768x44x254 (Scalar.ofBits .f32 0x42FC0000#32))))) natLt_1_32

/-- How many of them. -/
def counts (X : IVec S32768x44x254 32) : IVec S32768x44 32 := multiReductionI .add [2] S32768x44 X 0#32 reduces_S32768x44x254_S32768x44 rfl

theorem pay3_eq (v0 : Vec Ideal S32768x1408 .bf16) :
    k0_pay3 v0 = select (cmpf .oeq (peak v0) (broadcast S32768x44 (Scalar.ofBits .f32 0x00000000#32))) (broadcast S32768x44 0#32) (subi (counts (tests (peak v0))) (broadcast S32768x44 126#32)) := by
  unfold k0_pay3 counts tests peak
  rfl

theorem choice_apply (P : FVec Ideal S32768x44 .f32) (C : IVec S32768x44 32) (j : S32768x44.Idx) :
    select (cmpf .oeq P (broadcast S32768x44 (Scalar.ofBits .f32 0x00000000#32))) (broadcast S32768x44 0#32) (subi C (broadcast S32768x44 126#32)) j
      = Scalar.select (FloatOps.cmpf .oeq (P j) (Scalar.ofBits .f32 0x00000000#32)) 0#32 (IntOp.subi (C j) 126#32) := rfl

theorem pay3_apply (v0 : Vec Ideal S32768x1408 .bf16) (j : S32768x44.Idx) :
    k0_pay3 v0 j = Scalar.select (FloatOps.cmpf .oeq (peak v0 j) (Scalar.ofBits .f32 0x00000000#32)) 0#32 (IntOp.subi (counts (tests (peak v0)) j) 126#32) := by
  rw [pay3_eq, choice_apply]

theorem pay2_apply (v0 : Vec Ideal S32768x1408 .bf16) (r : Fin 32768) (g : Fin 44) (l : Fin 32) :
    k0_pay2 v0 (ValueIdx.ix3 r g l) = v0 (ValueIdx.ix2 r ⟨g.val * 32 + l.val, by omega⟩) := by
  pointwise [k0_pay2]
  rfl

/-- Every entry a number well inside the range. -/
def Bounded (v0 : Vec Ideal S32768x1408 .bf16) : Prop := ∀ i, ∃ y : ℝ, v0 i = (y : EReal) ∧ |y| < 7 / 4 * (2 : ℝ) ^ (128 : ℤ)

theorem mag (X : FVec Ideal S32768x44x32 .f32) (i : S32768x44x32.Idx) (y : ℝ) (h : X i = (y : EReal)) : absf X i = ((|y| : ℝ) : EReal) := by
  show max (α := EReal) (X i) (-(show EReal from X i)) = _
  rw [h]
  show max ((y : ℝ) : EReal) (-(y : EReal)) = _
  rw [← EReal.coe_neg, abs_eq_max_neg]
  exact (EReal.coe_strictMono.monotone.map_max).symm

theorem peak_val {v0 : Vec Ideal S32768x1408 .bf16} (hx : Bounded v0) (r : Fin 32768) (g : Fin 44) :
    ∃ A : ℝ, peak v0 (ValueIdx.ix2 r g) = (A : EReal) ∧ 0 ≤ A ∧ A < 7 / 4 * (2 : ℝ) ^ (128 : ℤ)
      ∧ ∀ (l : Fin 32) (y : ℝ), v0 (ValueIdx.ix2 r ⟨g.val * 32 + l.val, by omega⟩) = (y : EReal) → |y| ≤ A := by
  have hm : ∀ (l : Fin 32) (y : ℝ), v0 (ValueIdx.ix2 r ⟨g.val * 32 + l.val, by omega⟩) = (y : EReal) → absf (k0_pay2 v0) (ValueIdx.ix3 r g l) = ((|y| : ℝ) : EReal) :=
    fun l y h => mag _ _ y ((pay2_apply v0 r g l).trans h)
  have hp : peak v0 (ValueIdx.ix2 r g) = _ := peak_read (absf (k0_pay2 v0)) r g
  rw [f32_bot] at hp
  generalize hP : (show EReal from peak v0 (ValueIdx.ix2 r g)) = P
  have hp' : P = (Finset.univ : Finset (Fin 32)).fold (max : EReal → EReal → EReal) ⊥ fun x => absf (k0_pay2 v0) (ValueIdx.ix3 r g x) := hP.symm.trans hp
  have hlt : P < ((7 / 4 * (2 : ℝ) ^ (128 : ℤ) : ℝ) : EReal) := by
    rw [hp', Finset.fold_max_lt]
    refine ⟨EReal.bot_lt_coe _, fun l _ => ?_⟩
    obtain ⟨y, hy, hb⟩ := hx (ValueIdx.ix2 r ⟨g.val * 32 + l.val, by omega⟩)
    rw [hm l y hy]
    exact EReal.coe_lt_coe_iff.2 hb
  have hge : ∀ (l : Fin 32) (y : ℝ), v0 (ValueIdx.ix2 r ⟨g.val * 32 + l.val, by omega⟩) = (y : EReal) → ((|y| : ℝ) : EReal) ≤ P := by
    intro l y h
    rw [hp', Finset.le_fold_max]
    exact .inr ⟨l, Finset.mem_univ _, (hm l y h).ge⟩
  obtain ⟨y0, hy0, -⟩ := hx (ValueIdx.ix2 r ⟨g.val * 32 + (0 : Fin 32).val, by omega⟩)
  have h0 := hge 0 y0 hy0
  induction P using EReal.rec with
  | bot => exact absurd h0 (not_le.2 (EReal.bot_lt_coe _))
  | top => exact absurd hlt (not_lt.2 le_top)
  | coe A =>
    exact ⟨A, hP, (abs_nonneg y0).trans (EReal.coe_le_coe_iff.1 h0), EReal.coe_lt_coe_iff.1 hlt, fun l y h => EReal.coe_le_coe_iff.1 (hge l y h)⟩

theorem small_int : ∀ i : Fin 254, (BitVec.ofNat 32 i.val).toInt = (i.val : ℤ) := by decide +kernel

theorem test_val (A : FVec Ideal S32768x44 .f32) (r : Fin 32768) (g : Fin 44) (a : ℝ) (h : A (ValueIdx.ix2 r g) = (a : EReal)) (i : Fin 254) :
    (tests A (ValueIdx.ix3 r g i)).toNat = if (2 : ℝ) ^ ((i.val : ℤ) - 126) ≤ a * (9586981 / 2 ^ 32) then 1 else 0 := by
  unfold tests
  rw [test_read, h, f32_126, f32_recip]
  have e1 : (show EReal from FloatOps.exp2 (F := Ideal) (φ := .f32) ((show EReal from FloatOps.sitofp (F := Ideal) .f32 (BitVec.ofNat 32 i.val)) - ((126 : ℝ) : EReal) : EReal)) = (((2 : ℝ) ^ ((i.val : ℤ) - 126) : ℝ) : EReal) := by
    rw [← exp2_int]
    have e0 : (((((BitVec.ofNat 32 i.val).toInt : ℝ)) : EReal) - ((126 : ℝ) : EReal) : EReal) = ((((i.val : ℤ) - 126 : ℤ) : ℝ) : EReal) := by
      rw [small_int, ← EReal.coe_sub]
      congr 1
      push_cast
      rfl
    exact congrArg (fun q : EReal => FloatOps.exp2 (F := Ideal) (φ := .f32) q) e0
  rw [e1]
  have e2 : ((show EReal from (a : EReal)) * ((9586981 / 2 ^ 32 : ℝ) : EReal)) = ((a * (9586981 / 2 ^ 32) : ℝ) : EReal) := (EReal.coe_mul _ _).symm
  rw [e2]
  simp only [EReal.coe_le_coe_iff]
  by_cases hc : (2 : ℝ) ^ ((i.val : ℤ) - 126) ≤ a * (9586981 / 2 ^ 32)
  · rw [decide_eq_true hc, if_pos hc]; rfl
  · rw [decide_eq_false hc, if_neg hc]; rfl

theorem bit_le : ∀ b : BitVec 1, (BitVec.setWidth 32 b).toNat ≤ 1 := by decide

theorem test_le (A : FVec Ideal S32768x44 .f32) (j) : (tests A j).toNat ≤ 1 := by
  unfold tests
  exact bit_le _

/-- The scale of a group: a power of two large enough for all its entries. -/
theorem scale_val {v0 : Vec Ideal S32768x1408 .bf16} (hx : Bounded v0) (r : Fin 32768) (g : Fin 44) :
    ∃ i : Fin 255, k0_pay3 v0 (ValueIdx.ix2 r g) = BitVec.ofInt 32 ((i.val : ℤ) - 126)
      ∧ ∀ (l : Fin 32) (y : ℝ), v0 (ValueIdx.ix2 r ⟨g.val * 32 + l.val, by omega⟩) = (y : EReal) → |y| ≤ 448 * (2 : ℝ) ^ ((i.val : ℤ) - 126) := by
  obtain ⟨A, hA, h0, h1, hl⟩ := peak_val hx r g
  rw [pay3_apply]
  by_cases hz : A = 0
  · refine ⟨126, ?_, fun l y h => ?_⟩
    · have e : FloatOps.cmpf (F := Ideal) .oeq (peak v0 (ValueIdx.ix2 r g)) (Scalar.ofBits .f32 0x00000000#32) = 1#1 := by
        rw [hA, hz]
        show BitVec.ofBool (decide ((((0 : ℝ) : EReal)) = Ideal.ofBits .f32 0x00000000#32)) = 1#1
        rw [Ideal.ofBits_zero]
        simp
      rw [e]
      exact (if_pos (show (1#1 : BitVec 1) = 1#1 from rfl)).trans (by decide)
    · have := hl l y h
      rw [hz] at this
      exact this.trans (by positivity)
  · have hc : counts (tests (peak v0)) (ValueIdx.ix2 r g) = BitVec.ofNat 32 (reach (A * (9586981 / 2 ^ 32))) := by
      apply BitVec.eq_of_toNat_eq
      rw [BitVec.toNat_ofNat, Nat.mod_eq_of_lt (lt_of_le_of_lt (reach_le _) (by norm_num))]
      refine (count_read _ (test_le _) r g).trans ?_
      unfold reach
      exact Finset.sum_congr rfl fun i _ => test_val _ r g A hA i
    have hr := reach_le (A * (9586981 / 2 ^ 32))
    refine ⟨⟨reach (A * (9586981 / 2 ^ 32)), by omega⟩, ?_, fun l y h => (hl l y h).trans (reach_bound A _ (by norm_num) h0 h1)⟩
    have e : FloatOps.cmpf (F := Ideal) .oeq (peak v0 (ValueIdx.ix2 r g)) (Scalar.ofBits .f32 0x00000000#32) = 0#1 := by
      rw [hA]
      show BitVec.ofBool (decide (((A : ℝ) : EReal) = Ideal.ofBits .f32 0x00000000#32)) = 0#1
      rw [Ideal.ofBits_zero, decide_eq_false (fun h => hz (EReal.coe_eq_zero.1 h))]
      rfl
    rw [e, hc, word_count ⟨_, by omega⟩]
    rfl

theorem pay5_apply (v0 : Vec Ideal S32768x1408 .bf16) (r : Fin 32768) (k : Fin 1408) :
    k0_pay5 v0 (ValueIdx.ix2 r k) = (min (Ideal.ofBits FTy.f32 1138753536#32) (max (Ideal.ofBits FTy.f32 3286237184#32)
        ((show EReal from k0_pay2 v0 (ValueIdx.ix3 r ⟨k.val / 32, by omega⟩ ⟨k.val % 32, by omega⟩)) * (show EReal from FloatOps.exp2 (F := Ideal) (φ := .f32) ((0 : EReal) - (show EReal from FloatOps.sitofp (F := Ideal) .f32 (k0_pay3 v0 (ValueIdx.ix2 r ⟨k.val / 32, by omega⟩))) : EReal)))) : EReal) := by
  pointwise [k0_pay5]
  rfl

theorem pay4_apply (v0 : Vec Ideal S32768x1408 .bf16) (r : Fin 32768) (g : Fin 44) :
    k0_pay4 v0 (ValueIdx.ix2 r g) = FloatOps.exp2 (F := Ideal) (φ := .f32) (FloatOps.sitofp .f32 (IntOp.subi (BitVec.setWidth 32 (BitVec.setWidth 8 (IntOp.addi (k0_pay3 v0 (ValueIdx.ix2 r g)) 127#32))) 127#32)) := by
  pointwise [k0_pay4]

/-- A code times its scale is the number it came from. -/
theorem code_scale {v0 : Vec Ideal S32768x1408 .bf16} (hx : Bounded v0) (r : Fin 32768) (k : Fin 1408) :
    (show EReal from k0_pay5 v0 (ValueIdx.ix2 r k)) * (show EReal from k0_pay4 v0 (ValueIdx.ix2 r ⟨k.val / 32, by omega⟩)) = v0 (ValueIdx.ix2 r k) := by
  obtain ⟨i, hi, hb⟩ := scale_val hx r ⟨k.val / 32, by omega⟩
  have hk : (⟨k.val / 32 * 32 + k.val % 32, by omega⟩ : Fin 1408) = k := Fin.ext (by show k.val / 32 * 32 + k.val % 32 = k.val; omega)
  obtain ⟨y, hy, -⟩ := hx (ValueIdx.ix2 r k)
  have hb' := hb ⟨k.val % 32, by omega⟩ y (by rw [← hy]; exact congrArg (fun q => v0 (ValueIdx.ix2 r q)) hk)
  rw [pay5_apply, pay4_apply, pay2_apply]
  rw [show v0 (ValueIdx.ix2 r ⟨k.val / 32 * 32 + k.val % 32, by omega⟩) = (y : EReal) from (congrArg (fun q => v0 (ValueIdx.ix2 r q)) hk).trans hy, hy]
  exact undo y i hb' _ hi

theorem pay1_apply (v44 : FVec Ideal S32768x44 .bf16) (v45 : FVec Ideal S32768x1408 .bf16) (v51 : Vec Ideal S64x2816x1408 .fp8e4m3) (v52 : Vec Ideal S64x2816x44 .i8) (v66 : Vec Ideal S1x64 .i32) (v68 : Vec Ideal S1x64 .i32) (r : Fin 32768) (n : Fin 2816) :
    k0_pay1 v44 v45 v51 v52 v66 v68 (ValueIdx.ix2 r n) = ∑ x : Fin 64,
      Scalar.select
        (IntOp.andi
          (IntOp.cmpi CmpIPredicate.sge (BitVec.ofNat 32 r.val) (IntOp.subi (v66 (ValueIdx.ix2 0 x)) (v68 (ValueIdx.ix2 0 x))))
          (IntOp.cmpi CmpIPredicate.slt (BitVec.ofNat 32 r.val) (v66 (ValueIdx.ix2 0 x))))
        (∑ k : Fin 1408, (show EReal from v45 (ValueIdx.ix2 r k)) * (show EReal from v44 (ValueIdx.ix2 r ⟨k.val / 32, by omega⟩)) *
            ((show EReal from v51 (ValueIdx.ix3 x n k)) * (show EReal from FloatOps.exp2 (F := Ideal) (φ := .f32)
                (FloatOps.sitofp .f32 (IntOp.subi (BitVec.setWidth 32 (v52 (ValueIdx.ix3 x n ⟨k.val / 32, by omega⟩))) 127#32)))) : EReal)
        (0 : EReal) := by
  pointwise [k0_pay1]
  rfl

theorem byte_int : ∀ b : BitVec 8, (IntOp.subi (BitVec.setWidth 32 b) 127#32).toInt = (b.toNat : ℤ) - 127 := by decide +kernel

theorem own_word {a b n r : ℕ} (ha : a + n = b) (hb : b ≤ 32768) (hr : r < 32768) :
    IntOp.andi (IntOp.cmpi CmpIPredicate.sge (BitVec.ofNat 32 r) (IntOp.subi (BitVec.ofNat 32 b) (BitVec.ofNat 32 n)))
      (IntOp.cmpi CmpIPredicate.slt (BitVec.ofNat 32 r) (BitVec.ofNat 32 b)) = if a ≤ r ∧ r < b then 1#1 else 0#1 := by
  have e : IntOp.subi (BitVec.ofNat 32 b) (BitVec.ofNat 32 n) = BitVec.ofNat 32 a := by
    apply BitVec.eq_of_toNat_eq
    show (BitVec.ofNat 32 b - BitVec.ofNat 32 n).toNat = _
    rw [BitVec.toNat_sub, BitVec.toNat_ofNat, BitVec.toNat_ofNat, BitVec.toNat_ofNat]
    omega
  rw [e]
  have ti : ∀ q : ℕ, q ≤ 32768 → (BitVec.ofNat 32 q).toInt = (q : ℤ) := fun q hq => by
    rw [BitVec.toInt_eq_toNat_cond, BitVec.toNat_ofNat, Nat.mod_eq_of_lt (by omega), if_pos (by omega)]
  show IntOp.andi (BitVec.ofBool ((BitVec.ofNat 32 a).sle (BitVec.ofNat 32 r))) (BitVec.ofBool ((BitVec.ofNat 32 r).slt (BitVec.ofNat 32 b))) = _
  rw [BitVec.sle_eq_decide, BitVec.slt_eq_decide, ti a (by omega), ti r (by omega), ti b hb]
  by_cases h1 : a ≤ r <;> by_cases h2 : r < b <;> simp [h1, h2] <;> decide

/-- The row of the result: the row of the tokens against the rows of its owner's weights. -/
theorem ref_value {x : Vec Ideal S32768x1408 .bf16} (hx : Bounded x) (w : Vec Ideal S64x2816x1408 .fp8e4m3) (s : Vec Ideal S64x2816x44 .i8) (gs ends : Vec Ideal S1x64 .i32)
    (n : ℕ → ℕ) (hS : WorkList.S n 64 = 32768) (hg : ∀ e : Fin 64, gs (ValueIdx.ix2 0 e) = BitVec.ofNat 32 (n e.val)) (he : ∀ e : Fin 64, ends (ValueIdx.ix2 0 e) = BitVec.ofNat 32 (WorkList.S n (e.val + 1)))
    (r : Fin 32768) (c : Fin 2816) (e : Fin 64) (h1 : WorkList.S n e.val ≤ r.val) (h2 : r.val < WorkList.S n (e.val + 1)) :
    k0_pay1 (k0_pay4 x) (k0_pay5 x) w s ends gs (ValueIdx.ix2 r c)
      = (∑ k : Fin 1408, (show EReal from x (ValueIdx.ix2 r k)) * ((show EReal from w (ValueIdx.ix3 e c k))
          * (((2 : ℝ) ^ (((s (ValueIdx.ix3 e c ⟨k.val / 32, by omega⟩)).toNat : ℤ) - 127) : ℝ) : EReal)) : EReal) := by
  rw [pay1_apply]
  have hsel : ∀ q : Fin 64, IntOp.andi (IntOp.cmpi CmpIPredicate.sge (BitVec.ofNat 32 r.val) (IntOp.subi (ends (ValueIdx.ix2 0 q)) (gs (ValueIdx.ix2 0 q))))
          (IntOp.cmpi CmpIPredicate.slt (BitVec.ofNat 32 r.val) (ends (ValueIdx.ix2 0 q))) = if q = e then 1#1 else 0#1 := by
    intro q
    rw [hg, he, own_word (a := WorkList.S n q.val) (WorkList.S_succ n q.val).symm (WorkList.S_le hS (by omega)) r.isLt]
    by_cases hq : q = e
    · subst hq; rw [if_pos ⟨h1, h2⟩, if_pos rfl]
    · rw [if_neg hq, if_neg fun h => hq (Fin.ext (WorkList.owner_unique n h.1 h.2 h1 h2))]
  rw [Finset.sum_eq_single_of_mem e (Finset.mem_univ _)]
  · rw [hsel, if_pos rfl]
    refine (if_pos (show (1#1 : BitVec 1) = 1#1 from rfl)).trans (Finset.sum_congr rfl fun k _ => ?_)
    rw [code_scale hx, exp2_word, byte_int]
  · intro q _ hq
    rw [hsel, if_neg hq]
    exact if_neg (by decide)

end Cert.ReferenceIdeal.Gen
-- ==== Proof.RefFinal.lean ====
/- What the reference leaves in the result array. -/
module

public import proofs.«01_k».proof.Proof.RefPoint
public import proofs.«01_k».proof.Proof.Gen.ReferenceIdeal.Value
public import Idealize.ShloMosaic.Lib.Routing.Words
public import Idealize.ShloMosaic.Lib.StableHlo.ReadAt
public import Idealize.ShloMosaic.Lib.StableHlo.RunRead
public import Idealize.ShloMosaic.Lib.Routing.OpsSet
public import Idealize.ShloMosaic.Lib.Routing.OpsSearch

@[expose] public section

set_option maxRecDepth 16384

noncomputable section

namespace Cert.ReferenceIdeal.Gen

open Idealize.ShloMosaic hiding ix1 ix2 ix3
open Idealize.ShloMosaic.TcCoe Idealize.ShloMosaic.Tactic Idealize.SL.Sem Cert.ReferenceIdeal
open Idealize.ShloMosaic.Routing

variable (m : (ℓ : Loc nD τ sig) → Buf (Elt Ideal) ℓ) (ρ : Dev nD → PrngReg)

set_option maxHeartbeats 4000000 in
/-- The group sizes as a row. -/
theorem V_sizes : V m 0 main_v1 = (shapeCast S1x64 (show IVec S64 32 from m (0, main_arg1)) shapeCasts_S64_S1x64 : IVec S1x64 32) := by
  unfold V
  unfold_abbrev_sides
  after_reads_simp
  try simp -implicitDefEqProofs only [StableHlo.TRef.toBuf, StableHlo.TRef.ofBuf, cast_cast, cast_eq]
  first | done | rfl

set_option maxHeartbeats 4000000 in
/-- Their running totals as a row. -/
theorem V_ends : V m 0 main_v2 = (shapeCast S1x64 (Host.reduceWindow IntOp.addi ![64] ![1] ![63] ![0] (show IVec S64 32 from m (0, main_arg1)) (broadcastInDim S_ ![] bcast_S_S_ (constantI S_ 32 0#32)) reduceWindows_S64_S64_w64s1p63_0 h_S_) shapeCasts_S64_S1x64 : IVec S1x64 32) := by
  unfold V
  unfold_abbrev_sides
  after_reads_simp
  try simp -implicitDefEqProofs only [StableHlo.TRef.toBuf, StableHlo.TRef.ofBuf, cast_cast, cast_eq]
  first | done | rfl

theorem index_zero : ∀ (w : Fin cfg0.W) (t : Fin cfg0.N) (a), (cfg0.win w).index t a = 0 :=
  (by decide +kernel : ∀ (w : Fin 6) (t : Fin grid0.N) (a : Fin (cfg0.win w).shape.rank), (cfg0.win w).index t a = 0)

theorem iblk0 (t : Fin cfg0.N) : iblk m 0 0 t = V m 0 main_v1 := by
  funext y
  exact congrArg (V m 0 main_v1) (funext fun a => Fin.ext (Pipeline.Window.rect_emb_val_of_index_zero (cfg0.win 0) t a (index_zero 0 t a) y))
theorem iblk1 (t : Fin cfg0.N) : iblk m 0 1 t = V m 0 main_v2 := by
  funext y
  exact congrArg (V m 0 main_v2) (funext fun a => Fin.ext (Pipeline.Window.rect_emb_val_of_index_zero (cfg0.win 1) t a (index_zero 1 t a) y))
theorem iblk2 (t : Fin cfg0.N) : iblk m 0 2 t = V m 0 main_arg0 := by
  funext y
  exact congrArg (V m 0 main_arg0) (funext fun a => Fin.ext (Pipeline.Window.rect_emb_val_of_index_zero (cfg0.win 2) t a (index_zero 2 t a) y))
theorem iblk3 (t : Fin cfg0.N) : iblk m 0 3 t = V m 0 main_arg2 := by
  funext y
  exact congrArg (V m 0 main_arg2) (funext fun a => Fin.ext (Pipeline.Window.rect_emb_val_of_index_zero (cfg0.win 3) t a (index_zero 3 t a) y))
theorem iblk4 (t : Fin cfg0.N) : iblk m 0 4 t = V m 0 main_arg3 := by
  funext y
  exact congrArg (V m 0 main_arg3) (funext fun a => Fin.ext (Pipeline.Window.rect_emb_val_of_index_zero (cfg0.win 4) t a (index_zero 4 t a) y))

theorem z2 : (![0, 0] : Fin 2 → ℕ) = fun _ => 0 := by
  funext a; match a with
  | ⟨0, _⟩ => rfl
  | ⟨1, _⟩ => rfl
theorem z3 : (![0, 0, 0] : Fin 3 → ℕ) = fun _ => 0 := by
  funext a; match a with
  | ⟨0, _⟩ => rfl
  | ⟨1, _⟩ => rfl
  | ⟨2, _⟩ => rfl

theorem out_eq (x0 x1 : Vec Ideal S1x64 .i32) (x2 : Vec Ideal S32768x1408 .bf16) (x3 : Vec Ideal S64x2816x1408 .fp8e4m3) (x4 : Vec Ideal S64x2816x44 .i8) :
    out0_5 x0 x1 x2 x3 x4 = k0_pay1 (k0_pay4 x2) (k0_pay5 x2) x3 x4 x1 x0 := by
  unfold out0_5
  refine (View.canon_cons_unit_zero z2 _ _ _).trans ?_
  rw [View.ld_unit_zero z2, View.ld_unit_zero z3, View.ld_unit_zero z3, View.ld_unit_zero z2, View.ld_unit_zero z2]

/-- The result array after the run, at an index. -/
theorem final_apply (y : S32768x2816.Idx) :
    (show Vec Ideal S32768x2816 .bf16 from (dats m 0 0).arrAt 5 cfg0.N) y
      = k0_pay1 (k0_pay4 (V m 0 main_arg0)) (k0_pay5 (V m 0 main_arg0)) (V m 0 main_arg2) (V m 0 main_arg3) (V m 0 main_v2) (V m 0 main_v1) y := by
  have t0 : Fin cfg0.N := ⟨0, by decide⟩
  have hf : (cfg0.win 5).flush t0 = true := flush0_5 t0
  have h := Pipeline.Dat.arrAt_emb_eq_flushed (dats m 0 0) 5 Value.disjoint5 t0 hf y
  have he : ((cfg0.win 5).blk t0).view.emb y = y := funext fun a => Fin.ext (Pipeline.Window.rect_emb_val_of_index_zero (cfg0.win 5) t0 a (index_zero 5 t0 a) y)
  rw [he, Value.flushed5, iblk0, iblk1, iblk2, iblk3, iblk4, out_eq] at h
  exact h

variable {n : ℕ → ℕ} (hg : ∀ e : Fin 64, (show IVec S64 32 from m (0, main_arg1)) (ValueIdx.ix1 e) = BitVec.ofNat 32 (n e.val)) (hn : WorkList.S n 64 = 32768)
include hg

theorem row_idx {f : IVec S64 32} (e : Fin 64) : (shapeCast S1x64 f shapeCasts_S64_S1x64 : IVec S1x64 32) (ValueIdx.ix2 0 e) = f (ValueIdx.ix1 e) := by
  pointwise []
  exact congrArg f (funext fun a => Fin.ext (by obtain rfl : a = 0 := Subsingleton.elim (α := Fin 1) _ _; rfl))

theorem sizes_apply (e : Fin 64) : (show IVec S1x64 32 from V m 0 main_v1) (ValueIdx.ix2 0 e) = BitVec.ofNat 32 (n e.val) := by
  rw [V_sizes]
  exact (row_idx m hg e).trans (hg e)

theorem ends_apply (e : Fin 64) : (show IVec S1x64 32 from V m 0 main_v2) (ValueIdx.ix2 0 e) = BitVec.ofNat 32 (WorkList.S n (e.val + 1)) := by
  rw [V_ends, WorkList.S_def]
  exact (row_idx m hg e).trans (cumsum1 (N := 64) (Nm1 := 63) rfl _ n hg (broadcastInDim S_ ![] bcast_S_S_ (constantI S_ 32 0#32)) rfl _ _ e)

include hn in
/-- The result array, at a row and a column: the row of the tokens against its owner's weights. -/
theorem final_value (hx : Bounded (show Vec Ideal S32768x1408 .bf16 from m (0, main_arg0))) (r : Fin 32768) (c : Fin 2816) (e : Fin 64)
    (h1 : WorkList.S n e.val ≤ r.val) (h2 : r.val < WorkList.S n (e.val + 1)) :
    (show EReal from (show Vec Ideal S32768x2816 .bf16 from (dats m 0 0).arrAt 5 cfg0.N) (ValueIdx.ix2 r c))
      = (∑ k : Fin 1408, (show EReal from (show Vec Ideal S32768x1408 .bf16 from m (0, main_arg0)) (ValueIdx.ix2 r k)) * ((show EReal from (show Vec Ideal S64x2816x1408 .fp8e4m3 from m (0, main_arg2)) (ValueIdx.ix3 e c k))
          * (((2 : ℝ) ^ ((((show Vec Ideal S64x2816x44 .i8 from m (0, main_arg3)) (ValueIdx.ix3 e c ⟨k.val / 32, by omega⟩)).toNat : ℤ) - 127) : ℝ) : EReal)) : EReal) := by
  refine (final_apply m _).trans ?_
  rw [V_main_arg0, V_main_arg2, V_main_arg3]
  exact ref_value hx _ _ _ _ n hn (sizes_apply m hg) (ends_apply m hg) r c e h1 h2

end Cert.ReferenceIdeal.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Value
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_valid
public import proofs.«01_k».proof.Proof.KernelFrame
public import proofs.«01_k».proof.Proof.Frame
public import proofs.«01_k».proof.Proof.Pre
public import proofs.«01_k».proof.Proof.Final
public import proofs.«01_k».proof.Proof.Bound
public import proofs.«01_k».proof.Proof.RefFinal
public import Idealize.ShloMosaic.Adequacy
public import Idealize.ShloMosaic.Init

@[expose] public section

noncomputable section

namespace Cert.Proof

open Idealize.ShloMosaic Idealize.SL.Sem Cert.Kernel

attribute [local instance] Cert.Pre_valid.Gen.facts

/-- At the accepted arrays the group sizes are naturals whose total is the row count, which is all the frames need. -/
theorem frame_Kernel : Cert.quiescent_Kernel (hKernel := Cert.Kernel.Gen.facts) (hPre_valid := Cert.Pre_valid.Gen.facts) := by
  intro m ρ h
  obtain ⟨_, ⟨n, hg, hn⟩, _⟩ := Cert.Pre_valid.decode _ _ _ _ (h 0)
  exact Cert.Kernel.Gen.frame m ρ hg hn

/-- The same for the ideal program. -/
theorem frame_KernelIdeal : Cert.quiescent_KernelIdeal (hKernelIdeal := Cert.KernelIdeal.Gen.facts) (hPre_valid := Cert.Pre_valid.Gen.facts) := by
  intro m ρ h
  obtain ⟨_, ⟨n, hg, hn⟩, _⟩ := Cert.Pre_valid.decode _ _ _ _ (h 0)
  exact Cert.KernelIdeal.Gen.frame m ρ hg hn

/-- Both programs leave, in every row, the row of the tokens against its owner's weights. -/
theorem algebraic_value : Cert.algebraic_KernelIdeal_ReferenceIdeal (hKernelIdeal := Cert.KernelIdeal.Gen.facts) (hReferenceIdeal := Cert.ReferenceIdeal.Gen.facts) (hPre_valid := Cert.Pre_valid.Gen.facts) := by
  intro m ρ m' ρ' h hm
  obtain ⟨hx, ⟨n, hg, hn⟩, hs⟩ := Cert.Pre_valid.decode _ _ _ _ (h 0)
  have hx' := Cert.Pre_valid.small _ hx
  obtain ⟨e0, e1, e2, e3⟩ := hm 0
  have key := Cert.KernelIdeal.Gen.run_value m ρ hg hn hx' hs
  have keyR := Cert.ReferenceIdeal.Value.run_blocks m' ρ'
  refine ⟨fun c => (Cert.ReferenceIdeal.Gen.dats m' 0 0).arrAt 5 Cert.ReferenceIdeal.cfg0.N, ?_, ?_⟩
  · refine (θ_run _ _ _).mono (fun r hr c => ⟨?_, hr.2 c⟩) key
    obtain rfl : c = 0 := Subsingleton.elim (α := Fin 1) _ _
    funext y
    have hy : y = ValueIdx.ix2 (y (0 : Fin 2) : Fin 32768) (y (1 : Fin 2) : Fin 2816) := by
      refine funext fun a => ?_
      revert a; intro (a : Fin 2)
      match a with
      | ⟨0, _⟩ => rfl
      | ⟨1, _⟩ => rfl
    obtain ⟨e, he, h1, h2⟩ := Cert.WorkList.owner n hn (y (0 : Fin 2)).isLt
    rw [hy]
    refine (hr.1 (y (0 : Fin 2)) (y (1 : Fin 2)) ⟨e, he⟩ ⟨h1, h2⟩).trans ?_
    refine Eq.trans ?_ (Cert.ReferenceIdeal.Gen.final_value m' (n := n) (fun e => (congrFun e1 _).trans (hg e)) hn (fun j => by
      obtain ⟨z, hz, hb⟩ := hx' j
      exact ⟨z, (congrFun e0 j).trans hz, hb⟩) (y (0 : Fin 2)) (y (1 : Fin 2)) ⟨e, he⟩ h1 h2).symm
    unfold Cert.KernelIdeal.Gen.Res
    refine Finset.sum_congr rfl fun k _ => ?_
    refine congrArg₂ (· * ·) (congrFun e0 _).symm (congrArg₂ (· * ·) (congrFun e2 _).symm ?_)
    exact congrArg (fun b : BitVec 8 => (((2 : ℝ) ^ ((b.toNat : ℤ) - 127) : ℝ) : EReal)) (congrFun e3 _).symm
  · refine (θ_run _ _ _).mono (fun r hr c => ?_) keyR
    obtain rfl : c = 0 := Subsingleton.elim (α := Fin 1) _ _
    exact hr 0

theorem claim : Cert.Claim := ⟨Cert.Kernel.Gen.facts, Cert.KernelIdeal.Gen.facts, Cert.ReferenceIdeal.Gen.facts, Cert.Pre_valid.Gen.facts,
  frame_Kernel, frame_KernelIdeal, fun m ρ _ => Cert.ReferenceIdeal.Gen.frame m ρ, fun m ρ _ => Cert.ReferenceIdeal.Gen.frame m ρ, trivial, algebraic_value⟩

end Cert.Proof

end
